-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2 = (fun _ => 1#1)

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10)
      ∧ r.2.mem ((c.tc : Thread Cert.Mix.nD Cert.Mix.τ).loc Cert.Mix.main_arg11) = m ((c.tc : Thread Cert.Mix.nD Cert.Mix.τ).loc Cert.Mix.main_arg11)
      ∧ r.2.mem ((c.tc : Thread Cert.Mix.nD Cert.Mix.τ).loc Cert.Mix.main_arg12) = m ((c.tc : Thread Cert.Mix.nD Cert.Mix.τ).loc Cert.Mix.main_arg12)
      ∧ r.2.mem ((c.tc : Thread Cert.Mix.nD Cert.Mix.τ).loc Cert.Mix.main_arg13) = m ((c.tc : Thread Cert.Mix.nD Cert.Mix.τ).loc Cert.Mix.main_arg13)
      ∧ r.2.mem ((c.tc : Thread Cert.Mix.nD Cert.Mix.τ).loc Cert.Mix.main_arg14) = m ((c.tc : Thread Cert.Mix.nD Cert.Mix.τ).loc Cert.Mix.main_arg14)
      ∧ r.2.mem ((c.tc : Thread Cert.Mix.nD Cert.Mix.τ).loc Cert.Mix.main_arg15) = m ((c.tc : Thread Cert.Mix.nD Cert.Mix.τ).loc Cert.Mix.main_arg15))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
      ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
      ∧ r.2.mem ((c.tc : Thread Cert.MixIdeal.nD Cert.MixIdeal.τ).loc Cert.MixIdeal.main_arg13) = m ((c.tc : Thread Cert.MixIdeal.nD Cert.MixIdeal.τ).loc Cert.MixIdeal.main_arg13)
      ∧ r.2.mem ((c.tc : Thread Cert.MixIdeal.nD Cert.MixIdeal.τ).loc Cert.MixIdeal.main_arg14) = m ((c.tc : Thread Cert.MixIdeal.nD Cert.MixIdeal.τ).loc Cert.MixIdeal.main_arg14)
      ∧ r.2.mem ((c.tc : Thread Cert.MixIdeal.nD Cert.MixIdeal.τ).loc Cert.MixIdeal.main_arg15) = m ((c.tc : Thread Cert.MixIdeal.nD Cert.MixIdeal.τ).loc Cert.MixIdeal.main_arg15))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7)
      ∧ r.2.mem ((c.tc : Thread Cert.MixReferenceIdeal.nD Cert.MixReferenceIdeal.τ).loc Cert.MixReferenceIdeal.main_arg8) = m ((c.tc : Thread Cert.MixReferenceIdeal.nD Cert.MixReferenceIdeal.τ).loc Cert.MixReferenceIdeal.main_arg8)
      ∧ r.2.mem ((c.tc : Thread Cert.MixReferenceIdeal.nD Cert.MixReferenceIdeal.τ).loc Cert.MixReferenceIdeal.main_arg9) = m ((c.tc : Thread Cert.MixReferenceIdeal.nD Cert.MixReferenceIdeal.τ).loc Cert.MixReferenceIdeal.main_arg9)
      ∧ r.2.mem ((c.tc : Thread Cert.MixReferenceIdeal.nD Cert.MixReferenceIdeal.τ).loc Cert.MixReferenceIdeal.main_arg10) = m ((c.tc : Thread Cert.MixReferenceIdeal.nD Cert.MixReferenceIdeal.τ).loc Cert.MixReferenceIdeal.main_arg10)
      ∧ r.2.mem ((c.tc : Thread Cert.MixReferenceIdeal.nD Cert.MixReferenceIdeal.τ).loc Cert.MixReferenceIdeal.main_arg11) = m ((c.tc : Thread Cert.MixReferenceIdeal.nD Cert.MixReferenceIdeal.τ).loc Cert.MixReferenceIdeal.main_arg11)
      ∧ r.2.mem ((c.tc : Thread Cert.MixReferenceIdeal.nD Cert.MixReferenceIdeal.τ).loc Cert.MixReferenceIdeal.main_arg12) = m ((c.tc : Thread Cert.MixReferenceIdeal.nD Cert.MixReferenceIdeal.τ).loc Cert.MixReferenceIdeal.main_arg12)
      ∧ r.2.mem ((c.tc : Thread Cert.MixReferenceIdeal.nD Cert.MixReferenceIdeal.τ).loc Cert.MixReferenceIdeal.main_arg13) = m ((c.tc : Thread Cert.MixReferenceIdeal.nD Cert.MixReferenceIdeal.τ).loc Cert.MixReferenceIdeal.main_arg13)
      ∧ r.2.mem ((c.tc : Thread Cert.MixReferenceIdeal.nD Cert.MixReferenceIdeal.τ).loc Cert.MixReferenceIdeal.main_arg14) = m ((c.tc : Thread Cert.MixReferenceIdeal.nD Cert.MixReferenceIdeal.τ).loc Cert.MixReferenceIdeal.main_arg14)
      ∧ r.2.mem ((c.tc : Thread Cert.MixReferenceIdeal.nD Cert.MixReferenceIdeal.τ).loc Cert.MixReferenceIdeal.main_arg15) = m ((c.tc : Thread Cert.MixReferenceIdeal.nD Cert.MixReferenceIdeal.τ).loc Cert.MixReferenceIdeal.main_arg15))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v28_0)) (v1 : (c : Dev Cert.KernelIdeal.nD) → Buf (Elt Ideal) ((c.tc : Thread Cert.KernelIdeal.nD Cert.KernelIdeal.τ).loc Cert.KernelIdeal.main_v28_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28_0) = v0 c
          ∧ r.2.mem ((c.tc : Thread Cert.KernelIdeal.nD Cert.KernelIdeal.τ).loc Cert.KernelIdeal.main_v28_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Mix_MixIdeal : Prop :=
  True

def algebraic_MixIdeal_MixReferenceIdeal [hMixIdeal : Cert.MixIdeal.Facts] [hMixReferenceIdeal : Cert.MixReferenceIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)
      ∧ m' ((c.tc : Thread Cert.MixReferenceIdeal.nD Cert.MixReferenceIdeal.τ).loc Cert.MixReferenceIdeal.main_arg3) = m ((c.tc : Thread Cert.MixIdeal.nD Cert.MixIdeal.τ).loc Cert.MixIdeal.main_arg3)
      ∧ m' ((c.tc : Thread Cert.MixReferenceIdeal.nD Cert.MixReferenceIdeal.τ).loc Cert.MixReferenceIdeal.main_arg4) = m ((c.tc : Thread Cert.MixIdeal.nD Cert.MixIdeal.τ).loc Cert.MixIdeal.main_arg4)
      ∧ m' ((c.tc : Thread Cert.MixReferenceIdeal.nD Cert.MixReferenceIdeal.τ).loc Cert.MixReferenceIdeal.main_arg5) = m ((c.tc : Thread Cert.MixIdeal.nD Cert.MixIdeal.τ).loc Cert.MixIdeal.main_arg5)
      ∧ m' ((c.tc : Thread Cert.MixReferenceIdeal.nD Cert.MixReferenceIdeal.τ).loc Cert.MixReferenceIdeal.main_arg6) = m ((c.tc : Thread Cert.MixIdeal.nD Cert.MixIdeal.τ).loc Cert.MixIdeal.main_arg6)
      ∧ m' ((c.tc : Thread Cert.MixReferenceIdeal.nD Cert.MixReferenceIdeal.τ).loc Cert.MixReferenceIdeal.main_arg7) = m ((c.tc : Thread Cert.MixIdeal.nD Cert.MixIdeal.τ).loc Cert.MixIdeal.main_arg7)
      ∧ m' ((c.tc : Thread Cert.MixReferenceIdeal.nD Cert.MixReferenceIdeal.τ).loc Cert.MixReferenceIdeal.main_arg8) = m ((c.tc : Thread Cert.MixIdeal.nD Cert.MixIdeal.τ).loc Cert.MixIdeal.main_arg8)
      ∧ m' ((c.tc : Thread Cert.MixReferenceIdeal.nD Cert.MixReferenceIdeal.τ).loc Cert.MixReferenceIdeal.main_arg9) = m ((c.tc : Thread Cert.MixIdeal.nD Cert.MixIdeal.τ).loc Cert.MixIdeal.main_arg9)
      ∧ m' ((c.tc : Thread Cert.MixReferenceIdeal.nD Cert.MixReferenceIdeal.τ).loc Cert.MixReferenceIdeal.main_arg10) = m ((c.tc : Thread Cert.MixIdeal.nD Cert.MixIdeal.τ).loc Cert.MixIdeal.main_arg10)
      ∧ m' ((c.tc : Thread Cert.MixReferenceIdeal.nD Cert.MixReferenceIdeal.τ).loc Cert.MixReferenceIdeal.main_arg11) = m ((c.tc : Thread Cert.MixIdeal.nD Cert.MixIdeal.τ).loc Cert.MixIdeal.main_arg11)
      ∧ m' ((c.tc : Thread Cert.MixReferenceIdeal.nD Cert.MixReferenceIdeal.τ).loc Cert.MixReferenceIdeal.main_arg12) = m ((c.tc : Thread Cert.MixIdeal.nD Cert.MixIdeal.τ).loc Cert.MixIdeal.main_arg12)
      ∧ m' ((c.tc : Thread Cert.MixReferenceIdeal.nD Cert.MixReferenceIdeal.τ).loc Cert.MixReferenceIdeal.main_arg13) = m ((c.tc : Thread Cert.MixIdeal.nD Cert.MixIdeal.τ).loc Cert.MixIdeal.main_arg13)
      ∧ m' ((c.tc : Thread Cert.MixReferenceIdeal.nD Cert.MixReferenceIdeal.τ).loc Cert.MixReferenceIdeal.main_arg14) = m ((c.tc : Thread Cert.MixIdeal.nD Cert.MixIdeal.τ).loc Cert.MixIdeal.main_arg14)
      ∧ m' ((c.tc : Thread Cert.MixReferenceIdeal.nD Cert.MixReferenceIdeal.τ).loc Cert.MixReferenceIdeal.main_arg15) = m ((c.tc : Thread Cert.MixIdeal.nD Cert.MixIdeal.τ).loc Cert.MixIdeal.main_arg15)) →
    ∃ (v0 : (c : Dev Cert.MixIdeal.nD) → Buf (Elt Ideal) ((c.tc : Thread Cert.MixIdeal.nD Cert.MixIdeal.τ).loc Cert.MixIdeal.main_v69)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v69) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
          ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
          ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
          ∧ r.2.mem ((c.tc : Thread Cert.MixIdeal.nD Cert.MixIdeal.τ).loc Cert.MixIdeal.main_arg13) = m ((c.tc : Thread Cert.MixIdeal.nD Cert.MixIdeal.τ).loc Cert.MixIdeal.main_arg13)
          ∧ r.2.mem ((c.tc : Thread Cert.MixIdeal.nD Cert.MixIdeal.τ).loc Cert.MixIdeal.main_arg14) = m ((c.tc : Thread Cert.MixIdeal.nD Cert.MixIdeal.τ).loc Cert.MixIdeal.main_arg14)
          ∧ r.2.mem ((c.tc : Thread Cert.MixIdeal.nD Cert.MixIdeal.τ).loc Cert.MixIdeal.main_arg15) = m ((c.tc : Thread Cert.MixIdeal.nD Cert.MixIdeal.τ).loc Cert.MixIdeal.main_arg15))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v238) = v0 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6)
          ∧ r.2.mem ((c.tc : Thread Cert.MixReferenceIdeal.nD Cert.MixReferenceIdeal.τ).loc Cert.MixReferenceIdeal.main_arg7) = m' ((c.tc : Thread Cert.MixReferenceIdeal.nD Cert.MixReferenceIdeal.τ).loc Cert.MixReferenceIdeal.main_arg7)
          ∧ r.2.mem ((c.tc : Thread Cert.MixReferenceIdeal.nD Cert.MixReferenceIdeal.τ).loc Cert.MixReferenceIdeal.main_arg8) = m' ((c.tc : Thread Cert.MixReferenceIdeal.nD Cert.MixReferenceIdeal.τ).loc Cert.MixReferenceIdeal.main_arg8)
          ∧ r.2.mem ((c.tc : Thread Cert.MixReferenceIdeal.nD Cert.MixReferenceIdeal.τ).loc Cert.MixReferenceIdeal.main_arg9) = m' ((c.tc : Thread Cert.MixReferenceIdeal.nD Cert.MixReferenceIdeal.τ).loc Cert.MixReferenceIdeal.main_arg9)
          ∧ r.2.mem ((c.tc : Thread Cert.MixReferenceIdeal.nD Cert.MixReferenceIdeal.τ).loc Cert.MixReferenceIdeal.main_arg10) = m' ((c.tc : Thread Cert.MixReferenceIdeal.nD Cert.MixReferenceIdeal.τ).loc Cert.MixReferenceIdeal.main_arg10)
          ∧ r.2.mem ((c.tc : Thread Cert.MixReferenceIdeal.nD Cert.MixReferenceIdeal.τ).loc Cert.MixReferenceIdeal.main_arg11) = m' ((c.tc : Thread Cert.MixReferenceIdeal.nD Cert.MixReferenceIdeal.τ).loc Cert.MixReferenceIdeal.main_arg11)
          ∧ r.2.mem ((c.tc : Thread Cert.MixReferenceIdeal.nD Cert.MixReferenceIdeal.τ).loc Cert.MixReferenceIdeal.main_arg12) = m' ((c.tc : Thread Cert.MixReferenceIdeal.nD Cert.MixReferenceIdeal.τ).loc Cert.MixReferenceIdeal.main_arg12)
          ∧ r.2.mem ((c.tc : Thread Cert.MixReferenceIdeal.nD Cert.MixReferenceIdeal.τ).loc Cert.MixReferenceIdeal.main_arg13) = m' ((c.tc : Thread Cert.MixReferenceIdeal.nD Cert.MixReferenceIdeal.τ).loc Cert.MixReferenceIdeal.main_arg13)
          ∧ r.2.mem ((c.tc : Thread Cert.MixReferenceIdeal.nD Cert.MixReferenceIdeal.τ).loc Cert.MixReferenceIdeal.main_arg14) = m' ((c.tc : Thread Cert.MixReferenceIdeal.nD Cert.MixReferenceIdeal.τ).loc Cert.MixReferenceIdeal.main_arg14)
          ∧ r.2.mem ((c.tc : Thread Cert.MixReferenceIdeal.nD Cert.MixReferenceIdeal.τ).loc Cert.MixReferenceIdeal.main_arg15) = m' ((c.tc : Thread Cert.MixReferenceIdeal.nD Cert.MixReferenceIdeal.τ).loc Cert.MixReferenceIdeal.main_arg15))

def Claim : Prop :=
  ∃ (hKernel : Cert.Kernel.Facts) (hKernelIdeal : Cert.KernelIdeal.Facts) (hReferenceIdeal : Cert.ReferenceIdeal.Facts) (hMix : Cert.Mix.Facts) (hMixIdeal : Cert.MixIdeal.Facts) (hMixReferenceIdeal : Cert.MixReferenceIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Mix (hMix := hMix)
    ∧ quiescent_MixIdeal (hMixIdeal := hMixIdeal)
    ∧ quiescent_MixReferenceIdeal (hMixReferenceIdeal := hMixReferenceIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Mix_MixIdeal
    ∧ algebraic_MixIdeal_MixReferenceIdeal (hMixIdeal := hMixIdeal) (hMixReferenceIdeal := hMixReferenceIdeal)
-- ==== Pre_finite_scores.lean ====
abbrev S16x4096x4x64 : Shape := ⟨4, ![16, 4096, 4, 64]⟩
abbrev S16x4096x4x32 : Shape := ⟨4, ![16, 4096, 4, 32]⟩
abbrev S16x4096x32 : Shape := ⟨3, ![16, 4096, 32]⟩
abbrev S16x256x4x64 : Shape := ⟨4, ![16, 256, 4, 64]⟩
abbrev S16x256x32 : Shape := ⟨3, ![16, 256, 32]⟩
abbrev S_ : Shape := ⟨0, ![]⟩

class Facts : Prop where
  bcast_S_S16x4096x4x64 : S_.BroadcastsInDim S16x4096x4x64 (![] : Fin 0 → Fin S16x4096x4x64.rank)
  bcast_S_S16x4096x4x32 : S_.BroadcastsInDim S16x4096x4x32 (![] : Fin 0 → Fin S16x4096x4x32.rank)
  bcast_S_S16x4096x32 : S_.BroadcastsInDim S16x4096x32 (![] : Fin 0 → Fin S16x4096x32.rank)
  bcast_S_S16x256x4x64 : S_.BroadcastsInDim S16x256x4x64 (![] : Fin 0 → Fin S16x256x4x64.rank)
  bcast_S_S16x256x32 : S_.BroadcastsInDim S16x256x32 (![] : Fin 0 → Fin S16x256x32.rank)

variable [Facts]

def fn {F : FTy → Type} [FloatOps F] (main_arg0 : FVec F S16x4096x4x64 .f32) (main_arg1 : FVec F S16x4096x4x32 .f32) (main_arg2 : FVec F S16x4096x4x64 .f32) (main_arg3 : FVec F S16x4096x32 .f32) (main_arg4 : FVec F S16x4096x4x64 .f32) (main_arg5 : FVec F S16x256x4x64 .f32) (main_arg6 : FVec F S16x256x32 .f32) (main_arg7 : FVec F S16x256x4x64 .f32) : IVec S16x4096x4x64 1 × IVec S16x4096x4x32 1 × IVec S16x4096x4x64 1 × IVec S16x4096x32 1 × IVec S16x256x4x64 1 × IVec S16x256x32 1 :=
  let main_v0 : FVec F S16x4096x4x64 .f32 := Host.absf main_arg0
  let main_cst : FVec F S_ .f32 := constant S_ .f32 0x7F800000#32
  let main_v1 : FVec F S16x4096x4x64 .f32 := broadcastInDim S16x4096x4x64 ![] bcast_S_S16x4096x4x64 main_cst
  let main_v2 : IVec S16x4096x4x64 1 := cmpf .olt main_v0 main_v1
  let main_v3 : FVec F S16x4096x4x32 .f32 := Host.absf main_arg1
  let main_cst_0 : FVec F S_ .f32 := constant S_ .f32 0x7F800000#32
  let main_v4 : FVec F S16x4096x4x32 .f32 := broadcastInDim S16x4096x4x32 ![] bcast_S_S16x4096x4x32 main_cst_0
  let main_v5 : IVec S16x4096x4x32 1 := cmpf .olt main_v3 main_v4
  let main_v6 : FVec F S16x4096x4x64 .f32 := Host.absf main_arg2
  let main_cst_1 : FVec F S_ .f32 := constant S_ .f32 0x7F800000#32
  let main_v7 : FVec F S16x4096x4x64 .f32 := broadcastInDim S16x4096x4x64 ![] bcast_S_S16x4096x4x64 main_cst_1
  let main_v8 : IVec S16x4096x4x64 1 := cmpf .olt main_v6 main_v7
  let main_v9 : FVec F S16x4096x32 .f32 := Host.absf main_arg3
  let main_cst_2 : FVec F S_ .f32 := constant S_ .f32 0x7F800000#32
  let main_v10 : FVec F S16x4096x32 .f32 := broadcastInDim S16x4096x32 ![] bcast_S_S16x4096x32 main_cst_2
  let main_v11 : IVec S16x4096x32 1 := cmpf .olt main_v9 main_v10
  let main_v12 : FVec F S16x256x4x64 .f32 := Host.absf main_arg5
  let main_cst_3 : FVec F S_ .f32 := constant S_ .f32 0x7F800000#32
  let main_v13 : FVec F S16x256x4x64 .f32 := broadcastInDim S16x256x4x64 ![] bcast_S_S16x256x4x64 main_cst_3
  let main_v14 : IVec S16x256x4x64 1 := cmpf .olt main_v12 main_v13
  let main_v15 : FVec F S16x256x32 .f32 := Host.absf main_arg6
  let main_cst_4 : FVec F S_ .f32 := constant S_ .f32 0x7F800000#32
  let main_v16 : FVec F S16x256x32 .f32 := broadcastInDim S16x256x32 ![] bcast_S_S16x256x32 main_cst_4
  let main_v17 : IVec S16x256x32 1 := cmpf .olt main_v15 main_v16
  (main_v2, main_v5, main_v8, main_v11, main_v14, main_v17)
-- ==== Kernel.lean ====
abbrev S16x4096x4x64 : Shape := ⟨4, ![16, 4096, 4, 64]⟩
abbrev S16x4096x4x32 : Shape := ⟨4, ![16, 4096, 4, 32]⟩
abbrev S16x4096x32 : Shape := ⟨3, ![16, 4096, 32]⟩
abbrev S16x256x4x64 : Shape := ⟨4, ![16, 256, 4, 64]⟩
abbrev S16x256x32 : Shape := ⟨3, ![16, 256, 32]⟩
abbrev S_ : Shape := ⟨0, ![]⟩
abbrev S16x4096x4x128 : Shape := ⟨4, ![16, 4096, 4, 128]⟩
abbrev S16x4096x512 : Shape := ⟨3, ![16, 4096, 512]⟩
abbrev S16x4096x1x32 : Shape := ⟨4, ![16, 4096, 1, 32]⟩
abbrev S16x4096x256 : Shape := ⟨3, ![16, 4096, 256]⟩
abbrev S16x256x4096 : Shape := ⟨3, ![16, 256, 4096]⟩
abbrev S16x256x1x32 : Shape := ⟨4, ![16, 256, 1, 32]⟩
abbrev S16x256x4x32 : Shape := ⟨4, ![16, 256, 4, 32]⟩
abbrev S16x256x4x128 : Shape := ⟨4, ![16, 256, 4, 128]⟩
abbrev S16x256x512 : Shape := ⟨3, ![16, 256, 512]⟩
abbrev S16x256x256 : Shape := ⟨3, ![16, 256, 256]⟩
abbrev S128x256x256 : Shape := ⟨3, ![128, 256, 256]⟩
abbrev S1x256x512 : Shape := ⟨3, ![1, 256, 512]⟩
abbrev S1x4096x512 : Shape := ⟨3, ![1, 4096, 512]⟩
abbrev S1x256x4096 : Shape := ⟨3, ![1, 256, 4096]⟩
abbrev S1x256x256 : Shape := ⟨3, ![1, 256, 256]⟩
abbrev S4x4352x256 : Shape := ⟨3, ![4, 4352, 256]⟩
abbrev S4x1x256 : Shape := ⟨3, ![4, 1, 256]⟩
abbrev S1x1x256 : Shape := ⟨3, ![1, 1, 256]⟩
abbrev S1x256 : Shape := ⟨2, ![1, 256]⟩
abbrev S1x2048x128 : Shape := ⟨3, ![1, 2048, 128]⟩
abbrev S2048x128 : Shape := ⟨2, ![2048, 128]⟩
abbrev S1x256x128 : Shape := ⟨3, ![1, 256, 128]⟩
abbrev S256x128 : Shape := ⟨2, ![256, 128]⟩
abbrev S2048x256 : Shape := ⟨2, ![2048, 256]⟩
abbrev S1x2048x256 : Shape := ⟨3, ![1, 2048, 256]⟩
abbrev S256 : Shape := ⟨1, ![256]⟩
abbrev S1x64x2048 : Shape := ⟨3, ![1, 64, 2048]⟩
abbrev S64x2048 : Shape := ⟨2, ![64, 2048]⟩
abbrev S64x256 : Shape := ⟨2, ![64, 256]⟩
abbrev S256x256 : Shape := ⟨2, ![256, 256]⟩
abbrev S1x64x256 : Shape := ⟨3, ![1, 64, 256]⟩

abbrev nBuf : Space → Nat
  | .hbm => 44
  | .vmem => 24
  | .smem => 0
  | _ => 0

abbrev bufTy : (tb : Table) → Fin (tcTables nBuf tb) → BufTy
  | .hbm, ⟨0, _⟩ => ⟨S16x4096x4x64, .f32⟩
  | .hbm, ⟨1, _⟩ => ⟨S16x4096x4x32, .f32⟩
  | .hbm, ⟨2, _⟩ => ⟨S16x4096x4x64, .f32⟩
  | .hbm, ⟨3, _⟩ => ⟨S16x4096x32, .f32⟩
  | .hbm, ⟨4, _⟩ => ⟨S16x4096x4x64, .f32⟩
  | .hbm, ⟨5, _⟩ => ⟨S16x256x4x64, .f32⟩
  | .hbm, ⟨6, _⟩ => ⟨S16x256x32, .f32⟩
  | .hbm, ⟨7, _⟩ => ⟨S16x256x4x64, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S16x4096x4x32, .f32⟩
  | .hbm, ⟨17, _⟩ => ⟨S16x4096x4x128, .f32⟩
  | .hbm, ⟨18, _⟩ => ⟨S16x4096x512, .f32⟩
  | .hbm, ⟨19, _⟩ => ⟨S16x4096x512, .f32⟩
  | .hbm, ⟨20, _⟩ => ⟨S16x4096x512, .f32⟩
  | .hbm, ⟨21, _⟩ => ⟨S16x4096x512, .bf16⟩
  | .hbm, ⟨22, _⟩ => ⟨S16x4096x1x32, .f32⟩
  | .hbm, ⟨23, _⟩ => ⟨S16x4096x4x32, .f32⟩
  | .hbm, ⟨24, _⟩ => ⟨S_, .f32⟩
  | .hbm, ⟨25, _⟩ => ⟨S16x4096x4x32, .f32⟩
  | .hbm, ⟨26, _⟩ => ⟨S16x4096x4x128, .f32⟩
  | .hbm, ⟨27, _⟩ => ⟨S16x4096x512, .f32⟩
  | .hbm, ⟨28, _⟩ => ⟨S16x4096x512, .bf16⟩
  | .hbm, ⟨29, _⟩ => ⟨S16x4096x256, .f32⟩
  | .hbm, ⟨30, _⟩ => ⟨S16x256x4096, .f32⟩
  | .hbm, ⟨31, _⟩ => ⟨S16x256x4096, .bf16⟩
  | .hbm, ⟨32, _⟩ => ⟨S16x256x1x32, .f32⟩
  | .hbm, ⟨33, _⟩ => ⟨S16x256x4x32, .f32⟩
  | .hbm, ⟨34, _⟩ => ⟨S_, .f32⟩
  | .hbm, ⟨35, _⟩ => ⟨S16x256x4x32, .f32⟩
  | .hbm, ⟨36, _⟩ => ⟨S16x256x4x128, .f32⟩
  | .hbm, ⟨37, _⟩ => ⟨S16x256x512, .f32⟩
  | .hbm, ⟨38, _⟩ => ⟨S16x256x512, .bf16⟩
  | .hbm, ⟨39, _⟩ => ⟨S16x256x256, .f32⟩
  | .hbm, ⟨40, _⟩ => ⟨S16x256x256, .f32⟩
  | .hbm, ⟨41, _⟩ => ⟨S16x256x256, .bf16⟩
  | .hbm, ⟨42, _⟩ => ⟨S128x256x256, .bf16⟩
  | .hbm, ⟨43, _⟩ => ⟨S128x256x256, .bf16⟩
  | .local _ .vmem, ⟨0, _⟩ => ⟨S1x256x512, .bf16⟩
  | .local _ .vmem, ⟨1, _⟩ => ⟨S1x256x512, .bf16⟩
  | .local _ .vmem, ⟨2, _⟩ => ⟨S1x256x512, .bf16⟩
  | .local _ .vmem, ⟨3, _⟩ => ⟨S1x256x512, .bf16⟩
  | .local _ .vmem, ⟨4, _⟩ => ⟨S1x4096x512, .bf16⟩
  | .local _ .vmem, ⟨5, _⟩ => ⟨S1x4096x512, .bf16⟩
  | .local _ .vmem, ⟨6, _⟩ => ⟨S1x256x512, .bf16⟩
  | .local _ .vmem, ⟨7, _⟩ => ⟨S1x256x512, .bf16⟩
  | .local _ .vmem, ⟨8, _⟩ => ⟨S1x256x4096, .bf16⟩
  | .local _ .vmem, ⟨9, _⟩ => ⟨S1x256x4096, .bf16⟩
  | .local _ .vmem, ⟨10, _⟩ => ⟨S1x256x256, .bf16⟩
  | .local _ .vmem, ⟨11, _⟩ => ⟨S1x256x256, .bf16⟩
  | .local _ .vmem, ⟨12, _⟩ => ⟨S1x256x4096, .bf16⟩
  | .local _ .vmem, ⟨13, _⟩ => ⟨S1x256x4096, .bf16⟩
  | .local _ .vmem, ⟨14, _⟩ => ⟨S1x256x256, .bf16⟩
  | .local _ .vmem, ⟨15, _⟩ => ⟨S1x256x256, .bf16⟩
  | .local _ .vmem, ⟨16, _⟩ => ⟨S1x256x256, .bf16⟩
  | .local _ .vmem, ⟨17, _⟩ => ⟨S1x256x256, .bf16⟩
  | .local _ .vmem, ⟨18, _⟩ => ⟨S1x256x256, .bf16⟩
  | .local _ .vmem, ⟨19, _⟩ => ⟨S1x256x256, .bf16⟩
  | .local _ .vmem, ⟨20, _⟩ => ⟨S4x4352x256, .f32⟩
  | .local _ .vmem, ⟨21, _⟩ => ⟨S4x1x256, .f32⟩
  | .local _ .vmem, ⟨22, _⟩ => ⟨S4x4352x256, .f32⟩
  | .local _ .vmem, ⟨23, _⟩ => ⟨S4x1x256, .f32⟩
  | _, _ => ⟨S16x4096x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_cst_1 : Ref sig .tc := ⟨.hbm, 13, rfl⟩
abbrev main_v3 : Ref sig .tc := ⟨.hbm, 14, rfl⟩
abbrev main_cst_2 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28_0 : Ref sig .tc := ⟨.hbm, 42, rfl⟩
abbrev main_v28_1 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![129], ![false]⟩

def cc0_transform_0 (i : grid0.Coords) : Fin 3 → Nat :=
  let arg0 : BitVec 32 := BitVec.ofNat 32 (i 0).val
  let c2_i32 : BitVec 32 := 2#32
  let v0 : BitVec 32 := Scalar.muli c2_i32 arg0
  let c254_i32 : BitVec 32 := 254#32
  let v1 : BitVec 32 := Scalar.minsi v0 c254_i32
  let c16_i32 : BitVec 32 := 16#32
  let v2 : BitVec 32 := Scalar.divsi v1 c16_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c2_i32_4 : BitVec 32 := 2#32
  let v19 : BitVec 32 := Scalar.muli c2_i32_4 arg0
  let c254_i32_5 : BitVec 32 := 254#32
  let v20 : BitVec 32 := Scalar.minsi v19 c254_i32_5
  let c16_i32_6 : BitVec 32 := 16#32
  let c0_i32_7 : BitVec 32 := 0#32
  let v21 : BitVec 1 := Scalar.cmpi .eq c16_i32_6 c0_i32_7
  let c1_i32_8 : BitVec 32 := 1#32
  let v22 : BitVec 32 := Scalar.select v21 c1_i32_8 c16_i32_6
  let v23 : BitVec 32 := Scalar.remsi v20 v22
  let c0_i32_9 : BitVec 32 := 0#32
  let v24 : BitVec 1 := Scalar.cmpi .ne v23 c0_i32_9
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let v28 : BitVec 1 := Scalar.andi v27 v24
  let v29 : BitVec 32 := Scalar.addi v23 v22
  let v30 : BitVec 32 := Scalar.select v28 v29 v23
  let c0_i32_12 : BitVec 32 := 0#32
  let c0_i32_13 : BitVec 32 := 0#32
  ![v18.toNat, v30.toNat, c0_i32_12.toNat]

def cc0_transform_1 (i : grid0.Coords) : Fin 3 → Nat :=
  let arg0 : BitVec 32 := BitVec.ofNat 32 (i 0).val
  let c2_i32 : BitVec 32 := 2#32
  let v0 : BitVec 32 := Scalar.muli c2_i32 arg0
  let c254_i32 : BitVec 32 := 254#32
  let v1 : BitVec 32 := Scalar.minsi v0 c254_i32
  let c16_i32 : BitVec 32 := 16#32
  let v2 : BitVec 32 := Scalar.divsi v1 c16_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c2_i32_4 : BitVec 32 := 2#32
  let v19 : BitVec 32 := Scalar.muli c2_i32_4 arg0
  let c254_i32_5 : BitVec 32 := 254#32
  let v20 : BitVec 32 := Scalar.minsi v19 c254_i32_5
  let c16_i32_6 : BitVec 32 := 16#32
  let c0_i32_7 : BitVec 32 := 0#32
  let v21 : BitVec 1 := Scalar.cmpi .eq c16_i32_6 c0_i32_7
  let c1_i32_8 : BitVec 32 := 1#32
  let v22 : BitVec 32 := Scalar.select v21 c1_i32_8 c16_i32_6
  let v23 : BitVec 32 := Scalar.remsi v20 v22
  let c0_i32_9 : BitVec 32 := 0#32
  let v24 : BitVec 1 := Scalar.cmpi .ne v23 c0_i32_9
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let v28 : BitVec 1 := Scalar.andi v27 v24
  let v29 : BitVec 32 := Scalar.addi v23 v22
  let v30 : BitVec 32 := Scalar.select v28 v29 v23
  let c1_i32_12 : BitVec 32 := 1#32
  let v31 : BitVec 32 := Scalar.addi v30 c1_i32_12
  let c0_i32_13 : BitVec 32 := 0#32
  let c0_i32_14 : BitVec 32 := 0#32
  ![v18.toNat, v31.toNat, c0_i32_13.toNat]

def cc0_transform_2 (i : grid0.Coords) : Fin 3 → Nat :=
  let arg0 : BitVec 32 := BitVec.ofNat 32 (i 0).val
  let c2_i32 : BitVec 32 := 2#32
  let v0 : BitVec 32 := Scalar.muli c2_i32 arg0
  let c254_i32 : BitVec 32 := 254#32
  let v1 : BitVec 32 := Scalar.minsi v0 c254_i32
  let c16_i32 : BitVec 32 := 16#32
  let v2 : BitVec 32 := Scalar.divsi v1 c16_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c0_i32_5 : BitVec 32 := 0#32
  let c0_i32_6 : BitVec 32 := 0#32
  ![v18.toNat, c0_i32_4.toNat, c0_i32_5.toNat]

def cc0_transform_3 (i : grid0.Coords) : Fin 3 → Nat :=
  let arg0 : BitVec 32 := BitVec.ofNat 32 (i 0).val
  let c2_i32 : BitVec 32 := 2#32
  let v0 : BitVec 32 := Scalar.muli c2_i32 arg0
  let c254_i32 : BitVec 32 := 254#32
  let v1 : BitVec 32 := Scalar.minsi v0 c254_i32
  let c16_i32 : BitVec 32 := 16#32
  let v2 : BitVec 32 := Scalar.divsi v1 c16_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c0_i32_5 : BitVec 32 := 0#32
  let c0_i32_6 : BitVec 32 := 0#32
  ![v18.toNat, c0_i32_4.toNat, c0_i32_5.toNat]

def cc0_transform_4 (i : grid0.Coords) : Fin 3 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.subi v0 c1_i32
  let c0_i32 : BitVec 32 := 0#32
  let v2 : BitVec 32 := Scalar.maxsi v1 c0_i32
  let c16_i32 : BitVec 32 := 16#32
  let v3 : BitVec 32 := Scalar.divsi v2 c16_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c16_i32 c0_i32_2
  let v10 : BitVec 32 := Scalar.extui v9
  let c0_i32_3 : BitVec 32 := 0#32
  let v11 : BitVec 1 := Scalar.cmpi .slt c16_i32 c0_i32_3
  let v12 : BitVec 32 := Scalar.extui v11
  let v13 : BitVec 32 := Scalar.subi v10 v12
  let v14 : BitVec 1 := Scalar.cmpi .ne v8 v13
  let v15 : BitVec 32 := Scalar.remsi v2 c16_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let c0_i32_6 : BitVec 32 := 0#32
  let c0_i32_7 : BitVec 32 := 0#32
  let c0_i32_8 : BitVec 32 := 0#32
  ![v19.toNat, c0_i32_6.toNat, c0_i32_7.toNat]

def cc0_transform_5 (i : grid0.Coords) : Fin 3 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.subi v0 c1_i32
  let c0_i32 : BitVec 32 := 0#32
  let v2 : BitVec 32 := Scalar.maxsi v1 c0_i32
  let c16_i32 : BitVec 32 := 16#32
  let v3 : BitVec 32 := Scalar.divsi v2 c16_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c16_i32 c0_i32_2
  let v10 : BitVec 32 := Scalar.extui v9
  let c0_i32_3 : BitVec 32 := 0#32
  let v11 : BitVec 1 := Scalar.cmpi .slt c16_i32 c0_i32_3
  let v12 : BitVec 32 := Scalar.extui v11
  let v13 : BitVec 32 := Scalar.subi v10 v12
  let v14 : BitVec 1 := Scalar.cmpi .ne v8 v13
  let v15 : BitVec 32 := Scalar.remsi v2 c16_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let c0_i32_6 : BitVec 32 := 0#32
  let c0_i32_7 : BitVec 32 := 0#32
  let c0_i32_8 : BitVec 32 := 0#32
  ![v19.toNat, c0_i32_6.toNat, c0_i32_7.toNat]

def cc0_transform_6 (i : grid0.Coords) : Fin 3 → Nat :=
  let arg0 : BitVec 32 := BitVec.ofNat 32 (i 0).val
  let c2_i32 : BitVec 32 := 2#32
  let v0 : BitVec 32 := Scalar.muli c2_i32 arg0
  let c254_i32 : BitVec 32 := 254#32
  let v1 : BitVec 32 := Scalar.minsi v0 c254_i32
  let c16_i32 : BitVec 32 := 16#32
  let v2 : BitVec 32 := Scalar.divsi v1 c16_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c0_i32_5 : BitVec 32 := 0#32
  let c0_i32_6 : BitVec 32 := 0#32
  ![v18.toNat, c0_i32_4.toNat, c0_i32_5.toNat]

def cc0_transform_7 (i : grid0.Coords) : Fin 3 → Nat :=
  let arg0 : BitVec 32 := BitVec.ofNat 32 (i 0).val
  let c2_i32 : BitVec 32 := 2#32
  let v0 : BitVec 32 := Scalar.muli c2_i32 arg0
  let c254_i32 : BitVec 32 := 254#32
  let v1 : BitVec 32 := Scalar.minsi v0 c254_i32
  let c16_i32 : BitVec 32 := 16#32
  let v2 : BitVec 32 := Scalar.divsi v1 c16_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c0_i32_5 : BitVec 32 := 0#32
  let c0_i32_6 : BitVec 32 := 0#32
  ![v18.toNat, c0_i32_4.toNat, c0_i32_5.toNat]

def cc0_transform_8 (i : grid0.Coords) : Fin 3 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  let c0_i32_1 : BitVec 32 := 0#32
  ![v0.toNat, c0_i32.toNat, c0_i32_0.toNat]

def cc0_transform_9 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S16x4096x4x64 : Shape := ⟨4, ![16, 4096, 4, 64]⟩
abbrev S16x4096x4x32 : Shape := ⟨4, ![16, 4096, 4, 32]⟩
abbrev S16x4096x32 : Shape := ⟨3, ![16, 4096, 32]⟩
abbrev S16x256x4x64 : Shape := ⟨4, ![16, 256, 4, 64]⟩
abbrev S16x256x32 : Shape := ⟨3, ![16, 256, 32]⟩
abbrev S16x4352x4x64 : Shape := ⟨4, ![16, 4352, 4, 64]⟩
abbrev S16x4352x32 : Shape := ⟨3, ![16, 4352, 32]⟩
abbrev S16x4x4096x4352 : Shape := ⟨4, ![16, 4, 4096, 4352]⟩
abbrev S16x4352x4096x4 : Shape := ⟨4, ![16, 4352, 4096, 4]⟩
abbrev S_ : Shape := ⟨0, ![]⟩
abbrev S16x4x4096 : Shape := ⟨3, ![16, 4, 4096]⟩
abbrev S16x4x4096x1 : Shape := ⟨4, ![16, 4, 4096, 1]⟩
abbrev S16x4x64x4096 : Shape := ⟨4, ![16, 4, 64, 4096]⟩
abbrev S128x2x256x256 : Shape := ⟨4, ![128, 2, 256, 256]⟩
abbrev S128x1x256x256 : Shape := ⟨4, ![128, 1, 256, 256]⟩
abbrev S128x256x256 : Shape := ⟨3, ![128, 256, 256]⟩

abbrev nBuf : Space → Nat
  | .hbm => 42
  | .vmem => 0
  | .smem => 0
  | _ => 0

abbrev bufTy : (tb : Table) → Fin (tcTables nBuf tb) → BufTy
  | .hbm, ⟨0, _⟩ => ⟨S16x4096x4x64, .f32⟩
  | .hbm, ⟨1, _⟩ => ⟨S16x4096x4x32, .f32⟩
  | .hbm, ⟨2, _⟩ => ⟨S16x4096x4x64, .f32⟩
  | .hbm, ⟨3, _⟩ => ⟨S16x4096x32, .f32⟩
  | .hbm, ⟨4, _⟩ => ⟨S16x4096x4x64, .f32⟩
  | .hbm, ⟨5, _⟩ => ⟨S16x256x4x64, .f32⟩
  | .hbm, ⟨6, _⟩ => ⟨S16x256x32, .f32⟩
  | .hbm, ⟨7, _⟩ => ⟨S16x256x4x64, .f32⟩
  | .hbm, ⟨8, _⟩ => ⟨S16x4352x4x64, .f32⟩
  | .hbm, ⟨9, _⟩ => ⟨S16x4352x32, .f32⟩
  | .hbm, ⟨10, _⟩ => ⟨S16x4352x4x64, .f32⟩
  | .hbm, ⟨11, _⟩ => ⟨S16x4x4096x4352, .f32⟩
  | .hbm, ⟨12, _⟩ => ⟨S16x4352x4096x4, .f32⟩
  | .hbm, ⟨13, _⟩ => ⟨S16x4x4096x4352, .f32⟩
  | .hbm, ⟨14, _⟩ => ⟨S16x4x4096x4352, .f32⟩
  | .hbm, ⟨15, _⟩ => ⟨S_, .f32⟩
  | .hbm, ⟨16, _⟩ => ⟨S_, .f32⟩
  | .hbm, ⟨17, _⟩ => ⟨S16x4x4096x4352, .f32⟩
  | .hbm, ⟨18, _⟩ => ⟨S16x4x4096x4352, .f32⟩
  | .hbm, ⟨19, _⟩ => ⟨S_, .f32⟩
  | .hbm, ⟨20, _⟩ => ⟨S16x4x4096, .f32⟩
  | .hbm, ⟨21, _⟩ => ⟨S_, .f32⟩
  | .hbm, ⟨22, _⟩ => ⟨S16x4x4096, .f32⟩
  | .hbm, ⟨23, _⟩ => ⟨S16x4x4096, .f32⟩
  | .hbm, ⟨24, _⟩ => ⟨S16x4x4096x1, .f32⟩
  | .hbm, ⟨25, _⟩ => ⟨S16x4x4096x4352, .f32⟩
  | .hbm, ⟨26, _⟩ => ⟨S16x4x4096x4352, .f32⟩
  | .hbm, ⟨27, _⟩ => ⟨S16x4x4096x4352, .f32⟩
  | .hbm, ⟨28, _⟩ => ⟨S_, .f32⟩
  | .hbm, ⟨29, _⟩ => ⟨S16x4x4096, .f32⟩
  | .hbm, ⟨30, _⟩ => ⟨S16x4x4096x1, .f32⟩
  | .hbm, ⟨31, _⟩ => ⟨S16x4x4096x4352, .f32⟩
  | .hbm, ⟨32, _⟩ => ⟨S16x4x4096x4352, .f32⟩
  | .hbm, ⟨33, _⟩ => ⟨S16x4x64x4096, .f32⟩
  | .hbm, ⟨34, _⟩ => ⟨S16x4096x4x64, .f32⟩
  | .hbm, ⟨35, _⟩ => ⟨S128x2x256x256, .f32⟩
  | .hbm, ⟨36, _⟩ => ⟨S128x1x256x256, .f32⟩
  | .hbm, ⟨37, _⟩ => ⟨S128x256x256, .f32⟩
  | .hbm, ⟨38, _⟩ => ⟨S128x256x256, .bf16⟩
  | .hbm, ⟨39, _⟩ => ⟨S128x1x256x256, .f32⟩
  | .hbm, ⟨40, _⟩ => ⟨S128x256x256, .f32⟩
  | .hbm, ⟨41, _⟩ => ⟨S128x256x256, .bf16⟩
  | _, _ => ⟨S16x4096x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]
-- ==== Mix.lean ====
abbrev S16x4096x1024 : Shape := ⟨3, ![16, 4096, 1024]⟩
abbrev S16x4096x256 : Shape := ⟨3, ![16, 4096, 256]⟩
abbrev S16x1024 : Shape := ⟨2, ![16, 1024]⟩
abbrev S3x256 : Shape := ⟨2, ![3, 256]⟩
abbrev S4x64x64 : Shape := ⟨3, ![4, 64, 64]⟩
abbrev S256 : Shape := ⟨1, ![256]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S4 : Shape := ⟨1, ![4]⟩
abbrev S4096x16x256 : Shape := ⟨3, ![4096, 16, 256]⟩
abbrev S4096x4096 : Shape := ⟨2, ![4096, 4096]⟩
abbrev S2048x4096 : Shape := ⟨2, ![2048, 4096]⟩
abbrev S1x4096 : Shape := ⟨2, ![1, 4096]⟩
abbrev S8x4096 : Shape := ⟨2, ![8, 4096]⟩
abbrev S2047x4096 : Shape := ⟨2, ![2047, 4096]⟩
abbrev S128x2x256x256 : Shape := ⟨4, ![128, 2, 256, 256]⟩
abbrev S1x64x64 : Shape := ⟨3, ![1, 64, 64]⟩
abbrev S64x64 : Shape := ⟨2, ![64, 64]⟩
abbrev S_ : Shape := ⟨0, ![]⟩
abbrev S64x256 : Shape := ⟨2, ![64, 256]⟩
abbrev S256x256 : Shape := ⟨2, ![256, 256]⟩
abbrev S128x1x256x256 : Shape := ⟨4, ![128, 1, 256, 256]⟩
abbrev S128x256x256 : Shape := ⟨3, ![128, 256, 256]⟩
abbrev S16x1x1024 : Shape := ⟨3, ![16, 1, 1024]⟩
abbrev S1x256 : Shape := ⟨2, ![1, 256]⟩
abbrev S1x1024 : Shape := ⟨2, ![1, 1024]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S4096 : Shape := ⟨1, ![4096]⟩
abbrev S4096x1 : Shape := ⟨2, ![4096, 1]⟩
abbrev S4x64 : Shape := ⟨2, ![4, 64]⟩
abbrev S4096x256 : Shape := ⟨2, ![4096, 256]⟩
abbrev S1x512x1024 : Shape := ⟨3, ![1, 512, 1024]⟩
abbrev S1x8x1024 : Shape := ⟨3, ![1, 8, 1024]⟩
abbrev S512x256 : Shape := ⟨2, ![512, 256]⟩
abbrev S1x1x1024 : Shape := ⟨3, ![1, 1, 1024]⟩
abbrev S8x256 : Shape := ⟨2, ![8, 256]⟩
abbrev S1x256x256 : Shape := ⟨3, ![1, 256, 256]⟩
abbrev S8x1024 : Shape := ⟨2, ![8, 1024]⟩
abbrev S512x1024 : Shape := ⟨2, ![512, 1024]⟩
abbrev S528x1024 : Shape := ⟨2, ![528, 1024]⟩
abbrev S512x128 : Shape := ⟨2, ![512, 128]⟩
abbrev S528x256 : Shape := ⟨2, ![528, 256]⟩
abbrev S528x128 : Shape := ⟨2, ![528, 128]⟩
abbrev S1024x2048 : Shape := ⟨2, ![1024, 2048]⟩
abbrev S512x2048 : Shape := ⟨2, ![512, 2048]⟩
abbrev S2048x1024 : Shape := ⟨2, ![2048, 1024]⟩

abbrev nBuf : Space → Nat
  | .hbm => 118
  | .vmem => 41
  | .smem => 0
  | _ => 0

abbrev bufTy : (tb : Table) → Fin (tcTables nBuf tb) → BufTy
  | .hbm, ⟨0, _⟩ => ⟨S16x4096x1024, .f32⟩
  | .hbm, ⟨1, _⟩ => ⟨S16x4096x1024, .f32⟩
  | .hbm, ⟨2, _⟩ => ⟨S16x4096x256, .f32⟩
  | .hbm, ⟨3, _⟩ => ⟨S16x4096x256, .f32⟩
  | .hbm, ⟨4, _⟩ => ⟨S16x1024, .f32⟩
  | .hbm, ⟨5, _⟩ => ⟨S16x1024, .f32⟩
  | .hbm, ⟨6, _⟩ => ⟨S16x1024, .f32⟩
  | .hbm, ⟨7, _⟩ => ⟨S16x1024, .f32⟩
  | .hbm, ⟨8, _⟩ => ⟨S3x256, .f32⟩
  | .hbm, ⟨9, _⟩ => ⟨S4x64x64, .f32⟩
  | .hbm, ⟨10, _⟩ => ⟨S256, .f32⟩
  | .hbm, ⟨11, _⟩ => ⟨S1024x1024, .f32⟩
  | .hbm, ⟨12, _⟩ => ⟨S1024, .f32⟩
  | .hbm, ⟨13, _⟩ => ⟨S1024x4096, .f32⟩
  | .hbm, ⟨14, _⟩ => ⟨S4096x1024, .f32⟩
  | .hbm, ⟨15, _⟩ => ⟨S1024, .f32⟩
  | .hbm, ⟨16, _⟩ => ⟨S4, .i32⟩
  | .hbm, ⟨17, _⟩ => ⟨S16x4096x256, .bf16⟩
  | .hbm, ⟨18, _⟩ => ⟨S4096x16x256, .bf16⟩
  | .hbm, ⟨19, _⟩ => ⟨S4096x4096, .bf16⟩
  | .hbm, ⟨20, _⟩ => ⟨S2048x4096, .bf16⟩
  | .hbm, ⟨21, _⟩ => ⟨S1x4096, .bf16⟩
  | .hbm, ⟨22, _⟩ => ⟨S8x4096, .bf16⟩
  | .hbm, ⟨23, _⟩ => ⟨S1x4096, .bf16⟩
  | .hbm, ⟨24, _⟩ => ⟨S2047x4096, .bf16⟩
  | .hbm, ⟨25, _⟩ => ⟨S2047x4096, .bf16⟩
  | .hbm, ⟨26, _⟩ => ⟨S2048x4096, .bf16⟩
  | .hbm, ⟨27, _⟩ => ⟨S16x4096x256, .bf16⟩
  | .hbm, ⟨28, _⟩ => ⟨S128x2x256x256, .bf16⟩
  | .hbm, ⟨29, _⟩ => ⟨S1x64x64, .f32⟩
  | .hbm, ⟨30, _⟩ => ⟨S64x64, .f32⟩
  | .hbm, ⟨31, _⟩ => ⟨S1x64x64, .f32⟩
  | .hbm, ⟨32, _⟩ => ⟨S64x64, .f32⟩
  | .hbm, ⟨33, _⟩ => ⟨S1x64x64, .f32⟩
  | .hbm, ⟨34, _⟩ => ⟨S64x64, .f32⟩
  | .hbm, ⟨35, _⟩ => ⟨S1x64x64, .f32⟩
  | .hbm, ⟨36, _⟩ => ⟨S64x64, .f32⟩
  | .hbm, ⟨37, _⟩ => ⟨S_, .f32⟩
  | .hbm, ⟨38, _⟩ => ⟨S64x256, .f32⟩
  | .hbm, ⟨39, _⟩ => ⟨S_, .f32⟩
  | .hbm, ⟨40, _⟩ => ⟨S64x256, .f32⟩
  | .hbm, ⟨41, _⟩ => ⟨S_, .f32⟩
  | .hbm, ⟨42, _⟩ => ⟨S64x256, .f32⟩
  | .hbm, ⟨43, _⟩ => ⟨S_, .f32⟩
  | .hbm, ⟨44, _⟩ => ⟨S64x256, .f32⟩
  | .hbm, ⟨45, _⟩ => ⟨S256x256, .f32⟩
  | .hbm, ⟨46, _⟩ => ⟨S128x1x256x256, .bf16⟩
  | .hbm, ⟨47, _⟩ => ⟨S128x256x256, .bf16⟩
  | .hbm, ⟨48, _⟩ => ⟨S128x1x256x256, .bf16⟩
  | .hbm, ⟨49, _⟩ => ⟨S128x256x256, .bf16⟩
  | .hbm, ⟨50, _⟩ => ⟨S16x1x1024, .f32⟩
  | .hbm, ⟨51, _⟩ => ⟨S16x1x1024, .f32⟩
  | .hbm, ⟨52, _⟩ => ⟨S16x1x1024, .f32⟩
  | .hbm, ⟨53, _⟩ => ⟨S16x1x1024, .f32⟩
  | .hbm, ⟨54, _⟩ => ⟨S256x256, .bf16⟩
  | .hbm, ⟨55, _⟩ => ⟨S1x256, .f32⟩
  | .hbm, ⟨56, _⟩ => ⟨S1024x1024, .bf16⟩
  | .hbm, ⟨57, _⟩ => ⟨S1x1024, .f32⟩
  | .hbm, ⟨58, _⟩ => ⟨S1024x4096, .bf16⟩
  | .hbm, ⟨59, _⟩ => ⟨S4096x1024, .bf16⟩
  | .hbm, ⟨60, _⟩ => ⟨S1x1024, .f32⟩
  | .hbm, ⟨61, _⟩ => ⟨S512, .i32⟩
  | .hbm, ⟨62, _⟩ => ⟨S512x1, .i32⟩
  | .hbm, ⟨63, _⟩ => ⟨S1x512, .i32⟩
  | .hbm, ⟨64, _⟩ => ⟨S512x512, .i32⟩
  | .hbm, ⟨65, _⟩ => ⟨S512x512, .i32⟩
  | .hbm, ⟨66, _⟩ => ⟨S512x512, .i32⟩
  | .hbm, ⟨67, _⟩ => ⟨S_, .i32⟩
  | .hbm, ⟨68, _⟩ => ⟨S512x512, .i32⟩
  | .hbm, ⟨69, _⟩ => ⟨S512x512, .i1⟩
  | .hbm, ⟨70, _⟩ => ⟨S512x512, .bf16⟩
  | .hbm, ⟨71, _⟩ => ⟨S4096, .i32⟩
  | .hbm, ⟨72, _⟩ => ⟨S4096x1, .i32⟩
  | .hbm, ⟨73, _⟩ => ⟨S_, .i32⟩
  | .hbm, ⟨74, _⟩ => ⟨S_, .i32⟩
  | .hbm, ⟨75, _⟩ => ⟨S4, .i32⟩
  | .hbm, ⟨76, _⟩ => ⟨S4, .i32⟩
  | .hbm, ⟨77, _⟩ => ⟨S4, .i32⟩
  | .hbm, ⟨78, _⟩ => ⟨S_, .i32⟩
  | .hbm, ⟨79, _⟩ => ⟨S4, .i32⟩
  | .hbm, ⟨80, _⟩ => ⟨S4, .i1⟩
  | .hbm, ⟨81, _⟩ => ⟨S4, .i32⟩
  | .hbm, ⟨82, _⟩ => ⟨S4, .i32⟩
  | .hbm, ⟨83, _⟩ => ⟨S_, .i32⟩
  | .hbm, ⟨84, _⟩ => ⟨S4, .i32⟩
  | .hbm, ⟨85, _⟩ => ⟨S4, .i1⟩
  | .hbm, ⟨86, _⟩ => ⟨S4, .i1⟩
  | .hbm, ⟨87, _⟩ => ⟨S_, .i32⟩
  | .hbm, ⟨88, _⟩ => ⟨S4, .i32⟩
  | .hbm, ⟨89, _⟩ => ⟨S4, .i32⟩
  | .hbm, ⟨90, _⟩ => ⟨S4, .i32⟩
  | .hbm, ⟨91, _⟩ => ⟨S4x64, .i32⟩
  | .hbm, ⟨92, _⟩ => ⟨S256, .i32⟩
  | .hbm, ⟨93, _⟩ => ⟨S1x256, .i32⟩
  | .hbm, ⟨94, _⟩ => ⟨S4096x256, .i32⟩
  | .hbm, ⟨95, _⟩ => ⟨S4096x256, .i32⟩
  | .hbm, ⟨96, _⟩ => ⟨S4096x256, .i32⟩
  | .hbm, ⟨97, _⟩ => ⟨S_, .i32⟩
  | .hbm, ⟨98, _⟩ => ⟨S4096x256, .i32⟩
  | .hbm, ⟨99, _⟩ => ⟨S4096x256, .i32⟩
  | .hbm, ⟨100, _⟩ => ⟨S_, .i32⟩
  | .hbm, ⟨101, _⟩ => ⟨S4096x256, .i32⟩
  | .hbm, ⟨102, _⟩ => ⟨S4096x256, .i32⟩
  | .hbm, ⟨103, _⟩ => ⟨S4096x256, .i32⟩
  | .hbm, ⟨104, _⟩ => ⟨S4096x256, .i32⟩
  | .hbm, ⟨105, _⟩ => ⟨S4096x256, .i32⟩
  | .hbm, ⟨106, _⟩ => ⟨S_, .i32⟩
  | .hbm, ⟨107, _⟩ => ⟨S4096x256, .i32⟩
  | .hbm, ⟨108, _⟩ => ⟨S4096x256, .i32⟩
  | .hbm, ⟨109, _⟩ => ⟨S4096x256, .i32⟩
  | .hbm, ⟨110, _⟩ => ⟨S_, .i32⟩
  | .hbm, ⟨111, _⟩ => ⟨S4096x256, .i32⟩
  | .hbm, ⟨112, _⟩ => ⟨S4096x256, .i32⟩
  | .hbm, ⟨113, _⟩ => ⟨S4096x256, .f32⟩
  | .hbm, ⟨114, _⟩ => ⟨S_, .f32⟩
  | .hbm, ⟨115, _⟩ => ⟨S4096x256, .f32⟩
  | .hbm, ⟨116, _⟩ => ⟨S4096x256, .f32⟩
  | .hbm, ⟨117, _⟩ => ⟨S16x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x8x1024, .f32⟩
  | .local _ .vmem, ⟨7, _⟩ => ⟨S1x8x1024, .f32⟩
  | .local _ .vmem, ⟨8, _⟩ => ⟨S512x256, .f32⟩
  | .local _ .vmem, ⟨9, _⟩ => ⟨S512x256, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S3x256, .f32⟩
  | .local _ .vmem, ⟨19, _⟩ => ⟨S256x256, .bf16⟩
  | .local _ .vmem, ⟨20, _⟩ => ⟨S1x256, .f32⟩
  | .local _ .vmem, ⟨21, _⟩ => ⟨S1024x1024, .bf16⟩
  | .local _ .vmem, ⟨22, _⟩ => ⟨S1x1024, .f32⟩
  | .local _ .vmem, ⟨23, _⟩ => ⟨S1024x4096, .bf16⟩
  | .local _ .vmem, ⟨24, _⟩ => ⟨S4096x1024, .bf16⟩
  | .local _ .vmem, ⟨25, _⟩ => ⟨S1x1024, .f32⟩
  | .local _ .vmem, ⟨26, _⟩ => ⟨S512x256, .bf16⟩
  | .local _ .vmem, ⟨27, _⟩ => ⟨S512x256, .bf16⟩
  | .local _ .vmem, ⟨28, _⟩ => ⟨S512x256, .bf16⟩
  | .local _ .vmem, ⟨29, _⟩ => ⟨S512x256, .bf16⟩
  | .local _ .vmem, ⟨30, _⟩ => ⟨S8x256, .bf16⟩
  | .local _ .vmem, ⟨31, _⟩ => ⟨S8x256, .bf16⟩
  | .local _ .vmem, ⟨32, _⟩ => ⟨S8x256, .bf16⟩
  | .local _ .vmem, ⟨33, _⟩ => ⟨S8x256, .bf16⟩
  | .local _ .vmem, ⟨34, _⟩ => ⟨S512x512, .bf16⟩
  | .local _ .vmem, ⟨35, _⟩ => ⟨S1x256x256, .bf16⟩
  | .local _ .vmem, ⟨36, _⟩ => ⟨S1x256x256, .bf16⟩
  | .local _ .vmem, ⟨37, _⟩ => ⟨S1x256x256, .bf16⟩
  | .local _ .vmem, ⟨38, _⟩ => ⟨S1x256x256, .bf16⟩
  | .local _ .vmem, ⟨39, _⟩ => ⟨S1x512x1024, .f32⟩
  | .local _ .vmem, ⟨40, _⟩ => ⟨S1x512x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_call0_cst : Ref sig .tc := ⟨.hbm, 37, rfl⟩
abbrev main_call0_v4 : Ref sig .tc := ⟨.hbm, 38, rfl⟩
abbrev main_call0_cst_0 : Ref sig .tc := ⟨.hbm, 39, rfl⟩
abbrev main_call0_v5 : Ref sig .tc := ⟨.hbm, 40, rfl⟩
abbrev main_call0_cst_1 : Ref sig .tc := ⟨.hbm, 41, rfl⟩
abbrev main_call0_v6 : Ref sig .tc := ⟨.hbm, 42, rfl⟩
abbrev main_call0_cst_2 : Ref sig .tc := ⟨.hbm, 43, rfl⟩
abbrev main_call0_v7 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_c_0 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_c_1 : Ref sig .tc := ⟨.hbm, 73, rfl⟩
abbrev main_call1_v0 : Ref sig .tc := ⟨.hbm, 74, rfl⟩
abbrev main_call1_v1 : Ref sig .tc := ⟨.hbm, 75, rfl⟩
abbrev main_call1_v2 : Ref sig .tc := ⟨.hbm, 76, rfl⟩
abbrev main_call1_v3 : Ref sig .tc := ⟨.hbm, 77, rfl⟩
abbrev main_call1_v4 : Ref sig .tc := ⟨.hbm, 78, rfl⟩
abbrev main_call1_v5 : Ref sig .tc := ⟨.hbm, 79, rfl⟩
abbrev main_call1_v6 : Ref sig .tc := ⟨.hbm, 80, rfl⟩
abbrev main_call1_v7 : Ref sig .tc := ⟨.hbm, 81, rfl⟩
abbrev main_call1_v8 : Ref sig .tc := ⟨.hbm, 82, rfl⟩
abbrev main_call1_c : Ref sig .tc := ⟨.hbm, 83, rfl⟩
abbrev main_call1_v9 : Ref sig .tc := ⟨.hbm, 84, rfl⟩
abbrev main_call1_v10 : Ref sig .tc := ⟨.hbm, 85, rfl⟩
abbrev main_call1_v11 : Ref sig .tc := ⟨.hbm, 86, rfl⟩
abbrev main_call1_c_0 : Ref sig .tc := ⟨.hbm, 87, rfl⟩
abbrev main_call1_v12 : Ref sig .tc := ⟨.hbm, 88, rfl⟩
abbrev main_call1_v13 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_c_2 : Ref sig .tc := ⟨.hbm, 97, rfl⟩
abbrev main_v54 : Ref sig .tc := ⟨.hbm, 98, rfl⟩
abbrev main_v55 : Ref sig .tc := ⟨.hbm, 99, rfl⟩
abbrev main_c_3 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_c_4 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_c_5 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_cst : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_stg20_0 : Ref sig .tc := ⟨.vmem, 32, rfl⟩
abbrev cc0_stg20_1 : Ref sig .tc := ⟨.vmem, 33, rfl⟩
abbrev cc0_stg21_0 : Ref sig .tc := ⟨.vmem, 34, rfl⟩
abbrev cc0_stg22_0 : Ref sig .tc := ⟨.vmem, 35, rfl⟩
abbrev cc0_stg22_1 : Ref sig .tc := ⟨.vmem, 36, rfl⟩
abbrev cc0_stg23_0 : Ref sig .tc := ⟨.vmem, 37, rfl⟩
abbrev cc0_stg23_1 : Ref sig .tc := ⟨.vmem, 38, rfl⟩
abbrev cc0_stg24_0 : Ref sig .tc := ⟨.vmem, 39, rfl⟩
abbrev cc0_stg24_1 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31
abbrev cc0_sem20_0 : DmaSem sig := 32
abbrev cc0_sem20_1 : DmaSem sig := 33
abbrev cc0_sem21_0 : DmaSem sig := 34
abbrev cc0_sem22_0 : DmaSem sig := 35
abbrev cc0_sem22_1 : DmaSem sig := 36
abbrev cc0_sem23_0 : DmaSem sig := 37
abbrev cc0_sem23_1 : DmaSem sig := 38
abbrev cc0_sem24_0 : DmaSem sig := 39
abbrev cc0_sem24_1 : DmaSem sig := 40

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![arg0.toNat, v2.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  ![v0.toNat, arg0.toNat]

def cc0_transform_18 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![v2.toNat, arg0.toNat]

def cc0_transform_19 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi c8_i32 arg1
  let c64_i32 : BitVec 32 := 64#32
  let v1 : BitVec 32 := Scalar.muli v0 c64_i32
  let c0_i32 : BitVec 32 := 0#32
  let c255_i32 : BitVec 32 := 255#32
  let v2 : BitVec 32 := Scalar.maxsi c0_i32 v1
  let v3 : BitVec 32 := Scalar.minsi c255_i32 v2
  let c0_i32_0 : BitVec 32 := 0#32
  ![v3.toNat, arg0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_23 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_24 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S3x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x4096 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S4096x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 2 → Memref sig .tc .vmem S512x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S512x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S8x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S8x256 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, false]

abbrev stage0_21 : Fin 1 → Memref sig .tc .vmem S512x512 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false, false]

abbrev stage0_22 : Fin 2 → Memref sig .tc .vmem S1x256x256 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x256x256 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S1x512x1024 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]
-- ==== MixReferenceIdeal.lean ====
abbrev S16x4096x1024 : Shape := ⟨3, ![16, 4096, 1024]⟩
abbrev S16x4096x256 : Shape := ⟨3, ![16, 4096, 256]⟩
abbrev S16x1024 : Shape := ⟨2, ![16, 1024]⟩
abbrev S3x256 : Shape := ⟨2, ![3, 256]⟩
abbrev S4x64x64 : Shape := ⟨3, ![4, 64, 64]⟩
abbrev S256 : Shape := ⟨1, ![256]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S16x4096x768 : Shape := ⟨3, ![16, 4096, 768]⟩
abbrev S_ : Shape := ⟨0, ![]⟩
abbrev S16x4098x256 : Shape := ⟨3, ![16, 4098, 256]⟩
abbrev S1x256 : Shape := ⟨2, ![1, 256]⟩
abbrev S1x1x256 : Shape := ⟨3, ![1, 1, 256]⟩
abbrev S4096 : Shape := ⟨1, ![4096]⟩
abbrev S16x4096x64 : Shape := ⟨3, ![16, 4096, 64]⟩
abbrev S16x4097x64 : Shape := ⟨3, ![16, 4097, 64]⟩
abbrev S1x4096x1 : Shape := ⟨3, ![1, 4096, 1]⟩
abbrev S1x64x64 : Shape := ⟨3, ![1, 64, 64]⟩
abbrev S64x64 : Shape := ⟨2, ![64, 64]⟩
abbrev S16x4099x64 : Shape := ⟨3, ![16, 4099, 64]⟩
abbrev S16x4103x64 : Shape := ⟨3, ![16, 4103, 64]⟩
abbrev S16x4111x64 : Shape := ⟨3, ![16, 4111, 64]⟩
abbrev S16x1x1024 : Shape := ⟨3, ![16, 1, 1024]⟩
abbrev S16x4096 : Shape := ⟨2, ![16, 4096]⟩
abbrev S16x4096x1 : Shape := ⟨3, ![16, 4096, 1]⟩
abbrev S1x1x1024 : Shape := ⟨3, ![1, 1, 1024]⟩
abbrev S16x4096x4096 : Shape := ⟨3, ![16, 4096, 4096]⟩

abbrev nBuf : Space → Nat
  | .hbm => 303
  | .vmem => 0
  | .smem => 0
  | _ => 0

abbrev hbmTy0_0 (i : Nat) : BufTy := match i % 128 with
  | 0 => ⟨S16x4096x1024, .f32⟩
  | 1 => ⟨S16x4096x1024, .f32⟩
  | 2 => ⟨S16x4096x256, .f32⟩
  | 3 => ⟨S16x4096x256, .f32⟩
  | 4 => ⟨S16x1024, .f32⟩
  | 5 => ⟨S16x1024, .f32⟩
  | 6 => ⟨S16x1024, .f32⟩
  | 7 => ⟨S16x1024, .f32⟩
  | 8 => ⟨S3x256, .f32⟩
  | 9 => ⟨S4x64x64, .f32⟩
  | 10 => ⟨S256, .f32⟩
  | 11 => ⟨S1024x1024, .f32⟩
  | 12 => ⟨S1024, .f32⟩
  | 13 => ⟨S1024x4096, .f32⟩
  | 14 => ⟨S4096x1024, .f32⟩
  | 15 => ⟨S1024, .f32⟩
  | 16 => ⟨S16x4096x768, .f32⟩
  | 17 => ⟨S16x4096x256, .f32⟩
  | 18 => ⟨S16x4096x256, .f32⟩
  | 19 => ⟨S16x4096x256, .f32⟩
  | 20 => ⟨S16x4096x256, .f32⟩
  | 21 => ⟨S_, .i32⟩
  | 22 => ⟨S_, .f32⟩
  | 23 => ⟨S16x4098x256, .f32⟩
  | 24 => ⟨S16x4096x256, .f32⟩
  | 25 => ⟨S1x256, .f32⟩
  | 26 => ⟨S256, .f32⟩
  | 27 => ⟨S1x1x256, .f32⟩
  | 28 => ⟨S16x4096x256, .f32⟩
  | 29 => ⟨S16x4096x256, .f32⟩
  | 30 => ⟨S_, .f32⟩
  | 31 => ⟨S16x4096x256, .f32⟩
  | 32 => ⟨S16x4096x256, .f32⟩
  | 33 => ⟨S16x4096x256, .f32⟩
  | 34 => ⟨S1x256, .f32⟩
  | 35 => ⟨S256, .f32⟩
  | 36 => ⟨S1x1x256, .f32⟩
  | 37 => ⟨S16x4096x256, .f32⟩
  | 38 => ⟨S16x4096x256, .f32⟩
  | 39 => ⟨S16x4096x256, .f32⟩
  | 40 => ⟨S16x4096x256, .f32⟩
  | 41 => ⟨S1x256, .f32⟩
  | 42 => ⟨S256, .f32⟩
  | 43 => ⟨S1x1x256, .f32⟩
  | 44 => ⟨S16x4096x256, .f32⟩
  | 45 => ⟨S16x4096x256, .f32⟩
  | 46 => ⟨S16x4096x256, .f32⟩
  | 47 => ⟨S16x4096x256, .f32⟩
  | 48 => ⟨S16x4096x256, .f32⟩
  | 49 => ⟨S4096, .i32⟩
  | 50 => ⟨S_, .i32⟩
  | 51 => ⟨S4096, .i32⟩
  | 52 => ⟨S4096, .i32⟩
  | 53 => ⟨S_, .i32⟩
  | 54 => ⟨S4096, .i32⟩
  | 55 => ⟨S4096, .i32⟩
  | 56 => ⟨S_, .i32⟩
  | 57 => ⟨S4096, .i32⟩
  | 58 => ⟨S4096, .i32⟩
  | 59 => ⟨S_, .i32⟩
  | 60 => ⟨S4096, .i32⟩
  | 61 => ⟨S4096, .i32⟩
  | 62 => ⟨S_, .i32⟩
  | 63 => ⟨S4096, .i32⟩
  | 64 => ⟨S4096, .i32⟩
  | 65 => ⟨S16x4096x64, .f32⟩
  | 66 => ⟨S_, .i32⟩
  | 67 => ⟨S_, .f32⟩
  | 68 => ⟨S16x4097x64, .f32⟩
  | 69 => ⟨S16x4096x64, .f32⟩
  | 70 => ⟨S_, .f32⟩
  | 71 => ⟨S16x4096x64, .f32⟩
  | 72 => ⟨S16x4096x64, .f32⟩
  | 73 => ⟨S16x4096x64, .f32⟩
  | 74 => ⟨S16x4096x64, .f32⟩
  | 75 => ⟨S4096, .i32⟩
  | 76 => ⟨S_, .i32⟩
  | 77 => ⟨S4096, .i32⟩
  | 78 => ⟨S4096, .i32⟩
  | 79 => ⟨S4096, .f32⟩
  | 80 => ⟨S1x4096x1, .f32⟩
  | 81 => ⟨S16x4096x64, .f32⟩
  | 82 => ⟨S16x4096x64, .f32⟩
  | 83 => ⟨S16x4096x64, .f32⟩
  | 84 => ⟨S1x64x64, .f32⟩
  | 85 => ⟨S64x64, .f32⟩
  | 86 => ⟨S16x4096x64, .f32⟩
  | 87 => ⟨S_, .i32⟩
  | 88 => ⟨S4096, .i32⟩
  | 89 => ⟨S4096, .i32⟩
  | 90 => ⟨S_, .i32⟩
  | 91 => ⟨S4096, .i32⟩
  | 92 => ⟨S4096, .i32⟩
  | 93 => ⟨S_, .i32⟩
  | 94 => ⟨S4096, .i32⟩
  | 95 => ⟨S4096, .i32⟩
  | 96 => ⟨S_, .i32⟩
  | 97 => ⟨S4096, .i32⟩
  | 98 => ⟨S4096, .i32⟩
  | 99 => ⟨S_, .i32⟩
  | 100 => ⟨S4096, .i32⟩
  | 101 => ⟨S4096, .i32⟩
  | 102 => ⟨S16x4096x64, .f32⟩
  | 103 => ⟨S_, .i32⟩
  | 104 => ⟨S_, .f32⟩
  | 105 => ⟨S16x4099x64, .f32⟩
  | 106 => ⟨S16x4096x64, .f32⟩
  | 107 => ⟨S_, .f32⟩
  | 108 => ⟨S16x4096x64, .f32⟩
  | 109 => ⟨S16x4096x64, .f32⟩
  | 110 => ⟨S16x4096x64, .f32⟩
  | 111 => ⟨S16x4096x64, .f32⟩
  | 112 => ⟨S16x4096x64, .f32⟩
  | 113 => ⟨S16x4096x64, .f32⟩
  | 114 => ⟨S16x4096x64, .f32⟩
  | 115 => ⟨S16x4096x64, .f32⟩
  | 116 => ⟨S4096, .i32⟩
  | 117 => ⟨S_, .i32⟩
  | 118 => ⟨S4096, .i32⟩
  | 119 => ⟨S4096, .i32⟩
  | 120 => ⟨S4096, .f32⟩
  | 121 => ⟨S1x4096x1, .f32⟩
  | 122 => ⟨S16x4096x64, .f32⟩
  | 123 => ⟨S16x4096x64, .f32⟩
  | 124 => ⟨S16x4096x64, .f32⟩
  | 125 => ⟨S1x64x64, .f32⟩
  | 126 => ⟨S64x64, .f32⟩
  | 127 => ⟨S16x4096x64, .f32⟩
  | _ => ⟨S16x4096x1024, .f32⟩

abbrev hbmTy0_1 (i : Nat) : BufTy := match i % 128 with
  | 0 => ⟨S_, .i32⟩
  | 1 => ⟨S4096, .i32⟩
  | 2 => ⟨S4096, .i32⟩
  | 3 => ⟨S_, .i32⟩
  | 4 => ⟨S4096, .i32⟩
  | 5 => ⟨S4096, .i32⟩
  | 6 => ⟨S_, .i32⟩
  | 7 => ⟨S4096, .i32⟩
  | 8 => ⟨S4096, .i32⟩
  | 9 => ⟨S_, .i32⟩
  | 10 => ⟨S4096, .i32⟩
  | 11 => ⟨S4096, .i32⟩
  | 12 => ⟨S_, .i32⟩
  | 13 => ⟨S4096, .i32⟩
  | 14 => ⟨S4096, .i32⟩
  | 15 => ⟨S16x4096x64, .f32⟩
  | 16 => ⟨S_, .i32⟩
  | 17 => ⟨S_, .f32⟩
  | 18 => ⟨S16x4103x64, .f32⟩
  | 19 => ⟨S16x4096x64, .f32⟩
  | 20 => ⟨S_, .f32⟩
  | 21 => ⟨S16x4096x64, .f32⟩
  | 22 => ⟨S16x4096x64, .f32⟩
  | 23 => ⟨S16x4096x64, .f32⟩
  | 24 => ⟨S16x4096x64, .f32⟩
  | 25 => ⟨S16x4096x64, .f32⟩
  | 26 => ⟨S16x4096x64, .f32⟩
  | 27 => ⟨S16x4096x64, .f32⟩
  | 28 => ⟨S16x4096x64, .f32⟩
  | 29 => ⟨S16x4096x64, .f32⟩
  | 30 => ⟨S16x4096x64, .f32⟩
  | 31 => ⟨S16x4096x64, .f32⟩
  | 32 => ⟨S16x4096x64, .f32⟩
  | 33 => ⟨S16x4096x64, .f32⟩
  | 34 => ⟨S16x4096x64, .f32⟩
  | 35 => ⟨S16x4096x64, .f32⟩
  | 36 => ⟨S16x4096x64, .f32⟩
  | 37 => ⟨S4096, .i32⟩
  | 38 => ⟨S_, .i32⟩
  | 39 => ⟨S4096, .i32⟩
  | 40 => ⟨S4096, .i32⟩
  | 41 => ⟨S4096, .f32⟩
  | 42 => ⟨S1x4096x1, .f32⟩
  | 43 => ⟨S16x4096x64, .f32⟩
  | 44 => ⟨S16x4096x64, .f32⟩
  | 45 => ⟨S16x4096x64, .f32⟩
  | 46 => ⟨S1x64x64, .f32⟩
  | 47 => ⟨S64x64, .f32⟩
  | 48 => ⟨S16x4096x64, .f32⟩
  | 49 => ⟨S_, .i32⟩
  | 50 => ⟨S4096, .i32⟩
  | 51 => ⟨S4096, .i32⟩
  | 52 => ⟨S_, .i32⟩
  | 53 => ⟨S4096, .i32⟩
  | 54 => ⟨S4096, .i32⟩
  | 55 => ⟨S_, .i32⟩
  | 56 => ⟨S4096, .i32⟩
  | 57 => ⟨S4096, .i32⟩
  | 58 => ⟨S_, .i32⟩
  | 59 => ⟨S4096, .i32⟩
  | 60 => ⟨S4096, .i32⟩
  | 61 => ⟨S_, .i32⟩
  | 62 => ⟨S4096, .i32⟩
  | 63 => ⟨S4096, .i32⟩
  | 64 => ⟨S16x4096x64, .f32⟩
  | 65 => ⟨S_, .i32⟩
  | 66 => ⟨S_, .f32⟩
  | 67 => ⟨S16x4111x64, .f32⟩
  | 68 => ⟨S16x4096x64, .f32⟩
  | 69 => ⟨S_, .f32⟩
  | 70 => ⟨S16x4096x64, .f32⟩
  | 71 => ⟨S16x4096x64, .f32⟩
  | 72 => ⟨S16x4096x64, .f32⟩
  | 73 => ⟨S16x4096x64, .f32⟩
  | 74 => ⟨S16x4096x64, .f32⟩
  | 75 => ⟨S16x4096x64, .f32⟩
  | 76 => ⟨S16x4096x64, .f32⟩
  | 77 => ⟨S16x4096x64, .f32⟩
  | 78 => ⟨S16x4096x64, .f32⟩
  | 79 => ⟨S16x4096x64, .f32⟩
  | 80 => ⟨S16x4096x64, .f32⟩
  | 81 => ⟨S16x4096x64, .f32⟩
  | 82 => ⟨S16x4096x64, .f32⟩
  | 83 => ⟨S16x4096x64, .f32⟩
  | 84 => ⟨S16x4096x64, .f32⟩
  | 85 => ⟨S16x4096x64, .f32⟩
  | 86 => ⟨S16x4096x64, .f32⟩
  | 87 => ⟨S16x4096x64, .f32⟩
  | 88 => ⟨S16x4096x64, .f32⟩
  | 89 => ⟨S16x4096x64, .f32⟩
  | 90 => ⟨S16x4096x64, .f32⟩
  | 91 => ⟨S16x4096x64, .f32⟩
  | 92 => ⟨S16x4096x64, .f32⟩
  | 93 => ⟨S16x4096x64, .f32⟩
  | 94 => ⟨S16x4096x64, .f32⟩
  | 95 => ⟨S16x4096x64, .f32⟩
  | 96 => ⟨S16x4096x64, .f32⟩
  | 97 => ⟨S16x4096x64, .f32⟩
  | 98 => ⟨S16x4096x64, .f32⟩
  | 99 => ⟨S16x4096x64, .f32⟩
  | 100 => ⟨S16x4096x64, .f32⟩
  | 101 => ⟨S16x4096x64, .f32⟩
  | 102 => ⟨S4096, .i32⟩
  | 103 => ⟨S_, .i32⟩
  | 104 => ⟨S4096, .i32⟩
  | 105 => ⟨S4096, .i32⟩
  | 106 => ⟨S4096, .f32⟩
  | 107 => ⟨S1x4096x1, .f32⟩
  | 108 => ⟨S16x4096x64, .f32⟩
  | 109 => ⟨S16x4096x64, .f32⟩
  | 110 => ⟨S16x4096x64, .f32⟩
  | 111 => ⟨S1x64x64, .f32⟩
  | 112 => ⟨S64x64, .f32⟩
  | 113 => ⟨S16x4096x64, .f32⟩
  | 114 => ⟨S16x4096x256, .f32⟩
  | 115 => ⟨S1x1x256, .f32⟩
  | 116 => ⟨S16x4096x256, .f32⟩
  | 117 => ⟨S16x4096x256, .f32⟩
  | 118 => ⟨S16x4096x1024, .f32⟩
  | 119 => ⟨S16x1x1024, .f32⟩
  | 120 => ⟨S16x4096x1024, .f32⟩
  | 121 => ⟨S16x4096x1024, .f32⟩
  | 122 => ⟨S16x4096x1024, .f32⟩
  | 123 => ⟨S16x4096x1024, .f32⟩
  | 124 => ⟨S16x4096x1024, .f32⟩
  | 125 => ⟨S_, .f32⟩
  | 126 => ⟨S16x4096, .f32⟩
  | 127 => ⟨S16x4096x1, .f32⟩
  | _ => ⟨S16x4096x1024, .f32⟩

abbrev hbmTy0_2 (i : Nat) : BufTy := match i % 128 with
  | 0 => ⟨S_, .f32⟩
  | 1 => ⟨S16x4096x1, .f32⟩
  | 2 => ⟨S16x4096x1, .f32⟩
  | 3 => ⟨S_, .f32⟩
  | 4 => ⟨S16x4096x1, .f32⟩
  | 5 => ⟨S16x4096x1, .f32⟩
  | 6 => ⟨S16x4096x1, .f32⟩
  | 7 => ⟨S16x4096x1024, .f32⟩
  | 8 => ⟨S16x4096x1024, .f32⟩
  | 9 => ⟨S1x1x1024, .f32⟩
  | 10 => ⟨S16x4096x1024, .f32⟩
  | 11 => ⟨S16x4096x1024, .f32⟩
  | 12 => ⟨S16x1x1024, .f32⟩
  | 13 => ⟨S_, .f32⟩
  | 14 => ⟨S16x1x1024, .f32⟩
  | 15 => ⟨S16x1x1024, .f32⟩
  | 16 => ⟨S16x4096x1024, .f32⟩
  | 17 => ⟨S16x4096x1024, .f32⟩
  | 18 => ⟨S16x1x1024, .f32⟩
  | 19 => ⟨S16x4096x1024, .f32⟩
  | 20 => ⟨S16x4096x1024, .f32⟩
  | 21 => ⟨S16x1x1024, .f32⟩
  | 22 => ⟨S16x4096x4096, .f32⟩
  | 23 => ⟨S_, .f32⟩
  | 24 => ⟨S16x4096x4096, .f32⟩
  | 25 => ⟨S16x4096x4096, .f32⟩
  | 26 => ⟨S16x4096x4096, .f32⟩
  | 27 => ⟨S16x4096x1024, .f32⟩
  | 28 => ⟨S16x4096x1024, .f32⟩
  | 29 => ⟨S16x4096x1024, .f32⟩
  | 30 => ⟨S16x4096x1024, .f32⟩
  | 31 => ⟨S16x4096x1024, .f32⟩
  | 32 => ⟨S_, .f32⟩
  | 33 => ⟨S16x4096, .f32⟩
  | 34 => ⟨S16x4096x1, .f32⟩
  | 35 => ⟨S_, .f32⟩
  | 36 => ⟨S16x4096x1, .f32⟩
  | 37 => ⟨S16x4096x1, .f32⟩
  | 38 => ⟨S_, .f32⟩
  | 39 => ⟨S16x4096x1, .f32⟩
  | 40 => ⟨S16x4096x1, .f32⟩
  | 41 => ⟨S16x4096x1, .f32⟩
  | 42 => ⟨S16x4096x1024, .f32⟩
  | 43 => ⟨S16x4096x1024, .f32⟩
  | 44 => ⟨S1x1x1024, .f32⟩
  | 45 => ⟨S16x4096x1024, .f32⟩
  | 46 => ⟨S16x4096x1024, .f32⟩
  | _ => ⟨S16x4096x1024, .f32⟩

abbrev hbmTy (i : Nat) : BufTy := match i / 128 with
  | 0 => hbmTy0_0 i
  | 1 => hbmTy0_1 i
  | 2 => hbmTy0_2 i
  | _ => ⟨S16x4096x1024, .f32⟩

abbrev bufTy : (tb : Table) → Fin (tcTables nBuf tb) → BufTy
  | .hbm, ⟨i, _⟩ => hbmTy i
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_c : Ref sig .tc := ⟨.hbm, 21, rfl⟩
abbrev main_call0_v0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_0 : Ref sig .tc := ⟨.hbm, 50, rfl⟩
abbrev main_v31 : Ref sig .tc := ⟨.hbm, 51, rfl⟩
abbrev main_v32 : Ref sig .tc := ⟨.hbm, 52, rfl⟩
abbrev main_c_1 : Ref sig .tc := ⟨.hbm, 53, rfl⟩
abbrev main_v33 : Ref sig .tc := ⟨.hbm, 54, rfl⟩
abbrev main_v34 : Ref sig .tc := ⟨.hbm, 55, rfl⟩
abbrev main_c_2 : Ref sig .tc := ⟨.hbm, 56, rfl⟩
abbrev main_v35 : Ref sig .tc := ⟨.hbm, 57, rfl⟩
abbrev main_v36 : Ref sig .tc := ⟨.hbm, 58, rfl⟩
abbrev main_c_3 : Ref sig .tc := ⟨.hbm, 59, rfl⟩
abbrev main_v37 : Ref sig .tc := ⟨.hbm, 60, rfl⟩
abbrev main_v38 : Ref sig .tc := ⟨.hbm, 61, rfl⟩
abbrev main_c_4 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_c_5 : Ref sig .tc := ⟨.hbm, 66, rfl⟩
abbrev main_call1_v0 : Ref sig .tc := ⟨.hbm, 67, rfl⟩
abbrev main_v42 : Ref sig .tc := ⟨.hbm, 68, rfl⟩
abbrev main_v43 : Ref sig .tc := ⟨.hbm, 69, rfl⟩
abbrev main_cst_6 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_c_7 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_c_8 : Ref sig .tc := ⟨.hbm, 87, rfl⟩
abbrev main_v59 : Ref sig .tc := ⟨.hbm, 88, rfl⟩
abbrev main_v60 : Ref sig .tc := ⟨.hbm, 89, rfl⟩
abbrev main_c_9 : Ref sig .tc := ⟨.hbm, 90, rfl⟩
abbrev main_v61 : Ref sig .tc := ⟨.hbm, 91, rfl⟩
abbrev main_v62 : Ref sig .tc := ⟨.hbm, 92, rfl⟩
abbrev main_c_10 : Ref sig .tc := ⟨.hbm, 93, rfl⟩
abbrev main_v63 : Ref sig .tc := ⟨.hbm, 94, rfl⟩
abbrev main_v64 : Ref sig .tc := ⟨.hbm, 95, rfl⟩
abbrev main_c_11 : Ref sig .tc := ⟨.hbm, 96, rfl⟩
abbrev main_v65 : Ref sig .tc := ⟨.hbm, 97, rfl⟩
abbrev main_v66 : Ref sig .tc := ⟨.hbm, 98, rfl⟩
abbrev main_c_12 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_c_13 : Ref sig .tc := ⟨.hbm, 103, rfl⟩
abbrev main_call2_v0 : Ref sig .tc := ⟨.hbm, 104, rfl⟩
abbrev main_v70 : Ref sig .tc := ⟨.hbm, 105, rfl⟩
abbrev main_v71 : Ref sig .tc := ⟨.hbm, 106, rfl⟩
abbrev main_cst_14 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_c_15 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_c_16 : Ref sig .tc := ⟨.hbm, 128, rfl⟩
abbrev main_v91 : Ref sig .tc := ⟨.hbm, 129, rfl⟩
abbrev main_v92 : Ref sig .tc := ⟨.hbm, 130, rfl⟩
abbrev main_c_17 : Ref sig .tc := ⟨.hbm, 131, rfl⟩
abbrev main_v93 : Ref sig .tc := ⟨.hbm, 132, rfl⟩
abbrev main_v94 : Ref sig .tc := ⟨.hbm, 133, rfl⟩
abbrev main_c_18 : Ref sig .tc := ⟨.hbm, 134, rfl⟩
abbrev main_v95 : Ref sig .tc := ⟨.hbm, 135, rfl⟩
abbrev main_v96 : Ref sig .tc := ⟨.hbm, 136, rfl⟩
abbrev main_c_19 : Ref sig .tc := ⟨.hbm, 137, rfl⟩
abbrev main_v97 : Ref sig .tc := ⟨.hbm, 138, rfl⟩
abbrev main_v98 : Ref sig .tc := ⟨.hbm, 139, rfl⟩
abbrev main_c_20 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_c_21 : Ref sig .tc := ⟨.hbm, 144, rfl⟩
abbrev main_call3_v0 : Ref sig .tc := ⟨.hbm, 145, rfl⟩
abbrev main_v102 : Ref sig .tc := ⟨.hbm, 146, rfl⟩
abbrev main_v103 : Ref sig .tc := ⟨.hbm, 147, rfl⟩
abbrev main_cst_22 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_c_23 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_c_24 : Ref sig .tc := ⟨.hbm, 177, rfl⟩
abbrev main_v131 : Ref sig .tc := ⟨.hbm, 178, rfl⟩
abbrev main_v132 : Ref sig .tc := ⟨.hbm, 179, rfl⟩
abbrev main_c_25 : Ref sig .tc := ⟨.hbm, 180, rfl⟩
abbrev main_v133 : Ref sig .tc := ⟨.hbm, 181, rfl⟩
abbrev main_v134 : Ref sig .tc := ⟨.hbm, 182, rfl⟩
abbrev main_c_26 : Ref sig .tc := ⟨.hbm, 183, rfl⟩
abbrev main_v135 : Ref sig .tc := ⟨.hbm, 184, rfl⟩
abbrev main_v136 : Ref sig .tc := ⟨.hbm, 185, rfl⟩
abbrev main_c_27 : Ref sig .tc := ⟨.hbm, 186, rfl⟩
abbrev main_v137 : Ref sig .tc := ⟨.hbm, 187, rfl⟩
abbrev main_v138 : Ref sig .tc := ⟨.hbm, 188, rfl⟩
abbrev main_c_28 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_c_29 : Ref sig .tc := ⟨.hbm, 193, rfl⟩
abbrev main_call4_v0 : Ref sig .tc := ⟨.hbm, 194, rfl⟩
abbrev main_v142 : Ref sig .tc := ⟨.hbm, 195, rfl⟩
abbrev main_v143 : Ref sig .tc := ⟨.hbm, 196, rfl⟩
abbrev main_cst_30 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩
abbrev main_v155 : Ref sig .tc := ⟨.hbm, 209, rfl⟩
abbrev main_v156 : Ref sig .tc := ⟨.hbm, 210, rfl⟩
abbrev main_v157 : Ref sig .tc := ⟨.hbm, 211, rfl⟩
abbrev main_v158 : Ref sig .tc := ⟨.hbm, 212, rfl⟩
abbrev main_v159 : Ref sig .tc := ⟨.hbm, 213, rfl⟩
abbrev main_v160 : Ref sig .tc := ⟨.hbm, 214, rfl⟩
abbrev main_v161 : Ref sig .tc := ⟨.hbm, 215, rfl⟩
abbrev main_v162 : Ref sig .tc := ⟨.hbm, 216, rfl⟩
abbrev main_v163 : Ref sig .tc := ⟨.hbm, 217, rfl⟩
abbrev main_v164 : Ref sig .tc := ⟨.hbm, 218, rfl⟩
abbrev main_v165 : Ref sig .tc := ⟨.hbm, 219, rfl⟩
abbrev main_v166 : Ref sig .tc := ⟨.hbm, 220, rfl⟩
abbrev main_v167 : Ref sig .tc := ⟨.hbm, 221, rfl⟩
abbrev main_v168 : Ref sig .tc := ⟨.hbm, 222, rfl⟩
abbrev main_v169 : Ref sig .tc := ⟨.hbm, 223, rfl⟩
abbrev main_v170 : Ref sig .tc := ⟨.hbm, 224, rfl⟩
abbrev main_v171 : Ref sig .tc := ⟨.hbm, 225, rfl⟩
abbrev main_v172 : Ref sig .tc := ⟨.hbm, 226, rfl⟩
abbrev main_v173 : Ref sig .tc := ⟨.hbm, 227, rfl⟩
abbrev main_v174 : Ref sig .tc := ⟨.hbm, 228, rfl⟩
abbrev main_v175 : Ref sig .tc := ⟨.hbm, 229, rfl⟩
abbrev main_v176 : Ref sig .tc := ⟨.hbm, 230, rfl⟩
abbrev main_c_31 : Ref sig .tc := ⟨.hbm, 231, rfl⟩
abbrev main_v177 : Ref sig .tc := ⟨.hbm, 232, rfl⟩
abbrev main_v178 : Ref sig .tc := ⟨.hbm, 233, rfl⟩
abbrev main_v179 : Ref sig .tc := ⟨.hbm, 234, rfl⟩
abbrev main_v180 : Ref sig .tc := ⟨.hbm, 235, rfl⟩
abbrev main_v181 : Ref sig .tc := ⟨.hbm, 236, rfl⟩
abbrev main_v182 : Ref sig .tc := ⟨.hbm, 237, rfl⟩
abbrev main_v183 : Ref sig .tc := ⟨.hbm, 238, rfl⟩
abbrev main_v184 : Ref sig .tc := ⟨.hbm, 239, rfl⟩
abbrev main_v185 : Ref sig .tc := ⟨.hbm, 240, rfl⟩
abbrev main_v186 : Ref sig .tc := ⟨.hbm, 241, rfl⟩
abbrev main_v187 : Ref sig .tc := ⟨.hbm, 242, rfl⟩
abbrev main_v188 : Ref sig .tc := ⟨.hbm, 243, rfl⟩
abbrev main_v189 : Ref sig .tc := ⟨.hbm, 244, rfl⟩
abbrev main_v190 : Ref sig .tc := ⟨.hbm, 245, rfl⟩
abbrev main_v191 : Ref sig .tc := ⟨.hbm, 246, rfl⟩
abbrev main_v192 : Ref sig .tc := ⟨.hbm, 247, rfl⟩
abbrev main_v193 : Ref sig .tc := ⟨.hbm, 248, rfl⟩
abbrev main_v194 : Ref sig .tc := ⟨.hbm, 249, rfl⟩
abbrev main_v195 : Ref sig .tc := ⟨.hbm, 250, rfl⟩
abbrev main_v196 : Ref sig .tc := ⟨.hbm, 251, rfl⟩
abbrev main_v197 : Ref sig .tc := ⟨.hbm, 252, rfl⟩
abbrev main_cst_32 : Ref sig .tc := ⟨.hbm, 253, rfl⟩
abbrev main_v198 : Ref sig .tc := ⟨.hbm, 254, rfl⟩
abbrev main_v199 : Ref sig .tc := ⟨.hbm, 255, rfl⟩
abbrev main_cst_33 : Ref sig .tc := ⟨.hbm, 256, rfl⟩
abbrev main_v200 : Ref sig .tc := ⟨.hbm, 257, rfl⟩
abbrev main_v201 : Ref sig .tc := ⟨.hbm, 258, rfl⟩
abbrev main_cst_34 : Ref sig .tc := ⟨.hbm, 259, rfl⟩
abbrev main_v202 : Ref sig .tc := ⟨.hbm, 260, rfl⟩
abbrev main_v203 : Ref sig .tc := ⟨.hbm, 261, rfl⟩
abbrev main_v204 : Ref sig .tc := ⟨.hbm, 262, rfl⟩
abbrev main_v205 : Ref sig .tc := ⟨.hbm, 263, rfl⟩
abbrev main_v206 : Ref sig .tc := ⟨.hbm, 264, rfl⟩
abbrev main_v207 : Ref sig .tc := ⟨.hbm, 265, rfl⟩
abbrev main_v208 : Ref sig .tc := ⟨.hbm, 266, rfl⟩
abbrev main_v209 : Ref sig .tc := ⟨.hbm, 267, rfl⟩
abbrev main_v210 : Ref sig .tc := ⟨.hbm, 268, rfl⟩
abbrev main_cst_35 : Ref sig .tc := ⟨.hbm, 269, rfl⟩
abbrev main_v211 : Ref sig .tc := ⟨.hbm, 270, rfl⟩
abbrev main_v212 : Ref sig .tc := ⟨.hbm, 271, rfl⟩
abbrev main_v213 : Ref sig .tc := ⟨.hbm, 272, rfl⟩
abbrev main_v214 : Ref sig .tc := ⟨.hbm, 273, rfl⟩
abbrev main_v215 : Ref sig .tc := ⟨.hbm, 274, rfl⟩
abbrev main_v216 : Ref sig .tc := ⟨.hbm, 275, rfl⟩
abbrev main_v217 : Ref sig .tc := ⟨.hbm, 276, rfl⟩
abbrev main_v218 : Ref sig .tc := ⟨.hbm, 277, rfl⟩
abbrev main_v219 : Ref sig .tc := ⟨.hbm, 278, rfl⟩
abbrev main_call5_cst : Ref sig .tc := ⟨.hbm, 279, rfl⟩
abbrev main_call5_v0 : Ref sig .tc := ⟨.hbm, 280, rfl⟩
abbrev main_v220 : Ref sig .tc := ⟨.hbm, 281, rfl⟩
abbrev main_v221 : Ref sig .tc := ⟨.hbm, 282, rfl⟩
abbrev main_v222 : Ref sig .tc := ⟨.hbm, 283, rfl⟩
abbrev main_v223 : Ref sig .tc := ⟨.hbm, 284, rfl⟩
abbrev main_v224 : Ref sig .tc := ⟨.hbm, 285, rfl⟩
abbrev main_v225 : Ref sig .tc := ⟨.hbm, 286, rfl⟩
abbrev main_v226 : Ref sig .tc := ⟨.hbm, 287, rfl⟩
abbrev main_cst_36 : Ref sig .tc := ⟨.hbm, 288, rfl⟩
abbrev main_v227 : Ref sig .tc := ⟨.hbm, 289, rfl⟩
abbrev main_v228 : Ref sig .tc := ⟨.hbm, 290, rfl⟩
abbrev main_cst_37 : Ref sig .tc := ⟨.hbm, 291, rfl⟩
abbrev main_v229 : Ref sig .tc := ⟨.hbm, 292, rfl⟩
abbrev main_v230 : Ref sig .tc := ⟨.hbm, 293, rfl⟩
abbrev main_cst_38 : Ref sig .tc := ⟨.hbm, 294, rfl⟩
abbrev main_v231 : Ref sig .tc := ⟨.hbm, 295, rfl⟩
abbrev main_v232 : Ref sig .tc := ⟨.hbm, 296, rfl⟩
abbrev main_v233 : Ref sig .tc := ⟨.hbm, 297, rfl⟩
abbrev main_v234 : Ref sig .tc := ⟨.hbm, 298, rfl⟩
abbrev main_v235 : Ref sig .tc := ⟨.hbm, 299, rfl⟩
abbrev main_v236 : Ref sig .tc := ⟨.hbm, 300, rfl⟩
abbrev main_v237 : Ref sig .tc := ⟨.hbm, 301, rfl⟩
abbrev main_v238 : Ref sig .tc := ⟨.hbm, 302, rfl⟩

abbrev nD : Nat := 1
abbrev τ : Topo := Topo.v7x

variable {F : FTy → Type} [FloatOps F]
-- ==== Proof.Terms.lean ====
/- The values one grid step of the attention kernel computes, as expressions of the blocks it reads: a head's scores
   on a run of keys, the running maximum, a head's weighted values, and the four heads laid side by side. The frame
   certificate's piece lists are these. -/
module

public import proofs.«01_k».proof.Proof.Gen.KernelIdeal.Frame

@[expose] public section

set_option maxRecDepth 16384

noncomputable section

namespace Cert.Attn

open Cert.KernelIdeal Cert.KernelIdeal.Gen Idealize.ShloMosaic Idealize.ShloMosaic.TcCoe
open Idealize.SL.Sem

variable {F : FTy → Type} [FloatOps F]

/-! ## Scores and their maximum -/

/-- Scores of 2048 keys against 256 queries in one head. -/
def scoreL (k : Vec F S1x2048x128 .bf16) (q : Vec F S1x256x128 .bf16) : FVec F S2048x256 .f32 :=
  matmul dot_S2048x128_S256x128_S2048x256_1_1_0_0_n_n none (shapeCast S2048x128 k shapeCasts_S1x2048x128_S2048x128)
    (shapeCast S256x128 q shapeCasts_S1x256x128_S256x128) (constant S2048x256 .f32 0x00000000#32)

/-- Scores of the 256 context keys against 256 queries in one head. -/
def scoreS (k : Vec F S1x256x128 .bf16) (q : Vec F S1x256x128 .bf16) : FVec F S256x256 .f32 :=
  matmul dot_S256x128_S256x128_S256x256_1_1_0_0_n_n none (shapeCast S256x128 k shapeCasts_S1x256x128_S256x128)
    (shapeCast S256x128 q shapeCasts_S1x256x128_S256x128) (constant S256x256 .f32 0x00000000#32)

/-- Each query's maximum over 2048 keys. -/
def maxL (s : FVec F S2048x256 .f32) : FVec F S1x256 .f32 :=
  shapeCast S1x256 (multiReduction .maximumf [0] S256 s 0xFF800000#32 reduces_S2048x256_S256 (.inl rfl) rfl)
    shapeCasts_S256_S1x256

/-- Each query's maximum over the 256 context keys. -/
def maxS (s : FVec F S256x256 .f32) : FVec F S1x256 .f32 :=
  shapeCast S1x256 (multiReduction .maximumf [0] S256 s 0xFF800000#32 reduces_S256x256_S256 (.inl rfl) rfl)
    shapeCasts_S256_S1x256

/-! ## Rectangles, by head -/

theorem inbQ (h : Fin 4) : ∀ a, (![0, 0, 128 * h.val] : Fin 3 → ℕ) a + S1x256x128.size a ≤ S1x256x512.size a := by
  revert h; decide +kernel
theorem inbK (h : Fin 4) (o : Fin 2) :
    ∀ a, (![0, 2048 * o.val, 128 * h.val] : Fin 3 → ℕ) a + S1x2048x128.size a ≤ S1x4096x512.size a := by
  revert h o; decide +kernel
theorem inbSL (h : Fin 4) (o : Fin 2) :
    ∀ a, (![h.val, 2048 * o.val, 0] : Fin 3 → ℕ) a + S1x2048x256.size a ≤ S4x4352x256.size a := by
  revert h o; decide +kernel
theorem inbSS (h : Fin 4) :
    ∀ a, (![h.val, 4096, 0] : Fin 3 → ℕ) a + S1x256x256.size a ≤ S4x4352x256.size a := by
  revert h; decide +kernel
theorem inbM (h : Fin 4) : ∀ a, (![h.val, 0, 0] : Fin 3 → ℕ) a + S1x1x256.size a ≤ S4x1x256.size a := by
  revert h; decide +kernel
theorem inbVL (h : Fin 4) (o : Fin 2) :
    ∀ a, (![0, 64 * h.val, 2048 * o.val] : Fin 3 → ℕ) a + S1x64x2048.size a ≤ S1x256x4096.size a := by
  revert h o; decide +kernel
theorem inbVS (h : Fin 4) :
    ∀ a, (![0, 64 * h.val, 0] : Fin 3 → ℕ) a + S1x64x256.size a ≤ S1x256x256.size a := by
  revert h; decide +kernel

/-- A head's lanes of a query tile. -/
def ldQ (q : Vec F S1x256x512 .bf16) (h : Fin 4) : Vec F S1x256x128 .bf16 :=
  View.ld q (Rect.unit ![0, 0, 128 * h.val] S1x256x128.size (inbQ h))
/-- A head's lanes of half of the latent keys. -/
def ldK (k : Vec F S1x4096x512 .bf16) (h : Fin 4) (o : Fin 2) : Vec F S1x2048x128 .bf16 :=
  View.ld k (Rect.unit ![0, 2048 * o.val, 128 * h.val] S1x2048x128.size (inbK h o))
/-- A head's scores on half of the latent keys. -/
def ldSL (s : Vec F S4x4352x256 .f32) (h : Fin 4) (o : Fin 2) : Vec F S1x2048x256 .f32 :=
  View.ld s (Rect.unit ![h.val, 2048 * o.val, 0] S1x2048x256.size (inbSL h o))
/-- A head's scores on the context keys. -/
def ldSS (s : Vec F S4x4352x256 .f32) (h : Fin 4) : Vec F S1x256x256 .f32 :=
  View.ld s (Rect.unit ![h.val, 4096, 0] S1x256x256.size (inbSS h))
/-- A head's maxima. -/
def ldM (m : Vec F S4x1x256 .f32) (h : Fin 4) : Vec F S1x1x256 .f32 :=
  View.ld m (Rect.unit ![h.val, 0, 0] S1x1x256.size (inbM h))
/-- A head's values on half of the latent keys. -/
def ldVL (v : Vec F S1x256x4096 .bf16) (h : Fin 4) (o : Fin 2) : Vec F S1x64x2048 .bf16 :=
  View.ld v (Rect.unit ![0, 64 * h.val, 2048 * o.val] S1x64x2048.size (inbVL h o))
/-- A head's values on the context keys. -/
def ldVS (v : Vec F S1x256x256 .bf16) (h : Fin 4) : Vec F S1x64x256 .bf16 :=
  View.ld v (Rect.unit ![0, 64 * h.val, 0] S1x64x256.size (inbVS h))

/-! ## What a step leaves in the score and maximum scratch -/

/-- A piece of scores on half of the latent keys. -/
def pieceL (k : Vec F S1x4096x512 .bf16) (q : Vec F S1x256x512 .bf16) (h : Fin 4) (o : Fin 2) :
    View.Piece (Elt F) S4x4352x256 .f32 :=
  ⟨Rect.unit ![h.val, 2048 * o.val, 0] S1x2048x256.size (inbSL h o),
    shapeCast S1x2048x256 (scoreL (ldK k h o) (ldQ q h)) shapeCasts_S2048x256_S1x2048x256⟩

/-- A piece of scores on the context keys. -/
def pieceS (k : Vec F S1x256x512 .bf16) (q : Vec F S1x256x512 .bf16) (h : Fin 4) :
    View.Piece (Elt F) S4x4352x256 .f32 :=
  ⟨Rect.unit ![h.val, 4096, 0] S1x256x256.size (inbSS h),
    shapeCast S1x256x256 (scoreS (ldQ k h) (ldQ q h)) shapeCasts_S256x256_S1x256x256⟩

/-- The scores of a query tile, as the stores leave them (last first). -/
def scPieces (k0 : Vec F S1x4096x512 .bf16) (k1 : Vec F S1x256x512 .bf16) (q : Vec F S1x256x512 .bf16) :
    List (View.Piece (Elt F) S4x4352x256 .f32) :=
  [pieceS k1 q 3, pieceL k0 q 3 1, pieceL k0 q 3 0, pieceS k1 q 2, pieceL k0 q 2 1, pieceL k0 q 2 0,
   pieceS k1 q 1, pieceL k0 q 1 1, pieceL k0 q 1 0, pieceS k1 q 0, pieceL k0 q 0 1, pieceL k0 q 0 0]

/-- A head's maxima over all the keys. -/
def headMax (k0 : Vec F S1x4096x512 .bf16) (k1 : Vec F S1x256x512 .bf16) (q : Vec F S1x256x512 .bf16) (h : Fin 4) :
    FVec F S1x1x256 .f32 :=
  shapeCast S1x1x256
    (maximumf (maximumf (maxL (scoreL (ldK k0 h 0) (ldQ q h))) (maxL (scoreL (ldK k0 h 1) (ldQ q h))))
      (maxS (scoreS (ldQ k1 h) (ldQ q h)))) shapeCasts_S1x256_S1x1x256

/-- A piece of maxima. -/
def pieceM (k0 : Vec F S1x4096x512 .bf16) (k1 : Vec F S1x256x512 .bf16) (q : Vec F S1x256x512 .bf16) (h : Fin 4) :
    View.Piece (Elt F) S4x1x256 .f32 :=
  ⟨Rect.unit ![h.val, 0, 0] S1x1x256.size (inbM h), headMax k0 k1 q h⟩

/-- The maxima of a query tile, as the stores leave them (last first). -/
def mxPieces (k0 : Vec F S1x4096x512 .bf16) (k1 : Vec F S1x256x512 .bf16) (q : Vec F S1x256x512 .bf16) :
    List (View.Piece (Elt F) S4x1x256 .f32) :=
  [pieceM k0 k1 q 3, pieceM k0 k1 q 2, pieceM k0 k1 q 1, pieceM k0 k1 q 0]

/-! ## A head's output -/

/-- The weights on 2048 keys: two to the power of the score less the maximum. -/
def probL (m : Vec F S1x1x256 .f32) (s : Vec F S1x2048x256 .f32) : FVec F S2048x256 .f32 :=
  exp2 (subf (shapeCast S2048x256 s shapeCasts_S1x2048x256_S2048x256)
    (broadcastTo S2048x256 (shapeCast S1x256 m shapeCasts_S1x1x256_S1x256) broadcasts_S1x256_S2048x256))

/-- The weights on the context keys. -/
def probS (m : Vec F S1x1x256 .f32) (s : Vec F S1x256x256 .f32) : FVec F S256x256 .f32 :=
  exp2 (subf (shapeCast S256x256 s shapeCasts_S1x256x256_S256x256)
    (broadcastTo S256x256 (shapeCast S1x256 m shapeCasts_S1x1x256_S1x256) broadcasts_S1x256_S256x256))

/-- The weights' sum over 2048 keys. -/
def sumL (p : FVec F S2048x256 .f32) : FVec F S1x256 .f32 :=
  shapeCast S1x256 (multiReduction .add [0] S256 p 0x00000000#32 reduces_S2048x256_S256 (.inl rfl) rfl)
    shapeCasts_S256_S1x256

/-- The weights' sum over the context keys. -/
def sumS (p : FVec F S256x256 .f32) : FVec F S1x256 .f32 :=
  shapeCast S1x256 (multiReduction .add [0] S256 p 0x00000000#32 reduces_S256x256_S256 (.inl rfl) rfl)
    shapeCasts_S256_S1x256

/-- The weighted values over 2048 keys. -/
def pvL (v : Vec F S1x64x2048 .bf16) (p : FVec F S2048x256 .f32) : FVec F S64x256 .f32 :=
  matmul dot_S64x2048_S2048x256_S64x256_1_0_0_1_n_n none (shapeCast S64x2048 v shapeCasts_S1x64x2048_S64x2048)
    (truncf .bf16 p bitsLt_bf16_f32) (constant S64x256 .f32 0x00000000#32)

/-- The weighted values over the context keys. -/
def pvS (v : Vec F S1x64x256 .bf16) (p : FVec F S256x256 .f32) : FVec F S64x256 .f32 :=
  matmul dot_S64x256_S256x256_S64x256_1_0_0_1_n_n none (shapeCast S64x256 v shapeCasts_S1x64x256_S64x256)
    (truncf .bf16 p bitsLt_bf16_f32) (constant S64x256 .f32 0x00000000#32)

/-- A head's output from its maxima, scores and values. -/
def headOut (m : Vec F S1x1x256 .f32) (s0 s1 : Vec F S1x2048x256 .f32) (s2 : Vec F S1x256x256 .f32)
    (v0 v1 : Vec F S1x64x2048 .bf16) (v2 : Vec F S1x64x256 .bf16) : FVec F S64x256 .f32 :=
  divf (addf (addf (pvL v0 (probL m s0)) (pvL v1 (probL m s1))) (pvS v2 (probS m s2)))
    (broadcastTo S64x256 (addf (addf (sumL (probL m s0)) (sumL (probL m s1))) (sumS (probS m s2)))
      broadcasts_S1x256_S64x256)

/-- The four heads side by side, a query per row. -/
def tileOut (o0 o1 o2 o3 : FVec F S64x256 .f32) : FVec F S1x256x256 .bf16 :=
  shapeCast S1x256x256
    (truncf .bf16
      (transpose S256x256 [1, 0]
        (concatenate S256x256 0 [⟨S64x256, o0⟩, ⟨S64x256, o1⟩, ⟨S64x256, o2⟩, ⟨S64x256, o3⟩]
          concatenates_S64x256_S64x256_S64x256_S64x256_S256x256_d0) transposes_S256x256_p1_0_S256x256)
      bitsLt_bf16_f32) shapeCasts_S256x256_S1x256x256

/-- A head's output from a tile's scores, maxima and values. -/
def headAtt (s : Vec F S4x4352x256 .f32) (m : Vec F S4x1x256 .f32) (v0 : Vec F S1x256x4096 .bf16)
    (v1 : Vec F S1x256x256 .bf16) (h : Fin 4) : FVec F S64x256 .f32 :=
  headOut (ldM m h) (ldSL s h 0) (ldSL s h 1) (ldSS s h) (ldVL v0 h 0) (ldVL v0 h 1) (ldVS v1 h)

/-- A query tile's attention from its scores, maxima and values. -/
def attOut (s : Vec F S4x4352x256 .f32) (m : Vec F S4x1x256 .f32) (v0 : Vec F S1x256x4096 .bf16)
    (v1 : Vec F S1x256x256 .bf16) : FVec F S1x256x256 .bf16 :=
  tileOut (headAtt s m v0 v1 0) (headAtt s m v0 v1 1) (headAtt s m v0 v1 2) (headAtt s m v0 v1 3)

/-! ## The pieces cover their arrays -/

/-- Blocks of one head and 256 keys tile the score pieces. -/
theorem scPieces_cover (k0 : Vec F S1x4096x512 .bf16) (k1 : Vec F S1x256x512 .bf16) (q : Vec F S1x256x512 .bf16) :
    ∀ y : S4x4352x256.Idx, ∃ p ∈ scPieces k0 k1 q, y ∈ p.1.set :=
  View.cover_of_tiledBy _ ![1, 256, 256] (by sl_kernel_rfl)

/-- A head each tiles the maxima. -/
theorem mxPieces_cover (k0 : Vec F S1x4096x512 .bf16) (k1 : Vec F S1x256x512 .bf16) (q : Vec F S1x256x512 .bf16) :
    ∀ y : S4x1x256.Idx, ∃ p ∈ mxPieces k0 k1 q, y ∈ p.1.set :=
  View.cover_of_tiledBy _ ![1, 1, 256] (by sl_kernel_rfl)

/-! ## Reading the scratch back within a step -/

/-- A head's output with its scores and maxima read back from the pieces stored. -/
def headCov (v : View sig .tc .vmem S4x4352x256 .f32) (w : View sig .tc .vmem S4x1x256 .f32)
    (Ls : List (View.Piece (Elt F) S4x4352x256 .f32)) (Lm : List (View.Piece (Elt F) S4x1x256 .f32))
    (v0 : Vec F S1x256x4096 .bf16) (v1 : Vec F S1x256x256 .bf16) (h : Fin 4) : FVec F S64x256 .f32 :=
  headOut (w.readCov Lm (Rect.unit (s := S4x1x256) ![h.val, 0, 0] S1x1x256.size (inbM h)).toLoadRect)
    (v.readCov Ls (Rect.unit (s := S4x4352x256) ![h.val, 2048 * (0 : Fin 2).val, 0] S1x2048x256.size (inbSL h 0)).toLoadRect)
    (v.readCov Ls (Rect.unit (s := S4x4352x256) ![h.val, 2048 * (1 : Fin 2).val, 0] S1x2048x256.size (inbSL h 1)).toLoadRect)
    (v.readCov Ls (Rect.unit (s := S4x4352x256) ![h.val, 4096, 0] S1x256x256.size (inbSS h)).toLoadRect) (ldVL v0 h 0) (ldVL v0 h 1) (ldVS v1 h)

theorem headCov_eq (v : View sig .tc .vmem S4x4352x256 .f32) (w : View sig .tc .vmem S4x1x256 .f32)
    (Ls : List (View.Piece (Elt F) S4x4352x256 .f32)) (Lm : List (View.Piece (Elt F) S4x1x256 .f32))
    (hs : ∀ y, ∃ p ∈ Ls, y ∈ p.1.set) (hm : ∀ y, ∃ p ∈ Lm, y ∈ p.1.set)
    (v0 : Vec F S1x256x4096 .bf16) (v1 : Vec F S1x256x256 .bf16) (h : Fin 4) :
    headCov v w Ls Lm v0 v1 h = headAtt (View.canon Ls) (View.canon Lm) v0 v1 h := by
  unfold headCov
  rw [View.readCov_eq_canon_ld _ _ _ hm, View.readCov_eq_canon_ld _ _ _ hs, View.readCov_eq_canon_ld _ _ _ hs,
    View.readCov_eq_canon_ld _ _ _ hs]
  rfl

/-- The four heads so read. -/
theorem tileCov_eq (v : View sig .tc .vmem S4x4352x256 .f32) (w : View sig .tc .vmem S4x1x256 .f32)
    (k0 : Vec F S1x4096x512 .bf16) (k1 : Vec F S1x256x512 .bf16) (q : Vec F S1x256x512 .bf16)
    (v0 : Vec F S1x256x4096 .bf16) (v1 : Vec F S1x256x256 .bf16) :
    tileOut (headCov v w (scPieces k0 k1 q) (mxPieces k0 k1 q) v0 v1 0)
      (headCov v w (scPieces k0 k1 q) (mxPieces k0 k1 q) v0 v1 1)
      (headCov v w (scPieces k0 k1 q) (mxPieces k0 k1 q) v0 v1 2)
      (headCov v w (scPieces k0 k1 q) (mxPieces k0 k1 q) v0 v1 3)
    = attOut (View.canon (scPieces k0 k1 q)) (View.canon (mxPieces k0 k1 q)) v0 v1 := by
  have e := headCov_eq v w _ _ (scPieces_cover k0 k1 q) (mxPieces_cover k0 k1 q) v0 v1
  rw [e 0, e 1, e 2, e 3]
  rfl

/-- Where the later pieces cover an index, earlier ones do not show. -/
theorem canon_append_of_cover {s : Shape} {e : EltTy} (L L' : List (View.Piece (Elt F) s e)) (y : s.Idx)
    (h : ∃ p ∈ L, y ∈ p.1.set) : View.canon (L ++ L') y = View.canon L y := by
  induction L with
  | nil => obtain ⟨p, hp, _⟩ := h; exact absurd hp List.not_mem_nil
  | cons p L ih =>
    by_cases hy : y ∈ p.1.set
    · obtain ⟨x, rfl⟩ := p.1.exists_idx_of_mem hy
      exact (View.canon_cons_emb p.1 p.2 (L ++ L') x).trans (View.canon_cons_emb p.1 p.2 L x).symm
    · obtain ⟨r, hr, hyr⟩ := h
      have hr' : r ∈ L := by
        rcases List.mem_cons.mp hr with rfl | hr'
        · exact absurd hyr hy
        · exact hr'
      rw [List.cons_append, View.canon_cons_of_not_mem _ _ hy, View.canon_cons_of_not_mem _ _ hy]
      exact ih ⟨r, hr', hyr⟩

end Cert.Attn

end
-- ==== Proof.Step.lean ====
/- What a grid step leaves in its output blocks and its carried scratch, as the expressions of `Terms`: after the
   first step, the odd output is the attention of the tile whose scores and maxima the scratch carried in, the even
   output is the attention of the step's even tile, and the scratch carries the step's odd tile out. -/
module

public import proofs.«01_k».proof.Proof.Terms
public import Idealize.ShloMosaic.Lib.Pipeline.Value

@[expose] public section

set_option maxRecDepth 16384

noncomputable section

namespace Cert.Attn

open Cert.KernelIdeal Cert.KernelIdeal.Gen Idealize.ShloMosaic Idealize.ShloMosaic.TcCoe
open Idealize.SL.Sem

variable {F : FTy → Type} [FloatOps F]
variable (c : Dev nD) (i : grid0.Coords)
  (arg1 : Memref sig .tc .vmem S1x256x512 .bf16) (harg1 : arg1.IsWhole)
  (arg2 : Memref sig .tc .vmem S1x256x512 .bf16) (harg2 : arg2.IsWhole)
  (arg3 : Memref sig .tc .vmem S1x4096x512 .bf16) (harg3 : arg3.IsWhole)
  (arg4 : Memref sig .tc .vmem S1x256x512 .bf16) (harg4 : arg4.IsWhole)
  (arg5 : Memref sig .tc .vmem S1x256x4096 .bf16) (harg5 : arg5.IsWhole)
  (arg6 : Memref sig .tc .vmem S1x256x256 .bf16) (harg6 : arg6.IsWhole)
  (arg7 : Memref sig .tc .vmem S1x256x4096 .bf16) (harg7 : arg7.IsWhole)
  (arg8 : Memref sig .tc .vmem S1x256x256 .bf16) (harg8 : arg8.IsWhole)
  (arg9 : Memref sig .tc .vmem S1x256x256 .bf16) (harg9 : arg9.IsWhole)
  (arg10 : Memref sig .tc .vmem S1x256x256 .bf16) (harg10 : arg10.IsWhole)
  (arg11 : Memref sig .tc .vmem S4x4352x256 .f32) (harg11 : arg11.IsWhole)
  (arg12 : Memref sig .tc .vmem S4x1x256 .f32) (harg12 : arg12.IsWhole)
  (arg13 : Memref sig .tc .vmem S4x4352x256 .f32) (harg13 : arg13.IsWhole)
  (arg14 : Memref sig .tc .vmem S4x1x256 .f32) (harg14 : arg14.IsWhole)
  (x0 : Vec F S1x256x512 .bf16)
  (x1 : Vec F S1x256x512 .bf16)
  (x2 : Vec F S1x4096x512 .bf16)
  (x3 : Vec F S1x256x512 .bf16)
  (x4 : Vec F S1x256x4096 .bf16)
  (x5 : Vec F S1x256x256 .bf16)
  (x6 : Vec F S1x256x4096 .bf16)
  (x7 : Vec F S1x256x256 .bf16)

/-- The odd output of a later step. -/
theorem out0_B_9_eq (hc0 : ¬cond0_0 i) (xs2 : Vec F S4x4352x256 .f32) (xs3 : Vec F S4x1x256 .f32) :
    out0_B_9 c i arg1 harg1 arg2 harg2 arg3 harg3 arg4 harg4 arg5 harg5 arg6 harg6 arg7 harg7 arg8 harg8 arg9 harg9 arg10 harg10 arg11 harg11 arg12 harg12 arg13 harg13 arg14 harg14
      hc0 x0 x1 x2 x3 x4 x5 x6 x7 xs2 xs3 = attOut xs2 xs3 x4 x5 := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 arg12 harg12 arg13 harg13 arg14 harg14
      hc0 x0 x1 x2 x3 x4 x5 x6 x7 xs2 xs3)]
  unfold kernelRun0_B
  dsimp only
  sl_unfold_words
  simp only [View.readAt_eq_ld, (harg1).read_unread, (harg2).read_unread, (harg3).read_unread, (harg4).read_unread, (harg5).read_unread, (harg6).read_unread, (harg7).read_unread, (harg8).read_unread, (harg13).read_unread, (harg14).read_unread]
  refine (View.canon_unit_zero (S := S1x256x256) (by decide : (![0, 0, 0] : Fin 3 → ℕ) = fun _ => 0) _ _).trans ?_
  rfl

/-- The scores a later step carries out. -/
theorem sout0_B_2_eq (hc0 : ¬cond0_0 i) (xs2 : Vec F S4x4352x256 .f32) (xs3 : Vec F S4x1x256 .f32) :
    sout0_B_2 c i arg1 harg1 arg2 harg2 arg3 harg3 arg4 harg4 arg5 harg5 arg6 harg6 arg7 harg7 arg8 harg8 arg9 harg9 arg10 harg10 arg11 harg11 arg12 harg12 arg13 harg13 arg14 harg14
      hc0 x0 x1 x2 x3 x4 x5 x6 x7 xs2 xs3 = View.canon (scPieces x2 x3 x1) := by
  unfold sout0_B_2
  rw [View.read_writes_eq_canon _ _ _ (scover0_B_2 c i arg1 harg1 arg2 harg2 arg3 harg3 arg4 harg4 arg5 harg5 arg6 harg6 arg7 harg7 arg8 harg8 arg9 harg9 arg10 harg10 arg11 harg11 arg12 harg12 arg13 harg13 arg14 harg14
      hc0 x0 x1 x2 x3 x4 x5 x6 x7 xs2 xs3)]
  unfold kernelRun0_B
  dsimp only
  sl_unfold_words
  simp only [View.readAt_eq_ld, (harg1).read_unread, (harg2).read_unread, (harg3).read_unread, (harg4).read_unread, (harg5).read_unread, (harg6).read_unread, (harg7).read_unread, (harg8).read_unread, (harg13).read_unread, (harg14).read_unread]
  rfl

/-- The maxima a later step carries out. -/
theorem sout0_B_3_eq (hc0 : ¬cond0_0 i) (xs2 : Vec F S4x4352x256 .f32) (xs3 : Vec F S4x1x256 .f32) :
    sout0_B_3 c i arg1 harg1 arg2 harg2 arg3 harg3 arg4 harg4 arg5 harg5 arg6 harg6 arg7 harg7 arg8 harg8 arg9 harg9 arg10 harg10 arg11 harg11 arg12 harg12 arg13 harg13 arg14 harg14
      hc0 x0 x1 x2 x3 x4 x5 x6 x7 xs2 xs3 = View.canon (mxPieces x2 x3 x1) := by
  unfold sout0_B_3
  rw [View.read_writes_eq_canon _ _ _ (scover0_B_3 c i arg1 harg1 arg2 harg2 arg3 harg3 arg4 harg4 arg5 harg5 arg6 harg6 arg7 harg7 arg8 harg8 arg9 harg9 arg10 harg10 arg11 harg11 arg12 harg12 arg13 harg13 arg14 harg14
      hc0 x0 x1 x2 x3 x4 x5 x6 x7 xs2 xs3)]
  unfold kernelRun0_B
  dsimp only
  sl_unfold_words
  simp only [View.readAt_eq_ld, (harg1).read_unread, (harg2).read_unread, (harg3).read_unread, (harg4).read_unread, (harg5).read_unread, (harg6).read_unread, (harg7).read_unread, (harg8).read_unread, (harg13).read_unread, (harg14).read_unread]
  rfl

/-- The even output of a later step. -/
theorem out0_B_8_eq (hc0 : ¬cond0_0 i) (xs2 : Vec F S4x4352x256 .f32) (xs3 : Vec F S4x1x256 .f32) :
    out0_B_8 c i arg1 harg1 arg2 harg2 arg3 harg3 arg4 harg4 arg5 harg5 arg6 harg6 arg7 harg7 arg8 harg8 arg9 harg9 arg10 harg10 arg11 harg11 arg12 harg12 arg13 harg13 arg14 harg14
      hc0 x0 x1 x2 x3 x4 x5 x6 x7 xs2 xs3 = attOut (View.canon (scPieces x2 x3 x0)) (View.canon (mxPieces x2 x3 x0)) x6 x7 := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 arg12 harg12 arg13 harg13 arg14 harg14
      hc0 x0 x1 x2 x3 x4 x5 x6 x7 xs2 xs3)]
  unfold kernelRun0_B
  dsimp only
  sl_unfold_words
  simp only [View.readAt_eq_ld, (harg1).read_unread, (harg2).read_unread, (harg3).read_unread, (harg4).read_unread, (harg5).read_unread, (harg6).read_unread, (harg7).read_unread, (harg8).read_unread, (harg13).read_unread, (harg14).read_unread]
  refine (View.canon_unit_zero (S := S1x256x256) (by decide : (![0, 0, 0] : Fin 3 → ℕ) = fun _ => 0) _ _).trans ?_
  exact tileCov_eq arg11.view arg12.view x2 x3 x0 x6 x7

/-- The even output of the first step. -/
theorem out0_A_8_eq (hc0 : cond0_0 i) :
    out0_A_8 c i arg1 harg1 arg2 harg2 arg3 harg3 arg4 harg4 arg5 harg5 arg6 harg6 arg7 harg7 arg8 harg8 arg9 harg9 arg10 harg10 arg11 harg11 arg12 harg12 arg13 harg13 arg14 harg14
      hc0 x0 x1 x2 x3 x4 x5 x6 x7 = attOut (View.canon (scPieces x2 x3 x0)) (View.canon (mxPieces x2 x3 x0)) x6 x7 := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 arg13 harg13 arg14 harg14
      hc0 x0 x1 x2 x3 x4 x5 x6 x7)]
  unfold kernelRun0_A
  dsimp only
  sl_unfold_words
  simp only [View.readAt_eq_ld, (harg1).read_unread, (harg2).read_unread, (harg3).read_unread, (harg4).read_unread, (harg5).read_unread, (harg6).read_unread, (harg7).read_unread, (harg8).read_unread]
  refine (View.canon_unit_zero (S := S1x256x256) (by decide : (![0, 0, 0] : Fin 3 → ℕ) = fun _ => 0) _ _).trans ?_
  exact tileCov_eq arg11.view arg12.view x2 x3 x0 x6 x7

/-- The scores the first step carries out. -/
theorem sout0_A_2_eq (hc0 : cond0_0 i) :
    sout0_A_2 c i arg1 harg1 arg2 harg2 arg3 harg3 arg4 harg4 arg5 harg5 arg6 harg6 arg7 harg7 arg8 harg8 arg9 harg9 arg10 harg10 arg11 harg11 arg12 harg12 arg13 harg13 arg14 harg14
      hc0 x0 x1 x2 x3 x4 x5 x6 x7 = View.canon (scPieces x2 x3 x1) := by
  unfold sout0_A_2
  rw [View.read_writes_eq_canon _ _ _ (scover0_A_2 c i arg1 harg1 arg2 harg2 arg3 harg3 arg4 harg4 arg5 harg5 arg6 harg6 arg7 harg7 arg8 harg8 arg9 harg9 arg10 harg10 arg11 harg11 arg12 harg12 arg13 harg13 arg14 harg14
      hc0 x0 x1 x2 x3 x4 x5 x6 x7)]
  unfold kernelRun0_A
  dsimp only
  sl_unfold_words
  simp only [View.readAt_eq_ld, (harg1).read_unread, (harg2).read_unread, (harg3).read_unread, (harg4).read_unread, (harg5).read_unread, (harg6).read_unread, (harg7).read_unread, (harg8).read_unread]
  funext y
  exact canon_append_of_cover (scPieces x2 x3 x1) [_] y (scPieces_cover x2 x3 x1 y)

/-- The maxima the first step carries out. -/
theorem sout0_A_3_eq (hc0 : cond0_0 i) :
    sout0_A_3 c i arg1 harg1 arg2 harg2 arg3 harg3 arg4 harg4 arg5 harg5 arg6 harg6 arg7 harg7 arg8 harg8 arg9 harg9 arg10 harg10 arg11 harg11 arg12 harg12 arg13 harg13 arg14 harg14
      hc0 x0 x1 x2 x3 x4 x5 x6 x7 = View.canon (mxPieces x2 x3 x1) := by
  unfold sout0_A_3
  rw [View.read_writes_eq_canon _ _ _ (scover0_A_3 c i arg1 harg1 arg2 harg2 arg3 harg3 arg4 harg4 arg5 harg5 arg6 harg6 arg7 harg7 arg8 harg8 arg9 harg9 arg10 harg10 arg11 harg11 arg12 harg12 arg13 harg13 arg14 harg14
      hc0 x0 x1 x2 x3 x4 x5 x6 x7)]
  unfold kernelRun0_A
  dsimp only
  sl_unfold_words
  simp only [View.readAt_eq_ld, (harg1).read_unread, (harg2).read_unread, (harg3).read_unread, (harg4).read_unread, (harg5).read_unread, (harg6).read_unread, (harg7).read_unread, (harg8).read_unread]
  funext y
  exact canon_append_of_cover (mxPieces x2 x3 x1) [_] y (mxPieces_cover x2 x3 x1 y)

end Cert.Attn

end
-- ==== Proof.Tiles.lean ====
/- The tiles of the call's arrays, and the blocks of each grid step as tiles: sixteen query tiles of 256 rows to a
   batch, two tiles to a step. -/
module

public import proofs.«01_k».proof.Proof.Gen.KernelIdeal.Value
public import proofs.«01_k».proof.Proof.Terms
public import Idealize.ShloMosaic.Lib.Pipeline.ValueKit
public import Idealize.ShloMosaic.Lib.Pointwise

@[expose] public section

set_option maxRecDepth 16384

noncomputable section

namespace Cert.Attn

open Cert.KernelIdeal Cert.KernelIdeal.Gen Idealize.ShloMosaic Idealize.ShloMosaic.TcCoe
open Idealize.SL.Sem
open Idealize.ShloMosaic.Pipeline (Dat)

variable {F : FTy → Type} [FloatOps F]

/-! ## Tiles of the arrays -/

/-- Query tile `n`: rows `256 (n mod 16) …` of batch `n / 16`. -/
def qTile (A : Vec F S16x4096x512 .bf16) (n : Fin 256) : Vec F S1x256x512 .bf16 :=
  fun y => A (ix3 (⟨n.val / 16, by omega⟩ : Fin 16)
    (⟨256 * (n.val % 16) + (y 1).val, by have := (y 1).isLt; change (y 1).val < 256 at this; omega⟩ : Fin 4096) (y 2))

/-- The batch of tile `n`, of the latent keys. -/
def kTile (A : Vec F S16x4096x512 .bf16) (n : Fin 256) : Vec F S1x4096x512 .bf16 :=
  fun y => A (ix3 (⟨n.val / 16, by omega⟩ : Fin 16) (y 1) (y 2))

/-- The batch of tile `n`, of the context keys. -/
def cTile (A : Vec F S16x256x512 .bf16) (n : Fin 256) : Vec F S1x256x512 .bf16 :=
  fun y => A (ix3 (⟨n.val / 16, by omega⟩ : Fin 16) (y 1) (y 2))

/-- The batch of tile `n`, of the latent values. -/
def vTile (A : Vec F S16x256x4096 .bf16) (n : Fin 256) : Vec F S1x256x4096 .bf16 :=
  fun y => A (ix3 (⟨n.val / 16, by omega⟩ : Fin 16) (y 1) (y 2))

/-- The batch of tile `n`, of the context values. -/
def wTile (A : Vec F S16x256x256 .bf16) (n : Fin 256) : Vec F S1x256x256 .bf16 :=
  fun y => A (ix3 (⟨n.val / 16, by omega⟩ : Fin 16) (y 1) (y 2))

/-- The attention of tile `n`. -/
def tileAtt (q : Vec F S16x4096x512 .bf16) (k0 : Vec F S16x4096x512 .bf16) (k1 : Vec F S16x256x512 .bf16)
    (v0 : Vec F S16x256x4096 .bf16) (v1 : Vec F S16x256x256 .bf16) (n : Fin 256) : FVec F S1x256x256 .bf16 :=
  attOut (View.canon (scPieces (kTile k0 n) (cTile k1 n) (qTile q n)))
    (View.canon (mxPieces (kTile k0 n) (cTile k1 n) (qTile q n))) (vTile v0 n) (wTile v1 n)

/-- The even tile of a step (the last step repeats the last pair). -/
def evenT (t : Fin cfg0.N) : Fin 256 := ⟨2 * min t.val 127, by omega⟩
/-- The odd tile of a step. -/
def oddT (t : Fin cfg0.N) : Fin 256 := ⟨2 * min t.val 127 + 1, by omega⟩
/-- The odd tile of the step before. -/
def prevT (t : Fin cfg0.N) : Fin 256 :=
  ⟨2 * (t.val - 1) + 1, by have := t.isLt; have h : cfg0.N = 129 := by decide
                           omega⟩

/-! ## The blocks of a step -/

theorem idx_cur : ∀ t : Fin cfg0.N,
    win0_0.index t = ![(evenT t).val / 16, (evenT t).val % 16, 0] ∧
    win0_1.index t = ![(oddT t).val / 16, (oddT t).val % 16, 0] ∧
    win0_2.index t = ![(evenT t).val / 16, 0, 0] ∧ win0_3.index t = ![(evenT t).val / 16, 0, 0] ∧
    win0_6.index t = ![(evenT t).val / 16, 0, 0] ∧ win0_7.index t = ![(evenT t).val / 16, 0, 0] ∧
    win0_8.index t = ![min t.val 127, 0, 0] ∧ win0_9.index t = ![t.val - 1, 0, 0] :=
  (by decide +kernel : ∀ t : Fin grid0.N, _)

theorem idx_prev : ∀ t : Fin cfg0.N, ¬ t.val % 129 = 0 →
    win0_4.index t = ![(prevT t).val / 16, 0, 0] ∧ win0_5.index t = ![(prevT t).val / 16, 0, 0] :=
  (by decide +kernel : ∀ t : Fin grid0.N, _)

theorem odd_div (t : Fin cfg0.N) : (oddT t).val / 16 = (evenT t).val / 16 := by
  unfold oddT evenT; dsimp only; omega

variable (m : (ℓ : Loc nD τ sig) → Buf (Elt F) ℓ) (ρ : Dev nD → PrngReg) (c : Dev nD)

theorem blk0 (t : Fin cfg0.N) : iblk m c 0 t = qTile (V m c main_v9) (evenT t) := by
  funext y
  unfold qTile
  blk_ext [iblk, (idx_cur t).1]
theorem blk1 (t : Fin cfg0.N) : iblk m c 1 t = qTile (V m c main_v9) (oddT t) := by
  funext y
  unfold qTile
  blk_ext [iblk, (idx_cur t).2.1]
theorem blk2 (t : Fin cfg0.N) : iblk m c 2 t = kTile (V m c main_v15) (evenT t) := by
  funext y
  unfold kTile
  blk_ext [iblk, (idx_cur t).2.2.1]
theorem blk3 (t : Fin cfg0.N) : iblk m c 3 t = cTile (V m c main_v24) (evenT t) := by
  funext y
  unfold cTile
  blk_ext [iblk, (idx_cur t).2.2.2.1]
theorem blk6 (t : Fin cfg0.N) : iblk m c 6 t = vTile (V m c main_v18) (evenT t) := by
  funext y
  unfold vTile
  blk_ext [iblk, (idx_cur t).2.2.2.2.1]
theorem blk7 (t : Fin cfg0.N) : iblk m c 7 t = wTile (V m c main_v27) (evenT t) := by
  funext y
  unfold wTile
  blk_ext [iblk, (idx_cur t).2.2.2.2.2.1]
theorem blk4 (t : Fin cfg0.N) (h : ¬ t.val % 129 = 0) : iblk m c 4 t = vTile (V m c main_v18) (prevT t) := by
  funext y
  unfold vTile
  blk_ext [iblk, (idx_prev t h).1]
theorem blk5 (t : Fin cfg0.N) (h : ¬ t.val % 129 = 0) : iblk m c 5 t = wTile (V m c main_v27) (prevT t) := by
  funext y
  unfold wTile
  blk_ext [iblk, (idx_prev t h).2]

/-- The keys' batch is the same for both tiles of a step. -/
theorem kTile_even (A : Vec F S16x4096x512 .bf16) (t : Fin cfg0.N) : kTile A (evenT t) = kTile A (oddT t) := by
  funext y; unfold kTile; simp only [odd_div]
theorem cTile_even (A : Vec F S16x256x512 .bf16) (t : Fin cfg0.N) : cTile A (evenT t) = cTile A (oddT t) := by
  funext y; unfold cTile; simp only [odd_div]

end Cert.Attn

end
-- ==== Proof.Run.lean ====
/- What the pipelined call leaves in its two results: row block `p` of the even (odd) result is the attention of query
   tile `2 p` (`2 p + 1`), sixteen tiles to a batch. The odd tiles come out one step late, through the carried scratch. -/
module

public import proofs.«01_k».proof.Proof.Step
public import proofs.«01_k».proof.Proof.Gen.KernelIdeal.Value
public import proofs.«01_k».proof.Proof.Tiles

@[expose] public section

set_option maxRecDepth 16384

noncomputable section

namespace Cert.Attn

open Cert.KernelIdeal Cert.KernelIdeal.Gen Idealize.ShloMosaic Idealize.ShloMosaic.TcCoe
open Idealize.SL.Sem
open Idealize.ShloMosaic.Pipeline (Dat)

variable {F : FTy → Type} [FloatOps F]

variable (m : (ℓ : Loc nD τ sig) → Buf (Elt F) ℓ) (ρ : Dev nD → PrngReg) (c : Dev nD)

/-! ## The steps -/

/-- The even output of every step. -/
theorem outs_even (t : Fin cfg0.N) :
    (outsAt0 m c t.val t.isLt).1
      = tileAtt (V m c main_v9) (V m c main_v15) (V m c main_v24) (V m c main_v18) (V m c main_v27) (evenT t) := by
  by_cases h0 : t.val % 129 = 0
  · rw [outsAt0_A m c t h0]
    dsimp only
    rw [out0_A_8_eq]
    rw [blk0, blk2, blk3, blk6, blk7]
    rfl
  · rw [outsAt0_B m c t h0]
    dsimp only
    rw [out0_B_8_eq]
    rw [blk0, blk2, blk3, blk6, blk7]
    rfl

/-- The scores every step carries out. -/
theorem outs_scores (t : Fin cfg0.N) :
    (outsAt0 m c t.val t.isLt).2.2.1
      = View.canon (scPieces (kTile (V m c main_v15) (oddT t)) (cTile (V m c main_v24) (oddT t))
          (qTile (V m c main_v9) (oddT t))) := by
  by_cases h0 : t.val % 129 = 0
  · rw [outsAt0_A m c t h0]
    dsimp only
    rw [sout0_A_2_eq]
    rw [blk1, blk2, blk3, kTile_even, cTile_even]
  · rw [outsAt0_B m c t h0]
    dsimp only
    rw [sout0_B_2_eq]
    rw [blk1, blk2, blk3, kTile_even, cTile_even]

/-- The maxima every step carries out. -/
theorem outs_maxima (t : Fin cfg0.N) :
    (outsAt0 m c t.val t.isLt).2.2.2
      = View.canon (mxPieces (kTile (V m c main_v15) (oddT t)) (cTile (V m c main_v24) (oddT t))
          (qTile (V m c main_v9) (oddT t))) := by
  by_cases h0 : t.val % 129 = 0
  · rw [outsAt0_A m c t h0]
    dsimp only
    rw [sout0_A_3_eq]
    rw [blk1, blk2, blk3, kTile_even, cTile_even]
  · rw [outsAt0_B m c t h0]
    dsimp only
    rw [sout0_B_3_eq]
    rw [blk1, blk2, blk3, kTile_even, cTile_even]

/-- The odd output of every step but the first. -/
theorem outs_odd (t : Fin cfg0.N) (h0 : ¬ t.val % 129 = 0) :
    (outsAt0 m c t.val t.isLt).2.1
      = tileAtt (V m c main_v9) (V m c main_v15) (V m c main_v24) (V m c main_v18) (V m c main_v27) (prevT t) := by
  have hN : cfg0.N = 129 := by decide
  have ht := t.isLt
  have hlt : t.val - 1 < cfg0.N := by omega
  have hp : oddT ⟨t.val - 1, hlt⟩ = prevT t := by
    apply Fin.ext; unfold oddT prevT; dsimp only; omega
  rw [outsAt0_B m c t h0]
  dsimp only
  rw [out0_B_9_eq]
  have e1 := outs_scores m c ⟨t.val - 1, hlt⟩
  have e2 := outs_maxima m c ⟨t.val - 1, hlt⟩
  dsimp only at e1 e2
  rw [blk4 _ _ _ h0, blk5 _ _ _ h0, e1, e2, hp]
  rfl

/-! ## The results -/

/-- The even result, from the arrays the call reads. -/
def evenOut (q : Vec F S16x4096x512 .bf16) (k0 : Vec F S16x4096x512 .bf16) (k1 : Vec F S16x256x512 .bf16)
    (v0 : Vec F S16x256x4096 .bf16) (v1 : Vec F S16x256x256 .bf16) : FVec F S128x256x256 .bf16 :=
  fun i => tileAtt q k0 k1 v0 v1 (⟨2 * (i 0).val, by have := (i 0).isLt; change (i 0).val < 128 at this; omega⟩ : Fin 256)
    (ix3 (0 : Fin 1) (i 1) (i 2))

/-- The odd result, from the arrays the call reads. -/
def oddOut (q : Vec F S16x4096x512 .bf16) (k0 : Vec F S16x4096x512 .bf16) (k1 : Vec F S16x256x512 .bf16)
    (v0 : Vec F S16x256x4096 .bf16) (v1 : Vec F S16x256x256 .bf16) : FVec F S128x256x256 .bf16 :=
  fun i => tileAtt q k0 k1 v0 v1 (⟨2 * (i 0).val + 1, by have := (i 0).isLt; change (i 0).val < 128 at this; omega⟩ : Fin 256)
    (ix3 (0 : Fin 1) (i 1) (i 2))

theorem final_even : (dats m 0 c).arrAt 8 cfg0.N
    = evenOut (V m c main_v9) (V m c main_v15) (V m c main_v24) (V m c main_v18) (V m c main_v27) := by
  refine (dats m 0 c).arrAt_eq_of_covers 8 _ (by decide +kernel) fun t hf y => ?_
  blk_simp
  rw [after0_8, outs_even]
  unfold evenOut
  have e := (idx_cur t).2.2.2.2.2.2.1
  refine congrArg₂ (fun n z => tileAtt (V m c main_v9) (V m c main_v15) (V m c main_v24) (V m c main_v18)
    (V m c main_v27) n z) ?_ ?_
  · apply Fin.ext
    unfold evenT
    dsimp only
    blk_simp [e]
  · blk_ext [e]

theorem flush9 : ∀ t : Fin cfg0.N, (cfg0.win 9).flush t = true → ¬ t.val % 129 = 0 :=
  (by decide +kernel : ∀ t : Fin grid0.N, _)

theorem final_odd : (dats m 0 c).arrAt 9 cfg0.N
    = oddOut (V m c main_v9) (V m c main_v15) (V m c main_v24) (V m c main_v18) (V m c main_v27) := by
  refine (dats m 0 c).arrAt_eq_of_covers 9 _ (by decide +kernel) fun t hf y => ?_
  have h0 := flush9 t hf
  blk_simp
  rw [after0_9, outs_odd _ _ _ h0]
  unfold oddOut
  have e := (idx_cur t).2.2.2.2.2.2.2
  refine congrArg₂ (fun n z => tileAtt (V m c main_v9) (V m c main_v15) (V m c main_v24) (V m c main_v18)
    (V m c main_v27) n z) ?_ ?_
  · apply Fin.ext
    unfold prevT
    dsimp only
    blk_simp [e]
  · blk_ext [e]

end Cert.Attn

end
-- ==== Proof.Read.lean ====
/- A tile's scores, maxima and outputs, index by index, on the extended reals. -/
module

public import proofs.«01_k».proof.Proof.Terms
public import Idealize.ShloMosaic.Lib.Pointwise
public import Idealize.ShloMosaic.Lib.Pipeline.ValueKit

@[expose] public section

set_option maxRecDepth 16384

noncomputable section

namespace Cert.Attn

open Cert.KernelIdeal Cert.KernelIdeal.Gen Idealize.ShloMosaic Idealize.ShloMosaic.TcCoe
open Idealize.SL.Sem

/-- A tile's score on a latent key. -/
def latent (k : Vec Ideal S1x4096x512 .bf16) (q : Vec Ideal S1x256x512 .bf16) (h : Fin 4) (j : Fin 4096) (r : Fin 256) : EReal :=
  ∑ d : Fin 128, k (ix3 (0 : Fin 1) j (⟨128 * h.val + d.val, by omega⟩ : Fin 512))
    * q (ix3 (0 : Fin 1) r (⟨128 * h.val + d.val, by omega⟩ : Fin 512))

/-- A tile's score on a context key. -/
def context (k : Vec Ideal S1x256x512 .bf16) (q : Vec Ideal S1x256x512 .bf16) (h : Fin 4) (j : Fin 256) (r : Fin 256) : EReal :=
  ∑ d : Fin 128, k (ix3 (0 : Fin 1) j (⟨128 * h.val + d.val, by omega⟩ : Fin 512))
    * q (ix3 (0 : Fin 1) r (⟨128 * h.val + d.val, by omega⟩ : Fin 512))

/-- A tile's scores, latent keys first. -/
def SC (k0 : Vec Ideal S1x4096x512 .bf16) (k1 : Vec Ideal S1x256x512 .bf16) (q : Vec Ideal S1x256x512 .bf16) :
    Vec Ideal S4x4352x256 .f32 := fun y =>
  if hk : (y 1).val < 4096 then latent k0 q (y 0) ⟨(y 1).val, hk⟩ (y 2)
  else context k1 q (y 0) ⟨(y 1).val - 4096, by have := (y 1).isLt; change (y 1).val < 4352 at this; omega⟩ (y 2)

theorem scoreL_apply (k : Vec Ideal S1x4096x512 .bf16) (q : Vec Ideal S1x256x512 .bf16) (h : Fin 4) (o : Fin 2)
    (j : Fin 2048) (r : Fin 256) :
    scoreL (ldK k h o) (ldQ q h) (ix2 j r) = latent k q h ⟨2048 * o.val + j.val, by omega⟩ r := by
  unfold scoreL ldK ldQ latent
  pointwise

theorem scoreS_apply (k : Vec Ideal S1x256x512 .bf16) (q : Vec Ideal S1x256x512 .bf16) (h : Fin 4)
    (j : Fin 256) (r : Fin 256) :
    scoreS (ldQ k h) (ldQ q h) (ix2 j r) = context k q h j r := by
  unfold scoreS ldQ context
  pointwise

theorem SC_latent (k0 : Vec Ideal S1x4096x512 .bf16) (k1 : Vec Ideal S1x256x512 .bf16) (q : Vec Ideal S1x256x512 .bf16)
    (h : Fin 4) (j : Fin 4352) (r : Fin 256) (hj : j.val < 4096) :
    SC k0 k1 q (ix3 h j r) = latent k0 q h ⟨j.val, hj⟩ r := by
  unfold SC
  exact dif_pos hj

theorem SC_context (k0 : Vec Ideal S1x4096x512 .bf16) (k1 : Vec Ideal S1x256x512 .bf16) (q : Vec Ideal S1x256x512 .bf16)
    (h : Fin 4) (j : Fin 4352) (n : Fin 256) (r : Fin 256) (hj : j.val = 4096 + n.val) :
    SC k0 k1 q (ix3 h j r) = context k1 q h n r := by
  unfold SC
  refine (dif_neg (show ¬ j.val < 4096 by omega)).trans ?_
  exact congrArg (fun z => context k1 q h z r) (Fin.ext (show j.val - 4096 = n.val by omega))

/-- An index of a rectangle of one head's row of a three-axis array, placed. -/
theorem emb_ix3 {s : Shape} {n0 n1 n2 : ℕ} (off : Fin 3 → ℕ) (size : Fin 3 → ℕ)
    (inb : ∀ a, off a + size a ≤ (⟨3, ![n0, n1, n2]⟩ : Shape).size a)
    (x : (⟨3, size⟩ : Shape).Idx) (y : (⟨3, ![n0, n1, n2]⟩ : Shape).Idx)
    (h : ∀ a, (y a).val = off a + (x a).val) :
    (Rect.unit (s := ⟨3, ![n0, n1, n2]⟩) off size inb).emb x = y := by
  funext a
  apply Fin.ext
  rw [ValueKit.rect_emb_unit_val, h]

theorem pieceL_at (k0 : Vec Ideal S1x4096x512 .bf16) (k1 : Vec Ideal S1x256x512 .bf16) (q : Vec Ideal S1x256x512 .bf16)
    (h : Fin 4) (o : Fin 2) (x : (pieceL k0 q h o).1.shape.Idx) :
    (pieceL k0 q h o).2 x = SC k0 k1 q ((pieceL k0 q h o).1.emb x) := by
  change S1x2048x256.Idx at x
  idx_vars x
  rename' x0 => a, x1 => b, x2 => r
  have hb := b.isLt
  have e : (pieceL k0 q h o).1.emb (ix3 a b r) = (ix3 h (⟨2048 * o.val + b.val, by omega⟩ : Fin 4352) r : S4x4352x256.Idx) := by
    refine emb_ix3 (s := S4x4352x256) _ _ (inbSL h o) _ _ fun z => ?_
    obtain rfl := Subsingleton.elim a (0 : Fin 1)
    revert z
    simp [Fin.forall_fin_succ]
  rw [e]
  refine Eq.trans ?_ ((scoreL_apply k0 q h o b r).trans
    (SC_latent k0 k1 q h ⟨2048 * o.val + b.val, by omega⟩ r (show 2048 * o.val + b.val < 4096 by omega)).symm)
  unfold pieceL
  obtain rfl := Subsingleton.elim a (0 : Fin 1)
  pointwise

theorem pieceS_at (k0 : Vec Ideal S1x4096x512 .bf16) (k1 : Vec Ideal S1x256x512 .bf16) (q : Vec Ideal S1x256x512 .bf16)
    (h : Fin 4) (x : (pieceS k1 q h).1.shape.Idx) :
    (pieceS k1 q h).2 x = SC k0 k1 q ((pieceS k1 q h).1.emb x) := by
  change S1x256x256.Idx at x
  idx_vars x
  rename' x0 => a, x1 => b, x2 => r
  have hb := b.isLt
  have e : (pieceS k1 q h).1.emb (ix3 a b r) = (ix3 h (⟨4096 + b.val, by omega⟩ : Fin 4352) r : S4x4352x256.Idx) := by
    refine emb_ix3 (s := S4x4352x256) _ _ (inbSS h) _ _ fun z => ?_
    obtain rfl := Subsingleton.elim a (0 : Fin 1)
    revert z
    simp [Fin.forall_fin_succ]
  rw [e]
  refine Eq.trans ?_ ((scoreS_apply k1 q h b r).trans (SC_context k0 k1 q h ⟨4096 + b.val, by omega⟩ b r rfl).symm)
  unfold pieceS
  obtain rfl := Subsingleton.elim a (0 : Fin 1)
  pointwise

/-- A tile's score pieces are its scores. -/
theorem canon_sc (k0 : Vec Ideal S1x4096x512 .bf16) (k1 : Vec Ideal S1x256x512 .bf16) (q : Vec Ideal S1x256x512 .bf16) :
    View.canon (scPieces k0 k1 q) = SC k0 k1 q := by
  funext y
  refine View.canon_apply_of_pieces (SC k0 k1 q) _ (fun p hp => ?_) y (scPieces_cover k0 k1 q y)
  simp only [scPieces, List.mem_cons, List.not_mem_nil, or_false] at hp
  rcases hp with rfl | rfl | rfl | rfl | rfl | rfl | rfl | rfl | rfl | rfl | rfl | rfl <;>
    first
      | exact pieceS_at k0 k1 q _
      | exact pieceL_at k0 k1 q _ _

/-- A tile's maxima, head by head. -/
def MX (k0 : Vec Ideal S1x4096x512 .bf16) (k1 : Vec Ideal S1x256x512 .bf16) (q : Vec Ideal S1x256x512 .bf16) :
    Vec Ideal S4x1x256 .f32 := fun y => headMax k0 k1 q (y 0) (ix3 (0 : Fin 1) (0 : Fin 1) (y 2))

theorem pieceM_at (k0 : Vec Ideal S1x4096x512 .bf16) (k1 : Vec Ideal S1x256x512 .bf16) (q : Vec Ideal S1x256x512 .bf16)
    (h : Fin 4) (x : (pieceM k0 k1 q h).1.shape.Idx) :
    (pieceM k0 k1 q h).2 x = MX k0 k1 q ((pieceM k0 k1 q h).1.emb x) := by
  change S1x1x256.Idx at x
  idx_vars x
  rename' x0 => a, x1 => b, x2 => r
  have e : (pieceM k0 k1 q h).1.emb (ix3 a b r) = (ix3 h (0 : Fin 1) r : S4x1x256.Idx) := by
    refine emb_ix3 (s := S4x1x256) _ _ (inbM h) _ _ fun z => ?_
    obtain rfl := Subsingleton.elim a (0 : Fin 1)
    obtain rfl := Subsingleton.elim b (0 : Fin 1)
    revert z
    simp [Fin.forall_fin_succ]
  rw [e]
  obtain rfl := Subsingleton.elim a (0 : Fin 1)
  obtain rfl := Subsingleton.elim b (0 : Fin 1)
  rfl

/-- A tile's maximum pieces are its maxima. -/
theorem canon_mx (k0 : Vec Ideal S1x4096x512 .bf16) (k1 : Vec Ideal S1x256x512 .bf16) (q : Vec Ideal S1x256x512 .bf16) :
    View.canon (mxPieces k0 k1 q) = MX k0 k1 q := by
  funext y
  refine View.canon_apply_of_pieces (MX k0 k1 q) _ (fun p hp => ?_) y (mxPieces_cover k0 k1 q y)
  simp only [mxPieces, List.mem_cons, List.not_mem_nil, or_false] at hp
  rcases hp with rfl | rfl | rfl | rfl <;> exact pieceM_at k0 k1 q _

end Cert.Attn

end
-- ==== Proof.Head.lean ====
/- A tile's attention, index by index, on the extended reals. -/
module

public import proofs.«01_k».proof.Proof.Read
public import Idealize.ShloMosaic.Lib.Pointwise
public import Idealize.ShloMosaic.Lib.Pipeline.ValueKit

@[expose] public section

set_option maxRecDepth 16384

noncomputable section

namespace Cert.Attn

open Cert.KernelIdeal Cert.KernelIdeal.Gen Idealize.ShloMosaic Idealize.ShloMosaic.TcCoe
open Idealize.SL.Sem

/-! ## A query's attention -/

/-- A query's attention over its latent scores `sx` and context scores `sc`, in powers of two. -/
def attn (sx vx : Fin 4096 → EReal) (sc vc : Fin 256 → EReal) : EReal :=
  Ideal.div
    ((∑ k, vx k * FloatOps.exp2 (F := Ideal) (φ := .f32) (sx k - max (Finset.univ.sup sx) (Finset.univ.sup sc)))
      + ∑ k, vc k * FloatOps.exp2 (F := Ideal) (φ := .f32) (sc k - max (Finset.univ.sup sx) (Finset.univ.sup sc)))
    ((∑ k, FloatOps.exp2 (F := Ideal) (φ := .f32) (sx k - max (Finset.univ.sup sx) (Finset.univ.sup sc)))
      + ∑ k, FloatOps.exp2 (F := Ideal) (φ := .f32) (sc k - max (Finset.univ.sup sx) (Finset.univ.sup sc)))

/-- A maximum over 4096 keys is the greater of its halves'. -/
theorem sup_halves (f : Fin 4096 → EReal) :
    max ((Finset.univ : Finset (Fin 2048)).sup fun x => f ⟨x.val, by omega⟩)
      ((Finset.univ : Finset (Fin 2048)).sup fun x => f ⟨2048 + x.val, by omega⟩) = Finset.univ.sup f := by
  apply le_antisymm
  · refine max_le ?_ ?_ <;>
      exact Finset.sup_le fun x _ => Finset.le_sup (f := f) (Finset.mem_univ _)
  · refine Finset.sup_le fun k _ => ?_
    by_cases hk : k.val < 2048
    · exact le_max_of_le_left (Finset.le_sup (f := fun x : Fin 2048 => f ⟨x.val, by omega⟩)
        (Finset.mem_univ (⟨k.val, hk⟩ : Fin 2048)))
    · refine le_max_of_le_right ?_
      have e : k = ⟨2048 + (k.val - 2048), by omega⟩ := Fin.ext (by dsimp only; omega)
      rw [congrArg f e]
      exact Finset.le_sup (f := fun x : Fin 2048 => f ⟨2048 + x.val, by omega⟩)
        (Finset.mem_univ (⟨k.val - 2048, by omega⟩ : Fin 2048))

/-- A sum over 4096 keys is its halves'. -/
theorem sum_halves (f : Fin 4096 → EReal) :
    ∑ k, f k = (∑ x : Fin 2048, f ⟨x.val, by omega⟩) + ∑ x : Fin 2048, f ⟨2048 + x.val, by omega⟩ :=
  Fin.sum_univ_add (a := 2048) (b := 2048) f

/-- A query's attention, the latent keys in halves. -/
theorem attn_halves (sx vx : Fin 4096 → EReal) (sc vc : Fin 256 → EReal) (M : EReal)
    (hM : M = max (Finset.univ.sup sx) (Finset.univ.sup sc)) :
    Ideal.div
      ((∑ x : Fin 2048, vx ⟨x.val, by omega⟩ * FloatOps.exp2 (F := Ideal) (φ := .f32) (sx ⟨x.val, by omega⟩ - M))
        + (∑ x : Fin 2048, vx ⟨2048 + x.val, by omega⟩
            * FloatOps.exp2 (F := Ideal) (φ := .f32) (sx ⟨2048 + x.val, by omega⟩ - M))
        + ∑ k, vc k * FloatOps.exp2 (F := Ideal) (φ := .f32) (sc k - M))
      ((∑ x : Fin 2048, FloatOps.exp2 (F := Ideal) (φ := .f32) (sx ⟨x.val, by omega⟩ - M))
        + (∑ x : Fin 2048, FloatOps.exp2 (F := Ideal) (φ := .f32) (sx ⟨2048 + x.val, by omega⟩ - M))
        + ∑ k, FloatOps.exp2 (F := Ideal) (φ := .f32) (sc k - M)) = attn sx vx sc vc := by
  unfold attn
  rw [← hM, sum_halves fun k => vx k * FloatOps.exp2 (F := Ideal) (φ := .f32) (sx k - M),
    sum_halves fun k => FloatOps.exp2 (F := Ideal) (φ := .f32) (sx k - M)]

/-- A maximum folded from minus infinity is the supremum. -/
theorem fold_max_eq {n : ℕ} (f : Fin n → EReal) :
    Finset.fold max (Ideal.ofBits FTy.f32 0xFF800000#32) f Finset.univ = Finset.univ.sup f := by
  have e : Ideal.ofBits FTy.f32 0xFF800000#32 = (⊥ : EReal) := by
    simp [Ideal.ofBits, Ideal.ieee]
  rw [e]; rfl

theorem headMax_apply (k0 : Vec Ideal S1x4096x512 .bf16) (k1 : Vec Ideal S1x256x512 .bf16)
    (q : Vec Ideal S1x256x512 .bf16) (h : Fin 4) (r : Fin 256) :
    headMax k0 k1 q h (ix3 (0 : Fin 1) (0 : Fin 1) r)
      = max (Finset.univ.sup fun k => latent k0 q h k r) (Finset.univ.sup fun k => context k1 q h k r) := by
  rw [← sup_halves]
  have h0 (x : Fin 2048) : scoreL (ldK k0 h 0) (ldQ q h) (ix2 x r) = latent k0 q h ⟨x.val, by omega⟩ r :=
    (scoreL_apply k0 q h 0 x r).trans (congrArg (fun z => latent k0 q h z r) (Fin.ext (by simp)))
  have h1 (x : Fin 2048) : scoreL (ldK k0 h 1) (ldQ q h) (ix2 x r) = latent k0 q h ⟨2048 + x.val, by omega⟩ r :=
    (scoreL_apply k0 q h 1 x r).trans (congrArg (fun z => latent k0 q h z r) (Fin.ext (by simp)))
  unfold headMax maxL maxS
  pointwise
  simp only [fold_max_eq, h0, h1, scoreS_apply]

theorem headAtt_apply (k0 : Vec Ideal S1x4096x512 .bf16) (k1 : Vec Ideal S1x256x512 .bf16)
    (q : Vec Ideal S1x256x512 .bf16) (v0 : Vec Ideal S1x256x4096 .bf16) (v1 : Vec Ideal S1x256x256 .bf16)
    (h : Fin 4) (e : Fin 64) (r : Fin 256) :
    headAtt (SC k0 k1 q) (MX k0 k1 q) v0 v1 h (ix2 e r)
      = attn (fun k => latent k0 q h k r) (fun k => v0 (ix3 (0 : Fin 1) (⟨64 * h.val + e.val, by omega⟩ : Fin 256) k))
          (fun k => context k1 q h k r) (fun k => v1 (ix3 (0 : Fin 1) (⟨64 * h.val + e.val, by omega⟩ : Fin 256) k)) := by
  have hm : ldM (MX k0 k1 q) h (ix3 (0 : Fin 1) (0 : Fin 1) r)
      = max (Finset.univ.sup fun k => latent k0 q h k r) (Finset.univ.sup fun k => context k1 q h k r) := by
    rw [← headMax_apply]
    unfold ldM
    pointwise
    unfold MX
    rfl
  have hl (o : Fin 2) (x : Fin 2048) : ldSL (SC k0 k1 q) h o (ix3 (0 : Fin 1) x r)
      = latent k0 q h ⟨2048 * o.val + x.val, by omega⟩ r := by
    refine Eq.trans ?_ (SC_latent k0 k1 q h ⟨2048 * o.val + x.val, by omega⟩ r (show 2048 * o.val + x.val < 4096 by omega))
    unfold ldSL
    pointwise
  have hl0 (x : Fin 2048) := (hl 0 x).trans (congrArg (fun z => latent k0 q h z r)
    (Fin.ext (by simp) : _ = (⟨x.val, by omega⟩ : Fin 4096)))
  have hl1 (x : Fin 2048) := (hl 1 x).trans (congrArg (fun z => latent k0 q h z r)
    (Fin.ext (by simp) : _ = (⟨2048 + x.val, by omega⟩ : Fin 4096)))
  have hs (x : Fin 256) : ldSS (SC k0 k1 q) h (ix3 (0 : Fin 1) x r) = context k1 q h x r := by
    refine Eq.trans ?_ (SC_context k0 k1 q h ⟨4096 + x.val, by omega⟩ x r rfl)
    unfold ldSS
    pointwise
  have hv (o : Fin 2) (x : Fin 2048) : ldVL v0 h o (ix3 (0 : Fin 1) e x)
      = v0 (ix3 (0 : Fin 1) (⟨64 * h.val + e.val, by omega⟩ : Fin 256) (⟨2048 * o.val + x.val, by omega⟩ : Fin 4096)) := by
    unfold ldVL
    pointwise
  have hv0 (x : Fin 2048) := (hv 0 x).trans (congrArg
    (fun z => v0 (ix3 (0 : Fin 1) (⟨64 * h.val + e.val, by omega⟩ : Fin 256) z))
    (Fin.ext (by simp) : _ = (⟨x.val, by omega⟩ : Fin 4096)))
  have hv1 (x : Fin 2048) := (hv 1 x).trans (congrArg
    (fun z => v0 (ix3 (0 : Fin 1) (⟨64 * h.val + e.val, by omega⟩ : Fin 256) z))
    (Fin.ext (by simp) : _ = (⟨2048 + x.val, by omega⟩ : Fin 4096)))
  have hw (x : Fin 256) : ldVS v1 h (ix3 (0 : Fin 1) e x)
      = v1 (ix3 (0 : Fin 1) (⟨64 * h.val + e.val, by omega⟩ : Fin 256) x) := by
    unfold ldVS
    pointwise
  unfold headAtt headOut pvL pvS sumL sumS probL probS
  pointwise
  simp only [hm, hl0, hl1, hs, hv0, hv1, hw]
  exact attn_halves (fun k => latent k0 q h k r)
    (fun k => v0 (ix3 (0 : Fin 1) (⟨64 * h.val + e.val, by omega⟩ : Fin 256) k)) (fun k => context k1 q h k r)
    (fun k => v1 (ix3 (0 : Fin 1) (⟨64 * h.val + e.val, by omega⟩ : Fin 256) k)) _ rfl

/-- A tile's attention at a query's row and a value's column. -/
theorem attOut_apply (k0 : Vec Ideal S1x4096x512 .bf16) (k1 : Vec Ideal S1x256x512 .bf16)
    (q : Vec Ideal S1x256x512 .bf16) (v0 : Vec Ideal S1x256x4096 .bf16) (v1 : Vec Ideal S1x256x256 .bf16)
    (r col : Fin 256) :
    attOut (View.canon (scPieces k0 k1 q)) (View.canon (mxPieces k0 k1 q)) v0 v1 (ix3 (0 : Fin 1) r col)
      = attn (fun k => latent k0 q ⟨col.val / 64, by omega⟩ k r) (fun k => v0 (ix3 (0 : Fin 1) col k))
          (fun k => context k1 q ⟨col.val / 64, by omega⟩ k r) (fun k => v1 (ix3 (0 : Fin 1) col k)) := by
  have key (h : Fin 4) (e : Fin 64) (he : 64 * h.val + e.val = col.val) :
      headAtt (SC k0 k1 q) (MX k0 k1 q) v0 v1 h (ix2 e r)
        = attn (fun k => latent k0 q ⟨col.val / 64, by omega⟩ k r) (fun k => v0 (ix3 (0 : Fin 1) col k))
          (fun k => context k1 q ⟨col.val / 64, by omega⟩ k r) (fun k => v1 (ix3 (0 : Fin 1) col k)) := by
    rw [headAtt_apply]
    have e1 : (⟨64 * h.val + e.val, by omega⟩ : Fin 256) = col := Fin.ext he
    have e2 : (⟨col.val / 64, by omega⟩ : Fin 4) = h := Fin.ext (by dsimp only; omega)
    rw [e1, e2]
  rw [canon_sc, canon_mx]
  unfold attOut tileOut
  pointwise
  have hc := col.isLt
  split
  · exact key 0 _ (by simp)
  · split
    · exact key 1 _ (by simp; omega)
    · split
      · exact key 2 _ (by simp; omega)
      · exact key 3 _ (by simp; omega)

end Cert.Attn

end
-- ==== Proof.Pack.lean ====
/- What the packed keys, queries and values hold at an index. -/
module

public import proofs.«01_k».proof.Proof.Tiles
public import Idealize.ShloMosaic.Lib.Claim
public import Idealize.ShloMosaic.Lib.StableHlo.RunRead
public import Idealize.ShloMosaic.Lib.Pointwise
public import Idealize.ShloMosaic.Lib.Tactic.CleanTypes

@[expose] public section

set_option maxRecDepth 16384
set_option maxHeartbeats 2000000

noncomputable section

namespace Cert.Attn

open Cert.KernelIdeal Cert.KernelIdeal.Gen Idealize.ShloMosaic Idealize.ShloMosaic.TcCoe
open Idealize.SL.Sem

/-- Per head 64 plain lanes, 32 positional lanes and 32 zero lanes, for the latent rows. -/
def packL (a : FVec Ideal S16x4096x4x64 .f32) (p : FVec Ideal S16x4096x4x32 .f32) : FVec Ideal S16x4096x512 .f32 :=
  shapeCast S16x4096x512 (concatenate S16x4096x4x128 3 [⟨S16x4096x4x64, a⟩, ⟨S16x4096x4x32, p⟩,
    ⟨S16x4096x4x32, broadcastInDim S16x4096x4x32 ![] bcast_S_S16x4096x4x32 (constant (F := Ideal) S_ .f32 0x00000000#32)⟩]
    concatenates_S16x4096x4x64_S16x4096x4x32_S16x4096x4x32_S16x4096x4x128_d3) shapeCasts_S16x4096x4x128_S16x4096x512

/-- One row of positional lanes for all heads. -/
def spreadL (p : FVec Ideal S16x4096x32 .f32) : FVec Ideal S16x4096x4x32 .f32 :=
  broadcastInDim S16x4096x4x32 ![0, 1, 2, 3] bcast_S16x4096x1x32_S16x4096x4x32_0_1_2_3
    (broadcastInDim S16x4096x1x32 ![0, 1, 3] bcast_S16x4096x32_S16x4096x1x32_0_1_3 p)

/-- The values, one row per head and lane. -/
def turnedL (v : FVec Ideal S16x4096x4x64 .f32) : FVec Ideal S16x256x4096 .f32 :=
  transpose S16x256x4096 [0, 2, 1] (shapeCast S16x4096x256 v shapeCasts_S16x4096x4x64_S16x4096x256) transposes_S16x4096x256_S16x256x4096_0_2_1

theorem packL_nope (a : FVec Ideal S16x4096x4x64 .f32) (p : FVec Ideal S16x4096x4x32 .f32) (b : Fin 16) (r : Fin 4096) (h : Fin 4) (d : Fin 128)
    (hd : d.val < 64) :
    packL a p (ix3 b r (⟨128 * h.val + d.val, by omega⟩ : Fin 512)) = a (ix4 b r h ⟨d.val, hd⟩) := by
  unfold packL
  pointwise
  exact dif_pos hd

theorem packL_pe (a : FVec Ideal S16x4096x4x64 .f32) (p : FVec Ideal S16x4096x4x32 .f32) (b : Fin 16) (r : Fin 4096) (h : Fin 4) (d : Fin 128)
    (e : Fin 32) (hd : d.val = 64 + e.val) :
    packL a p (ix3 b r (⟨128 * h.val + d.val, by omega⟩ : Fin 512)) = p (ix4 b r h e) := by
  unfold packL
  pointwise
  refine (dif_neg (show ¬ d.val < 64 by omega)).trans ((dif_pos (show d.val - 64 < 32 by omega)).trans ?_)
  exact congrArg (fun z => p (ix4 b r h z)) (Fin.ext (show d.val - 64 = e.val by omega))

theorem packL_pad (a : FVec Ideal S16x4096x4x64 .f32) (p : FVec Ideal S16x4096x4x32 .f32) (b : Fin 16) (r : Fin 4096) (h : Fin 4) (d : Fin 128)
    (hd : 96 ≤ d.val) :
    packL a p (ix3 b r (⟨128 * h.val + d.val, by omega⟩ : Fin 512)) = (0 : EReal) := by
  unfold packL
  pointwise
  exact (dif_neg (show ¬ d.val < 64 by omega)).trans (dif_neg (show ¬ d.val - 64 < 32 by omega))

theorem spreadL_apply (p : FVec Ideal S16x4096x32 .f32) (b : Fin 16) (r : Fin 4096) (h : Fin 4) (d : Fin 32) :
    spreadL p (ix4 b r h d) = p (ix3 b r d) := by
  unfold spreadL
  pointwise

theorem turnedL_apply (v : FVec Ideal S16x4096x4x64 .f32) (b : Fin 16) (r : Fin 4096) (col : Fin 256) :
    turnedL v (ix3 b col r) = v (ix4 b r (⟨col.val / 64, by omega⟩ : Fin 4) (⟨col.val % 64, by omega⟩ : Fin 64)) := by
  unfold turnedL
  pointwise

/-- Per head 64 plain lanes, 32 positional lanes and 32 zero lanes, for the context rows. -/
def packS (a : FVec Ideal S16x256x4x64 .f32) (p : FVec Ideal S16x256x4x32 .f32) : FVec Ideal S16x256x512 .f32 :=
  shapeCast S16x256x512 (concatenate S16x256x4x128 3 [⟨S16x256x4x64, a⟩, ⟨S16x256x4x32, p⟩,
    ⟨S16x256x4x32, broadcastInDim S16x256x4x32 ![] bcast_S_S16x256x4x32 (constant (F := Ideal) S_ .f32 0x00000000#32)⟩]
    concatenates_S16x256x4x64_S16x256x4x32_S16x256x4x32_S16x256x4x128_d3) shapeCasts_S16x256x4x128_S16x256x512

/-- One row of positional lanes for all heads. -/
def spreadS (p : FVec Ideal S16x256x32 .f32) : FVec Ideal S16x256x4x32 .f32 :=
  broadcastInDim S16x256x4x32 ![0, 1, 2, 3] bcast_S16x256x1x32_S16x256x4x32_0_1_2_3
    (broadcastInDim S16x256x1x32 ![0, 1, 3] bcast_S16x256x32_S16x256x1x32_0_1_3 p)

/-- The values, one row per head and lane. -/
def turnedS (v : FVec Ideal S16x256x4x64 .f32) : FVec Ideal S16x256x256 .f32 :=
  transpose S16x256x256 [0, 2, 1] (shapeCast S16x256x256 v shapeCasts_S16x256x4x64_S16x256x256) transposes_S16x256x256_S16x256x256_0_2_1

theorem packS_nope (a : FVec Ideal S16x256x4x64 .f32) (p : FVec Ideal S16x256x4x32 .f32) (b : Fin 16) (r : Fin 256) (h : Fin 4) (d : Fin 128)
    (hd : d.val < 64) :
    packS a p (ix3 b r (⟨128 * h.val + d.val, by omega⟩ : Fin 512)) = a (ix4 b r h ⟨d.val, hd⟩) := by
  unfold packS
  pointwise
  exact dif_pos hd

theorem packS_pe (a : FVec Ideal S16x256x4x64 .f32) (p : FVec Ideal S16x256x4x32 .f32) (b : Fin 16) (r : Fin 256) (h : Fin 4) (d : Fin 128)
    (e : Fin 32) (hd : d.val = 64 + e.val) :
    packS a p (ix3 b r (⟨128 * h.val + d.val, by omega⟩ : Fin 512)) = p (ix4 b r h e) := by
  unfold packS
  pointwise
  refine (dif_neg (show ¬ d.val < 64 by omega)).trans ((dif_pos (show d.val - 64 < 32 by omega)).trans ?_)
  exact congrArg (fun z => p (ix4 b r h z)) (Fin.ext (show d.val - 64 = e.val by omega))

theorem packS_pad (a : FVec Ideal S16x256x4x64 .f32) (p : FVec Ideal S16x256x4x32 .f32) (b : Fin 16) (r : Fin 256) (h : Fin 4) (d : Fin 128)
    (hd : 96 ≤ d.val) :
    packS a p (ix3 b r (⟨128 * h.val + d.val, by omega⟩ : Fin 512)) = (0 : EReal) := by
  unfold packS
  pointwise
  exact (dif_neg (show ¬ d.val < 64 by omega)).trans (dif_neg (show ¬ d.val - 64 < 32 by omega))

theorem spreadS_apply (p : FVec Ideal S16x256x32 .f32) (b : Fin 16) (r : Fin 256) (h : Fin 4) (d : Fin 32) :
    spreadS p (ix4 b r h d) = p (ix3 b r d) := by
  unfold spreadS
  pointwise

theorem turnedS_apply (v : FVec Ideal S16x256x4x64 .f32) (b : Fin 16) (r : Fin 256) (col : Fin 256) :
    turnedS v (ix3 b col r) = v (ix4 b r (⟨col.val / 64, by omega⟩ : Fin 4) (⟨col.val % 64, by omega⟩ : Fin 64)) := by
  unfold turnedS
  pointwise

end Cert.Attn

end
-- ==== Proof.Host.lean ====
/- The arrays the host prepares for the kernel, read at an index. -/
module

public import proofs.«01_k».proof.Proof.Pack
public import Idealize.ShloMosaic.Lib.Claim
public import Idealize.ShloMosaic.Lib.StableHlo.RunRead
public import Idealize.ShloMosaic.Lib.Pointwise
public import Idealize.ShloMosaic.Lib.Tactic.CleanTypes

@[expose] public section

set_option maxRecDepth 16384
set_option maxHeartbeats 2000000

noncomputable section

namespace Cert.Attn

open Cert.KernelIdeal Cert.KernelIdeal.Gen Idealize.ShloMosaic Idealize.ShloMosaic.TcCoe
open Idealize.SL.Sem

/-- The factor on the queries. -/
def factor : FVec Ideal S_ .f32 :=
  Host.divf (constant S_ .f32 0x3F800000#32) (mulf (Host.sqrt (constant S_ .f32 0x42C00000#32)) (Host.log (constant S_ .f32 0x40000000#32)))

variable (m : (ℓ : Loc nD τ sig) → Buf (Elt Ideal) ℓ) (c : Dev nD)

theorem V_q : (V m c main_v9 : FVec Ideal S16x4096x512 .bf16) = truncf .bf16 (mulf
    (packL (m (c, Proc.tc.devRef main_arg0)) (m (c, Proc.tc.devRef main_arg1)))
    (broadcastInDim S16x4096x512 ![] bcast_S_S16x4096x512 factor)) bitsLt_bf16_f32 := by
  unfold V
  after_reads_simp
  rfl

theorem V_k : (V m c main_v15 : FVec Ideal S16x4096x512 .bf16) = truncf .bf16
    (packL (m (c, Proc.tc.devRef main_arg2)) (spreadL (m (c, Proc.tc.devRef main_arg3)))) bitsLt_bf16_f32 := by
  unfold V
  after_reads_simp
  rfl

theorem V_c : (V m c main_v24 : FVec Ideal S16x256x512 .bf16) = truncf .bf16
    (packS (m (c, Proc.tc.devRef main_arg5)) (spreadS (m (c, Proc.tc.devRef main_arg6)))) bitsLt_bf16_f32 := by
  unfold V
  after_reads_simp
  rfl

theorem V_v : (V m c main_v18 : FVec Ideal S16x256x4096 .bf16)
    = truncf .bf16 (turnedL (m (c, Proc.tc.devRef main_arg4))) bitsLt_bf16_f32 := by
  unfold V
  after_reads_simp
  rfl

theorem V_w : (V m c main_v27 : FVec Ideal S16x256x256 .bf16)
    = truncf .bf16 (turnedS (m (c, Proc.tc.devRef main_arg7))) bitsLt_bf16_f32 := by
  unfold V
  after_reads_simp
  rfl

theorem factor_apply : factor ix0
    = Ideal.div (Ideal.ofBits .f32 0x3F800000#32) (Ideal.sqrt (Ideal.ofBits .f32 0x42C00000#32) * Ideal.log (Ideal.ofBits .f32 0x40000000#32)) := by
  unfold factor
  pointwise

theorem scaled_apply (y : FVec Ideal S16x4096x512 .f32) (f : FVec Ideal S_ .f32) (b : Fin 16) (r : Fin 4096) (l : Fin 512) :
    truncf .bf16 (mulf y (broadcastInDim S16x4096x512 ![] bcast_S_S16x4096x512 f)) bitsLt_bf16_f32 (ix3 b r l)
      = (y (ix3 b r l) * f ix0 : EReal) := by
  pointwise

end Cert.Attn

end
-- ==== Proof.Fold.lean ====
module

public import Idealize.ShloMosaic.Lib.Pointwise

@[expose] public section

set_option maxRecDepth 16384

noncomputable section

namespace Cert.Attn

open Idealize.ShloMosaic Idealize.ShloMosaic.TcCoe

theorem rowMax_apply {n : Nat} (y : FVec Ideal ⟨4, ![16, 4, 4096, n]⟩ .f32) (z : FVec Ideal ⟨0, ![]⟩ .f32)
    (hs : (⟨4, ![16, 4, 4096, n]⟩ : Shape).Reduces [3] (⟨3, ![16, 4, 4096]⟩ : Shape))
    (ht : (⟨4, ![16, 4, 4096, n]⟩ : Shape).ReducesTo [3] (⟨3, ![16, 4, 4096]⟩ : Shape)) (hu : 0 < (⟨0, ![]⟩ : Shape).numel)
    (b : Fin 16) (h : Fin 4) (r : Fin 4096) :
    Host.reduce FloatOps.maximumf y z ht hu (ix3 b h r)
      = Finset.univ.fold max (z (Shape.Idx.first hu)) fun k : Fin n => y (ix4 b h r k) := by
  rw [Host.reduce_eq_fold_single FloatOps.maximumf y z ht hs hu]
  have hf : (y ∘ hs.lift (ix3 b h r)) = fun k : Fin n => y (ix4 b h r k) := funext fun k => congrArg y (by
    funext c; apply Fin.ext
    fin_cases c <;> rfl)
  exact congrArg (fun f => Finset.fold max (z (Shape.Idx.first hu)) f (Finset.univ : Finset (Fin n))) hf

end Cert.Attn

end
-- ==== Proof.Ref.lean ====
/- The reference's arrays, read at an index. -/
module

public import proofs.«01_k».proof.Proof.Gen.ReferenceIdeal.Read
public import proofs.«01_k».proof.Proof.Fold
public import Idealize.ShloMosaic.Lib.Tactic.CleanTypes

@[expose] public section

set_option maxRecDepth 16384

noncomputable section

namespace Cert.Attn

open Cert.ReferenceIdeal Cert.ReferenceIdeal.Read Idealize.ShloMosaic Idealize.ShloMosaic.TcCoe
open Idealize.SL.Sem

variable (x0 : Vec Ideal S16x4096x4x64 .f32) (x1 : Vec Ideal S16x4096x4x32 .f32) (x2 : Vec Ideal S16x4096x4x64 .f32)
  (x3 : Vec Ideal S16x4096x32 .f32) (x4 : Vec Ideal S16x4096x4x64 .f32) (x5 : Vec Ideal S16x256x4x64 .f32)
  (x6 : Vec Ideal S16x256x32 .f32) (x7 : Vec Ideal S16x256x4x64 .f32)

/-- The reference's score on a key, the context keys first. -/
def score (b : Fin 16) (h : Fin 4) (r : Fin 4096) (k : Fin 4352) : EReal :=
  Ideal.div ((∑ x : Fin 64, x0 (ix4 b r h x) * if hk : k.val < 256 then x5 (ix4 b ⟨k.val, hk⟩ h x) else x2 (ix4 b (⟨k.val - 256, by omega⟩ : Fin 4096) h x)) +
    ∑ x : Fin 32, (if hk : k.val < 256 then x6 (ix3 b ⟨k.val, hk⟩ x) else x3 (ix3 b (⟨k.val - 256, by omega⟩ : Fin 4096) x)) * x1 (ix4 b r h x))
    (Ideal.sqrt (Ideal.ofBits .f32 0x42C00000#32))

theorem score_apply (b : Fin 16) (h : Fin 4) (r : Fin 4096) (k : Fin 4352) :
    val_main_v9 x0 x1 x2 x3 x5 x6 (ix4 b h r k) = score x0 x1 x2 x3 x5 x6 b h r k := by
  unfold score val_main_v9 val_main_v8 val_main_v7 val_main_v6 val_main_v5 val_main_v4 val_main_v3 val_main_v1 val_main_v0 val_main_cst
  clean_types
  pointwise

theorem reduces_keys : (⟨4, ![16, 4, 4096, 4352]⟩ : Shape).Reduces [3] (⟨3, ![16, 4, 4096]⟩ : Shape) := by decide

theorem max_apply (b : Fin 16) (h : Fin 4) (r : Fin 4096) :
    val_main_v10 x0 x1 x2 x3 x5 x6 (ix3 b h r)
      = Finset.univ.fold max (val_main_cst_0 (F := Ideal) (Shape.Idx.first Gen.h_S_)) fun k : Fin 4352 => val_main_v9 x0 x1 x2 x3 x5 x6 (ix4 b h r k) := by
  unfold val_main_v10
  exact rowMax_apply (n := 4352) (val_main_v9 (F := Ideal) x0 x1 x2 x3 x5 x6) (val_main_cst_0 (F := Ideal)) reduces_keys _ _ b h r

theorem prob_apply (b : Fin 16) (h : Fin 4) (r : Fin 4096) (k : Fin 4352) :
    val_main_v16 x0 x1 x2 x3 x5 x6 (ix4 b h r k)
      = Ideal.exp (val_main_v9 x0 x1 x2 x3 x5 x6 (ix4 b h r k)
          - max (val_main_cst_1 (F := Ideal) (idx_main_v11 (ix3 b h r))) (val_main_v10 x0 x1 x2 x3 x5 x6 (ix3 b h r))) := by
  rw [val_main_v16_apply, val_main_v15_apply, val_main_v14_apply, val_main_v13_apply, val_main_v12_apply, val_main_v11_apply]
  have hi : idx_main_v13 (idx_main_v14 (ix4 b h r k)) = ix3 b h r := by
    funext a; apply Fin.ext
    fin_cases a <;> rfl
  rw [hi]
  generalize val_main_v10 (F := Ideal) x0 x1 x2 x3 x5 x6 (ix3 b h r) = y
  generalize val_main_v9 (F := Ideal) x0 x1 x2 x3 x5 x6 (ix4 b h r k) = z
  generalize val_main_cst_1 (F := Ideal) (idx_main_v11 (ix3 b h r)) = w
  rfl

theorem weight_apply (b : Fin 16) (h : Fin 4) (r : Fin 4096) (k : Fin 4352) :
    val_main_v20 x0 x1 x2 x3 x5 x6 (ix4 b h r k)
      = Ideal.div (val_main_v16 x0 x1 x2 x3 x5 x6 (ix4 b h r k))
          (Ideal.ofBits .f32 0x00000000#32 + ∑ x : Fin 4352, val_main_v16 x0 x1 x2 x3 x5 x6 (ix4 b h r x)) := by
  unfold val_main_v20 val_main_v19 val_main_v18 val_main_v17 val_main_cst_2
  generalize val_main_v16 (F := Ideal) x0 x1 x2 x3 x5 x6 = y
  clean_types
  pointwise

theorem row_apply (b : Fin 16) (h : Fin 4) (r : Fin 4096) (e : Fin 64) :
    val_main_v22 x0 x1 x2 x3 x4 x5 x6 x7 (ix4 b r h e)
      = (∑ x : Fin 256, x7 (ix4 b x h e) * val_main_v20 x0 x1 x2 x3 x5 x6 (ix4 b h r (⟨x.val, by omega⟩ : Fin 4352))) +
        ∑ x : Fin 4096, x4 (ix4 b x h e) * val_main_v20 x0 x1 x2 x3 x5 x6 (ix4 b h r (⟨256 + x.val, by omega⟩ : Fin 4352)) := by
  unfold val_main_v22 val_main_v21 val_main_v2
  generalize val_main_v20 (F := Ideal) x0 x1 x2 x3 x5 x6 = y
  clean_types
  pointwise

theorem even_apply (p : Fin 128) (r : Fin 256) (col : Fin 256) :
    val_main_v26 x0 x1 x2 x3 x4 x5 x6 x7 (ix3 p r col)
      = val_main_v22 x0 x1 x2 x3 x4 x5 x6 x7 (ix4 (⟨p.val / 8, by omega⟩ : Fin 16) (⟨p.val % 8 * 512 + r.val, by omega⟩ : Fin 4096)
          (⟨col.val / 64, by omega⟩ : Fin 4) (⟨col.val % 64, by omega⟩ : Fin 64)) := by
  unfold val_main_v26 val_main_v25 val_main_v24 val_main_v23
  generalize val_main_v22 (F := Ideal) x0 x1 x2 x3 x4 x5 x6 x7 = y
  clean_types
  pointwise

theorem odd_apply (p : Fin 128) (r : Fin 256) (col : Fin 256) :
    val_main_v29 x0 x1 x2 x3 x4 x5 x6 x7 (ix3 p r col)
      = val_main_v22 x0 x1 x2 x3 x4 x5 x6 x7 (ix4 (⟨p.val / 8, by omega⟩ : Fin 16) (⟨p.val % 8 * 512 + 256 + r.val, by omega⟩ : Fin 4096)
          (⟨col.val / 64, by omega⟩ : Fin 4) (⟨col.val % 64, by omega⟩ : Fin 64)) := by
  unfold val_main_v29 val_main_v28 val_main_v27 val_main_v23
  generalize val_main_v22 (F := Ideal) x0 x1 x2 x3 x4 x5 x6 x7 = y
  clean_types
  pointwise

end Cert.Attn

end
-- ==== Proof.Soft.lean ====
/- The softmax in base two without its division, and the softmax proper: one weighted mean of the values, at real scores. -/
module

public import proofs.«01_k».proof.Proof.Head
public import Mathlib.Analysis.SpecialFunctions.Pow.Real

@[expose] public section

set_option maxRecDepth 16384

noncomputable section

namespace Cert.Attn

open Idealize.ShloMosaic

/-- The maximum of real scores is a real. -/
theorem sup_real {n : ℕ} (hn : 0 < n) (f : Fin n → ℝ) : ∃ M : ℝ, Finset.univ.sup (fun k => (f k : EReal)) = (M : EReal) := by
  obtain ⟨i, -, hi⟩ := Finset.exists_mem_eq_sup (Finset.univ : Finset (Fin n)) ⟨⟨0, hn⟩, Finset.mem_univ _⟩ (fun k => (f k : EReal))
  exact ⟨f i, hi⟩

theorem coe_sum_fin {n : ℕ} (f : Fin n → ℝ) : ((∑ k, f k : ℝ) : EReal) = ∑ k, (f k : EReal) :=
  map_sum (⟨⟨(fun x : ℝ => (x : EReal)), EReal.coe_zero⟩, EReal.coe_add⟩ : ℝ →+ EReal) f Finset.univ

/-- A nonnegative real factor goes under a sum of extended reals. -/
theorem sum_mul_real {n : ℕ} (f : Fin n → EReal) (c : ℝ) (hc : 0 ≤ c) : (∑ k, f k) * (c : EReal) = ∑ k, f k * (c : EReal) := by
  induction n with
  | zero => simp
  | succ n ih =>
    rw [Fin.sum_univ_succ, Fin.sum_univ_succ,
      EReal.right_distrib_of_nonneg_of_ne_top (EReal.coe_nonneg.2 hc) (EReal.coe_ne_top c), ih]

/-- The reference's exponential of one score. -/
def refExp (x : Fin 4352 → EReal) (k : Fin 4352) : EReal :=
  Ideal.exp (x k - max (Ideal.ofBits .f32 0xFF800000#32) (Finset.univ.fold max (Ideal.ofBits .f32 0xFF800000#32) x))

/-- The reference's weight of one key. -/
def refWeight (x : Fin 4352 → EReal) (k : Fin 4352) : EReal :=
  Ideal.div (refExp x k) (Ideal.ofBits .f32 0x00000000#32 + ∑ j : Fin 4352, refExp x j)

theorem refExp_real (y : Fin 4352 → ℝ) : ∃ M : ℝ, ∀ k, refExp (fun k => (y k : EReal)) k = ((Real.exp (y k - M) : ℝ) : EReal) := by
  obtain ⟨M, hM⟩ := sup_real (by omega : 0 < 4352) y
  refine ⟨M, fun k => ?_⟩
  have e : Ideal.ofBits FTy.f32 0xFF800000#32 = (⊥ : EReal) := by
    simp [Ideal.ofBits, Ideal.ieee]
  unfold refExp
  rw [fold_max_eq, hM, e, max_eq_right bot_le, ← EReal.coe_sub, Ideal.exp_coe]

theorem refWeight_real (y : Fin 4352 → ℝ) : ∃ M : ℝ, ∀ k, refWeight (fun k => (y k : EReal)) k
    = ((Real.exp (y k - M) / ∑ j : Fin 4352, Real.exp (y j - M) : ℝ) : EReal) := by
  obtain ⟨M, hM⟩ := refExp_real y
  refine ⟨M, fun k => ?_⟩
  have e : Ideal.ofBits FTy.f32 0x00000000#32 = (0 : EReal) := by
    simp [Ideal.ofBits, Ideal.ieee]
  have hp : 0 < ∑ j : Fin 4352, Real.exp (y j - M) :=
    Finset.sum_pos (fun j _ => Real.exp_pos _) ⟨⟨0, by omega⟩, Finset.mem_univ _⟩
  unfold refWeight
  simp only [hM]
  rw [e, zero_add, ← coe_sum_fin, Ideal.div_coe hp.ne', ← EReal.coe_mul, mul_one_div]

theorem rpow_two (a : ℝ) : Real.rpow 2 a = Real.exp (a * Real.log 2) := by
  rw [mul_comm]
  exact Real.rpow_def_of_pos (by norm_num) a

theorem attn_real (t : Fin 4096 → ℝ) (u : Fin 256 → ℝ) (v : Fin 4096 → EReal) (w : Fin 256 → EReal) :
    ∃ M l : ℝ, l = (∑ k, Real.exp (t k * Real.log 2 - M)) + ∑ k, Real.exp (u k * Real.log 2 - M) ∧
      attn (fun k => (t k : EReal)) v (fun k => (u k : EReal)) w
        = (∑ k, v k * ((Real.exp (t k * Real.log 2 - M) / l : ℝ) : EReal))
          + ∑ k, w k * ((Real.exp (u k * Real.log 2 - M) / l : ℝ) : EReal) := by
  obtain ⟨M₀, h₀⟩ := sup_real (by omega : 0 < 4096) t
  obtain ⟨M₁, h₁⟩ := sup_real (by omega : 0 < 256) u
  refine ⟨max M₀ M₁ * Real.log 2, _, rfl, ?_⟩
  have hm : max (M₀ : EReal) (M₁ : EReal) = ((max M₀ M₁ : ℝ) : EReal) := (EReal.coe_strictMono.monotone.map_max).symm
  have he (a : ℝ) : FloatOps.exp2 (F := Ideal) (φ := .f32) ((a : EReal) - ((max M₀ M₁ : ℝ) : EReal))
      = ((Real.exp (a * Real.log 2 - max M₀ M₁ * Real.log 2) : ℝ) : EReal) := by
    rw [← EReal.coe_sub]
    show Ideal.exp2 _ = _
    rw [Ideal.exp2_coe, rpow_two, sub_mul]
  unfold attn
  simp only [h₀, h₁, hm, he]
  set M := max M₀ M₁ * Real.log 2
  set l := (∑ k, Real.exp (t k * Real.log 2 - M)) + ∑ k, Real.exp (u k * Real.log 2 - M) with hl
  have hp : 0 < l := add_pos_of_pos_of_nonneg
    (Finset.sum_pos (fun j _ => Real.exp_pos _) ⟨⟨0, by omega⟩, Finset.mem_univ _⟩)
    (Finset.sum_nonneg fun j _ => (Real.exp_pos _).le)
  have hc : (0 : ℝ) ≤ 1 / l := (one_div_pos.2 hp).le
  rw [← coe_sum_fin, ← coe_sum_fin, ← EReal.coe_add, ← hl, Ideal.div_coe hp.ne',
    EReal.right_distrib_of_nonneg_of_ne_top (EReal.coe_nonneg.2 hc) (EReal.coe_ne_top _), sum_mul_real _ _ hc, sum_mul_real _ _ hc]
  simp only [mul_assoc, ← EReal.coe_mul, mul_one_div]

theorem sum_keys (f : Fin 4352 → ℝ) :
    ∑ k, f k = (∑ k : Fin 256, f ⟨k.val, by omega⟩) + ∑ k : Fin 4096, f ⟨256 + k.val, by omega⟩ :=
  Fin.sum_univ_add (a := 256) (b := 4096) f

theorem exp_ratio (a M N l s : ℝ) (hs : s = Real.exp (M - N) * l) : Real.exp (a - N) / s = Real.exp (a - M) / l := by
  rw [hs, ← mul_div_mul_left (Real.exp (a - M)) l (Real.exp_ne_zero (M - N)), ← Real.exp_add]
  congr 2
  ring

/-- The two softmaxes at real scores: one weighted mean of the values. -/
theorem softmax_eq (t : Fin 4096 → ℝ) (u : Fin 256 → ℝ) (v : Fin 4096 → EReal) (w : Fin 256 → EReal) (x : Fin 4352 → EReal)
    (hu : ∀ k : Fin 256, x ⟨k.val, by omega⟩ = ((u k * Real.log 2 : ℝ) : EReal))
    (ht : ∀ k : Fin 4096, x ⟨256 + k.val, by omega⟩ = ((t k * Real.log 2 : ℝ) : EReal)) :
    attn (fun k => (t k : EReal)) v (fun k => (u k : EReal)) w
      = (∑ k : Fin 256, w k * refWeight x ⟨k.val, by omega⟩) + ∑ k : Fin 4096, v k * refWeight x ⟨256 + k.val, by omega⟩ := by
  let y : Fin 4352 → ℝ := fun k => if h : k.val < 256 then u ⟨k.val, h⟩ * Real.log 2 else t ⟨k.val - 256, by omega⟩ * Real.log 2
  have yu (k : Fin 256) : y ⟨k.val, by omega⟩ = u k * Real.log 2 := dif_pos k.isLt
  have yt (k : Fin 4096) : y ⟨256 + k.val, by omega⟩ = t k * Real.log 2 :=
    (dif_neg (by simp)).trans (congrArg (fun z => t z * Real.log 2) (Fin.ext (by simp)))
  have hx : x = fun k => (y k : EReal) := by
    funext k
    by_cases h : k.val < 256
    · exact (hu ⟨k.val, h⟩).trans (congrArg _ (yu ⟨k.val, h⟩).symm)
    · have e : k = ⟨256 + (k.val - 256), by omega⟩ := Fin.ext (by dsimp only; omega)
      rw [e]
      exact (ht ⟨k.val - 256, by omega⟩).trans (congrArg _ (yt ⟨k.val - 256, by omega⟩).symm)
  obtain ⟨N, hN⟩ := refWeight_real y
  obtain ⟨M, l, hl, hatt⟩ := attn_real t u v w
  rw [hatt, hx, add_comm]
  have hs : ∑ j : Fin 4352, Real.exp (y j - N) = Real.exp (M - N) * l := by
    rw [sum_keys, hl, add_comm, mul_add, Finset.mul_sum, Finset.mul_sum]
    simp only [yu, yt, ← Real.exp_add]
    exact congrArg₂ (· + ·) (Finset.sum_congr rfl fun k _ => congrArg Real.exp (by ring))
      (Finset.sum_congr rfl fun k _ => congrArg Real.exp (by ring))
  have hw (a : ℝ) : Real.exp (a - N) / ∑ j : Fin 4352, Real.exp (y j - N) = Real.exp (a - M) / l :=
    exp_ratio a M N l _ hs
  simp only [hN, hw, yu, yt]

end Cert.Attn

end
-- ==== Proof.Score.lean ====
/- The scores at finite queries and keys: real numbers, the kernel's the reference's over the logarithm of two. -/
module

public import proofs.«01_k».proof.Proof.Host
public import proofs.«01_k».proof.Proof.Ref
public import proofs.«01_k».proof.Proof.Soft

@[expose] public section

set_option maxRecDepth 16384

noncomputable section

namespace Cert.Attn

open Cert.KernelIdeal Cert.KernelIdeal.Gen Idealize.ShloMosaic Idealize.ShloMosaic.TcCoe
open Idealize.SL.Sem

theorem bits_96 : Ideal.ofBits FTy.f32 0x42C00000#32 = ((96 : ℝ) : EReal) := by
  simp [Ideal.ofBits, Ideal.ieee, -EReal.coe_mul]; norm_num
theorem bits_2 : Ideal.ofBits FTy.f32 0x40000000#32 = ((2 : ℝ) : EReal) := by
  simp [Ideal.ofBits, Ideal.ieee, -EReal.coe_mul]; norm_num
theorem bits_1 : Ideal.ofBits FTy.f32 0x3F800000#32 = ((1 : ℝ) : EReal) := by
  simp [Ideal.ofBits, Ideal.ieee, -EReal.coe_mul]; norm_num

theorem root_96 : Ideal.sqrt (Ideal.ofBits FTy.f32 0x42C00000#32) = ((Real.sqrt 96 : ℝ) : EReal) := by
  rw [bits_96, Ideal.sqrt_coe, if_neg (by norm_num)]

theorem log_two_ne : Real.log 2 ≠ 0 := (Real.log_pos (by norm_num)).ne'
theorem root_ne : Real.sqrt 96 ≠ 0 := (Real.sqrt_pos.2 (by norm_num)).ne'

theorem factor_real : factor ix0 = ((1 / (Real.sqrt 96 * Real.log 2) : ℝ) : EReal) := by
  rw [factor_apply, root_96, bits_2, bits_1, Ideal.log_coe, if_neg (by norm_num), ← EReal.coe_mul,
    Ideal.div_coe (mul_ne_zero root_ne log_two_ne), ← EReal.coe_mul, one_mul]

/-- A head's score over its 128 lanes: 64 plain, 32 positional, 32 of zeros. -/
theorem lanes_sum (K Q : Fin 128 → EReal) (kn qn : Fin 64 → ℝ) (kp qp : Fin 32 → ℝ) (c : ℝ)
    (hkn : ∀ (d : Fin 128) (hd : d.val < 64), K d = (kn ⟨d.val, hd⟩ : EReal))
    (hkp : ∀ (d : Fin 128) (e : Fin 32), d.val = 64 + e.val → K d = (kp e : EReal))
    (hkz : ∀ d : Fin 128, 96 ≤ d.val → K d = 0)
    (hqn : ∀ (d : Fin 128) (hd : d.val < 64), Q d = (qn ⟨d.val, hd⟩ : EReal))
    (hqp : ∀ (d : Fin 128) (e : Fin 32), d.val = 64 + e.val → Q d = (qp e : EReal)) :
    ∑ d, K d * (Q d * (c : EReal)) = (((∑ d, qn d * kn d + ∑ e, kp e * qp e) * c : ℝ) : EReal) := by
  have s (f : Fin 128 → EReal) : ∑ d, f d = (∑ d : Fin 64, f ⟨d.val, by omega⟩)
      + ((∑ e : Fin 32, f ⟨64 + e.val, by omega⟩) + ∑ e : Fin 32, f ⟨64 + (32 + e.val), by omega⟩) :=
    (Fin.sum_univ_add (a := 64) (b := 64) f).trans (congrArg _ (Fin.sum_univ_add (a := 32) (b := 32) fun i : Fin 64 => f (Fin.natAdd 64 i)))
  have z : ∑ e : Fin 32, K ⟨64 + (32 + e.val), by omega⟩ * (Q ⟨64 + (32 + e.val), by omega⟩ * (c : EReal)) = 0 :=
    Finset.sum_eq_zero fun e _ => by rw [hkz ⟨64 + (32 + e.val), by omega⟩ (by dsimp only; omega), zero_mul]
  rw [s, z, add_zero, Finset.sum_congr rfl fun (d : Fin 64) _ => congrArg₂ (· * ·) (hkn ⟨d.val, by omega⟩ d.isLt)
      (congrArg (· * (c : EReal)) (hqn ⟨d.val, by omega⟩ d.isLt)),
    Finset.sum_congr rfl fun (e : Fin 32) _ => congrArg₂ (· * ·) (hkp ⟨64 + e.val, by omega⟩ e rfl)
      (congrArg (· * (c : EReal)) (hqp ⟨64 + e.val, by omega⟩ e rfl))]
  simp only [Fin.eta, ← EReal.coe_mul, ← coe_sum_fin, ← EReal.coe_add]
  congr 1
  rw [add_mul, Finset.sum_mul, Finset.sum_mul]
  exact congrArg₂ (· + ·) (Finset.sum_congr rfl fun d _ => by ring) (Finset.sum_congr rfl fun d _ => by ring)

variable (a0 : FVec Ideal S16x4096x4x64 .f32) (a1 : FVec Ideal S16x4096x4x32 .f32) (a2 : FVec Ideal S16x4096x4x64 .f32)
  (a3 : FVec Ideal S16x4096x32 .f32) (a5 : FVec Ideal S16x256x4x64 .f32) (a6 : FVec Ideal S16x256x32 .f32)
  (f0 : S16x4096x4x64.Idx → ℝ) (f1 : S16x4096x4x32.Idx → ℝ) (f2 : S16x4096x4x64.Idx → ℝ)
  (f3 : S16x4096x32.Idx → ℝ) (f5 : S16x256x4x64.Idx → ℝ) (f6 : S16x256x32.Idx → ℝ)

/-- The dot product of a query with a latent key. -/
def dotL (b : Fin 16) (h : Fin 4) (r j : Fin 4096) : ℝ :=
  ∑ d : Fin 64, f0 (ix4 b r h d) * f2 (ix4 b j h d) + ∑ e : Fin 32, f3 (ix3 b j e) * f1 (ix4 b r h e)
/-- The dot product of a query with a context key. -/
def dotS (b : Fin 16) (h : Fin 4) (r : Fin 4096) (j : Fin 256) : ℝ :=
  ∑ d : Fin 64, f0 (ix4 b r h d) * f5 (ix4 b j h d) + ∑ e : Fin 32, f6 (ix3 b j e) * f1 (ix4 b r h e)

/-- The queries as the kernel takes them. -/
def hostQ : FVec Ideal S16x4096x512 .bf16 :=
  truncf .bf16 (mulf (packL a0 a1) (broadcastInDim S16x4096x512 ![] bcast_S_S16x4096x512 factor)) bitsLt_bf16_f32
/-- The latent keys as the kernel takes them. -/
def hostK : FVec Ideal S16x4096x512 .bf16 := truncf .bf16 (packL a2 (spreadL a3)) bitsLt_bf16_f32
/-- The context keys as the kernel takes them. -/
def hostC : FVec Ideal S16x256x512 .bf16 := truncf .bf16 (packS a5 (spreadS a6)) bitsLt_bf16_f32

/-- The row of a tile's query in its batch. -/
abbrev rowOf (n r : Fin 256) : Fin 4096 := ⟨256 * (n.val % 16) + r.val, by omega⟩
/-- The batch of a tile. -/
abbrev batchOf (n : Fin 256) : Fin 16 := ⟨n.val / 16, by omega⟩

theorem qTile_apply (n r : Fin 256) (l : Fin 512) : (qTile (F := Ideal) (hostQ a0 a1) n (ix3 (0 : Fin 1) r l) : EReal)
    = (packL a0 a1 (ix3 (batchOf n) (rowOf n r) l) * ((1 / (Real.sqrt 96 * Real.log 2) : ℝ) : EReal) : EReal) := by
  rw [← factor_real]
  exact scaled_apply (packL a0 a1) factor (batchOf n) (rowOf n r) l

theorem kTile_any (y : FVec Ideal S16x4096x512 .f32) (n : Fin 256) (j : Fin 4096) (l : Fin 512) :
    (kTile (F := Ideal) (truncf .bf16 y bitsLt_bf16_f32) n (ix3 (0 : Fin 1) j l) : EReal) = y (ix3 (batchOf n) j l) := rfl

theorem cTile_any (y : FVec Ideal S16x256x512 .f32) (n : Fin 256) (j : Fin 256) (l : Fin 512) :
    (cTile (F := Ideal) (truncf .bf16 y bitsLt_bf16_f32) n (ix3 (0 : Fin 1) j l) : EReal) = y (ix3 (batchOf n) j l) := rfl

theorem kTile_apply (n : Fin 256) (j : Fin 4096) (l : Fin 512) : (kTile (F := Ideal) (hostK a2 a3) n (ix3 (0 : Fin 1) j l) : EReal)
    = packL a2 (spreadL a3) (ix3 (batchOf n) j l) := kTile_any (packL a2 (spreadL a3)) n j l

theorem cTile_apply (n : Fin 256) (j : Fin 256) (l : Fin 512) : (cTile (F := Ideal) (hostC a5 a6) n (ix3 (0 : Fin 1) j l) : EReal)
    = packS a5 (spreadS a6) (ix3 (batchOf n) j l) := cTile_any (packS a5 (spreadS a6)) n j l

theorem latent_real (h0 : ∀ i, a0 i = (f0 i : EReal)) (h1 : ∀ i, a1 i = (f1 i : EReal)) (h2 : ∀ i, a2 i = (f2 i : EReal))
    (h3 : ∀ i, a3 i = (f3 i : EReal)) (n r : Fin 256) (h : Fin 4) (j : Fin 4096) :
    latent (kTile (hostK a2 a3) n) (qTile (hostQ a0 a1) n) h j r
      = ((dotL f0 f1 f2 f3 (batchOf n) h (rowOf n r) j * (1 / (Real.sqrt 96 * Real.log 2)) : ℝ) : EReal) := by
  unfold latent dotL
  rewrite [Finset.sum_congr rfl fun (d : Fin 128) _ => congrArg₂ (· * ·)
    (kTile_apply a2 a3 n j ⟨128 * h.val + d.val, by omega⟩) (qTile_apply a0 a1 n r ⟨128 * h.val + d.val, by omega⟩)]
  exact lanes_sum (fun d => packL a2 (spreadL a3) (ix3 (batchOf n) j (⟨128 * h.val + d.val, by omega⟩ : Fin 512)))
    (fun d => packL a0 a1 (ix3 (batchOf n) (rowOf n r) (⟨128 * h.val + d.val, by omega⟩ : Fin 512)))
    (fun d => f2 (ix4 (batchOf n) j h d)) (fun d => f0 (ix4 (batchOf n) (rowOf n r) h d))
    (fun e => f3 (ix3 (batchOf n) j e)) (fun e => f1 (ix4 (batchOf n) (rowOf n r) h e)) _
    (fun d hd => (packL_nope a2 (spreadL a3) (batchOf n) j h d hd).trans (h2 _))
    (fun d e hd => (packL_pe a2 (spreadL a3) (batchOf n) j h d e hd).trans ((spreadL_apply a3 (batchOf n) j h e).trans (h3 _)))
    (fun d hd => packL_pad a2 (spreadL a3) (batchOf n) j h d hd)
    (fun d hd => (packL_nope a0 a1 (batchOf n) (rowOf n r) h d hd).trans (h0 _))
    (fun d e hd => (packL_pe a0 a1 (batchOf n) (rowOf n r) h d e hd).trans (h1 _))

theorem context_real (h0 : ∀ i, a0 i = (f0 i : EReal)) (h1 : ∀ i, a1 i = (f1 i : EReal)) (h5 : ∀ i, a5 i = (f5 i : EReal))
    (h6 : ∀ i, a6 i = (f6 i : EReal)) (n r : Fin 256) (h : Fin 4) (j : Fin 256) :
    context (cTile (hostC a5 a6) n) (qTile (hostQ a0 a1) n) h j r
      = ((dotS f0 f1 f5 f6 (batchOf n) h (rowOf n r) j * (1 / (Real.sqrt 96 * Real.log 2)) : ℝ) : EReal) := by
  unfold context dotS
  rewrite [Finset.sum_congr rfl fun (d : Fin 128) _ => congrArg₂ (· * ·)
    (cTile_apply a5 a6 n j ⟨128 * h.val + d.val, by omega⟩) (qTile_apply a0 a1 n r ⟨128 * h.val + d.val, by omega⟩)]
  exact lanes_sum (fun d => packS a5 (spreadS a6) (ix3 (batchOf n) j (⟨128 * h.val + d.val, by omega⟩ : Fin 512)))
    (fun d => packL a0 a1 (ix3 (batchOf n) (rowOf n r) (⟨128 * h.val + d.val, by omega⟩ : Fin 512)))
    (fun d => f5 (ix4 (batchOf n) j h d)) (fun d => f0 (ix4 (batchOf n) (rowOf n r) h d))
    (fun e => f6 (ix3 (batchOf n) j e)) (fun e => f1 (ix4 (batchOf n) (rowOf n r) h e)) _
    (fun d hd => (packS_nope a5 (spreadS a6) (batchOf n) j h d hd).trans (h5 _))
    (fun d e hd => (packS_pe a5 (spreadS a6) (batchOf n) j h d e hd).trans ((spreadS_apply a6 (batchOf n) j h e).trans (h6 _)))
    (fun d hd => packS_pad a5 (spreadS a6) (batchOf n) j h d hd)
    (fun d hd => (packL_nope a0 a1 (batchOf n) (rowOf n r) h d hd).trans (h0 _))
    (fun d e hd => (packL_pe a0 a1 (batchOf n) (rowOf n r) h d e hd).trans (h1 _))

theorem over_log (s : ℝ) : s * (1 / Real.sqrt 96) = s * (1 / (Real.sqrt 96 * Real.log 2)) * Real.log 2 := by
  have := log_two_ne
  have := root_ne
  field_simp

theorem score_context (h0 : ∀ i, a0 i = (f0 i : EReal)) (h1 : ∀ i, a1 i = (f1 i : EReal)) (h5 : ∀ i, a5 i = (f5 i : EReal))
    (h6 : ∀ i, a6 i = (f6 i : EReal)) (b : Fin 16) (h : Fin 4) (r : Fin 4096) (j : Fin 256) :
    score a0 a1 a2 a3 a5 a6 b h r ⟨j.val, by omega⟩
      = ((dotS f0 f1 f5 f6 b h r j * (1 / (Real.sqrt 96 * Real.log 2)) * Real.log 2 : ℝ) : EReal) := by
  unfold score dotS
  rw [root_96, Ideal.div_coe root_ne, ← over_log, EReal.coe_mul, EReal.coe_add, coe_sum_fin, coe_sum_fin]
  refine congrArg (· * ((1 / Real.sqrt 96 : ℝ) : EReal)) (congrArg₂ (· + ·) (Finset.sum_congr rfl fun d _ => ?_)
    (Finset.sum_congr rfl fun e _ => ?_))
  · rw [dif_pos j.isLt, h0, h5, EReal.coe_mul]
  · rw [dif_pos j.isLt, h1, h6, EReal.coe_mul]

theorem score_latent (h0 : ∀ i, a0 i = (f0 i : EReal)) (h1 : ∀ i, a1 i = (f1 i : EReal)) (h2 : ∀ i, a2 i = (f2 i : EReal))
    (h3 : ∀ i, a3 i = (f3 i : EReal)) (b : Fin 16) (h : Fin 4) (r j : Fin 4096) :
    score a0 a1 a2 a3 a5 a6 b h r ⟨256 + j.val, by omega⟩
      = ((dotL f0 f1 f2 f3 b h r j * (1 / (Real.sqrt 96 * Real.log 2)) * Real.log 2 : ℝ) : EReal) := by
  have hj : (⟨256 + j.val - 256, by omega⟩ : Fin 4096) = j := Fin.ext (by dsimp only; omega)
  unfold score dotL
  rw [root_96, Ideal.div_coe root_ne, ← over_log, EReal.coe_mul, EReal.coe_add, coe_sum_fin, coe_sum_fin]
  refine congrArg (· * ((1 / Real.sqrt 96 : ℝ) : EReal)) (congrArg₂ (· + ·) (Finset.sum_congr rfl fun d _ => ?_)
    (Finset.sum_congr rfl fun e _ => ?_))
  · rw [dif_neg (by dsimp only; omega), hj, h0, h2, EReal.coe_mul]
  · rw [dif_neg (by dsimp only; omega), hj, h1, h3, EReal.coe_mul]

end Cert.Attn

end
-- ==== Proof.Mean.lean ====
/- A row of the reference's output as the mean of the values under the reference's weights. -/
module

public import proofs.«01_k».proof.Proof.Ref
public import proofs.«01_k».proof.Proof.Soft

@[expose] public section

set_option maxRecDepth 16384

noncomputable section

namespace Cert.Attn

open Cert.ReferenceIdeal Cert.ReferenceIdeal.Read Idealize.ShloMosaic Idealize.ShloMosaic.TcCoe
open Idealize.SL.Sem

variable (x0 : Vec Ideal S16x4096x4x64 .f32) (x1 : Vec Ideal S16x4096x4x32 .f32) (x2 : Vec Ideal S16x4096x4x64 .f32)
  (x3 : Vec Ideal S16x4096x32 .f32) (x4 : Vec Ideal S16x4096x4x64 .f32) (x5 : Vec Ideal S16x256x4x64 .f32)
  (x6 : Vec Ideal S16x256x32 .f32) (x7 : Vec Ideal S16x256x4x64 .f32)

theorem prob_eq (b : Fin 16) (h : Fin 4) (r : Fin 4096) (k : Fin 4352) :
    val_main_v16 x0 x1 x2 x3 x5 x6 (ix4 b h r k) = refExp (score x0 x1 x2 x3 x5 x6 b h r) k := by
  rewrite [prob_apply, max_apply]
  simp only [score_apply]
  unfold refExp
  exact congrArg₂ (fun p q => Ideal.exp (score x0 x1 x2 x3 x5 x6 b h r k - max p (Finset.univ.fold max q (score x0 x1 x2 x3 x5 x6 b h r))))
    (val_main_cst_1_apply _) (val_main_cst_0_apply _)

theorem weight_eq (b : Fin 16) (h : Fin 4) (r : Fin 4096) (k : Fin 4352) :
    val_main_v20 x0 x1 x2 x3 x5 x6 (ix4 b h r k) = refWeight (score x0 x1 x2 x3 x5 x6 b h r) k := by
  rewrite [weight_apply]
  simp only [prob_eq]
  unfold refWeight
  exact Eq.refl _

theorem row_eq (b : Fin 16) (h : Fin 4) (r : Fin 4096) (e : Fin 64) :
    val_main_v22 x0 x1 x2 x3 x4 x5 x6 x7 (ix4 b r h e)
      = (∑ k : Fin 256, x7 (ix4 b k h e) * refWeight (score x0 x1 x2 x3 x5 x6 b h r) ⟨k.val, by omega⟩)
        + ∑ k : Fin 4096, x4 (ix4 b k h e) * refWeight (score x0 x1 x2 x3 x5 x6 b h r) ⟨256 + k.val, by omega⟩ := by
  rewrite [row_apply]
  simp only [weight_eq]

end Cert.Attn

end
-- ==== Proof.Equal.lean ====
/- The two results of the pipelined call and the two of the reference are the same arrays, at finite queries and keys. -/
module

public import proofs.«01_k».proof.Proof.Run
public import proofs.«01_k».proof.Proof.Head
public import proofs.«01_k».proof.Proof.Score
public import proofs.«01_k».proof.Proof.Mean

@[expose] public section

set_option maxRecDepth 16384

noncomputable section

namespace Cert.Attn

open Cert.KernelIdeal Cert.KernelIdeal.Gen Cert.ReferenceIdeal.Read Idealize.ShloMosaic Idealize.ShloMosaic.TcCoe
open Idealize.SL.Sem

variable (a0 : FVec Ideal S16x4096x4x64 .f32) (a1 : FVec Ideal S16x4096x4x32 .f32) (a2 : FVec Ideal S16x4096x4x64 .f32)
  (a3 : FVec Ideal S16x4096x32 .f32) (a4 : FVec Ideal S16x4096x4x64 .f32) (a5 : FVec Ideal S16x256x4x64 .f32)
  (a6 : FVec Ideal S16x256x32 .f32) (a7 : FVec Ideal S16x256x4x64 .f32)

/-- The latent values as the kernel takes them. -/
def hostV : FVec Ideal S16x256x4096 .bf16 := truncf .bf16 (turnedL a4) bitsLt_bf16_f32
/-- The context values as the kernel takes them. -/
def hostW : FVec Ideal S16x256x256 .bf16 := truncf .bf16 (turnedS a7) bitsLt_bf16_f32

theorem vTile_any (y : FVec Ideal S16x256x4096 .f32) (n col : Fin 256) (k : Fin 4096) :
    (vTile (F := Ideal) (truncf .bf16 y bitsLt_bf16_f32) n (ix3 (0 : Fin 1) col k) : EReal) = y (ix3 (batchOf n) col k) := rfl

theorem wTile_any (y : FVec Ideal S16x256x256 .f32) (n col : Fin 256) (k : Fin 256) :
    (wTile (F := Ideal) (truncf .bf16 y bitsLt_bf16_f32) n (ix3 (0 : Fin 1) col k) : EReal) = y (ix3 (batchOf n) col k) := rfl

theorem vTile_apply (n col : Fin 256) (k : Fin 4096) : (vTile (F := Ideal) (hostV a4) n (ix3 (0 : Fin 1) col k) : EReal)
    = a4 (ix4 (batchOf n) k (⟨col.val / 64, by omega⟩ : Fin 4) (⟨col.val % 64, by omega⟩ : Fin 64)) :=
  (vTile_any (turnedL a4) n col k).trans (turnedL_apply a4 (batchOf n) k col)

theorem wTile_apply (n col : Fin 256) (k : Fin 256) : (wTile (F := Ideal) (hostW a7) n (ix3 (0 : Fin 1) col k) : EReal)
    = a7 (ix4 (batchOf n) k (⟨col.val / 64, by omega⟩ : Fin 4) (⟨col.val % 64, by omega⟩ : Fin 64)) :=
  (wTile_any (turnedS a7) n col k).trans (turnedS_apply a7 (batchOf n) k col)

/-- Every element is a real number. -/
def AllReal {S : Shape} (a : FVec Ideal S .f32) : Prop := ∃ f : S.Idx → ℝ, ∀ i, a i = (f i : EReal)

variable {a0 a1 a2 a3 a5 a6}

/-- A row of a tile is the reference's row. -/
theorem tile_row (H0 : AllReal a0) (H1 : AllReal a1) (H2 : AllReal a2) (H3 : AllReal a3) (H5 : AllReal a5) (H6 : AllReal a6)
    (n r col : Fin 256) :
    (tileAtt (F := Ideal) (hostQ a0 a1) (hostK a2 a3) (hostC a5 a6) (hostV a4) (hostW a7) n (ix3 (0 : Fin 1) r col) : EReal)
      = val_main_v22 (F := Ideal) a0 a1 a2 a3 a4 a5 a6 a7 (ix4 (batchOf n) (rowOf n r)
          (⟨col.val / 64, by omega⟩ : Fin 4) (⟨col.val % 64, by omega⟩ : Fin 64)) := by
  obtain ⟨f0, h0⟩ := H0
  obtain ⟨f1, h1⟩ := H1
  obtain ⟨f2, h2⟩ := H2
  obtain ⟨f3, h3⟩ := H3
  obtain ⟨f5, h5⟩ := H5
  obtain ⟨f6, h6⟩ := H6
  unfold tileAtt
  rewrite [attOut_apply,
    funext fun k => latent_real a0 a1 a2 a3 f0 f1 f2 f3 h0 h1 h2 h3 n r (⟨col.val / 64, by omega⟩ : Fin 4) k,
    funext fun k => context_real a0 a1 a5 a6 f0 f1 f5 f6 h0 h1 h5 h6 n r (⟨col.val / 64, by omega⟩ : Fin 4) k,
    funext fun k => vTile_apply a4 n col k, funext fun k => wTile_apply a7 n col k, row_eq]
  exact softmax_eq
    (fun k => dotL f0 f1 f2 f3 (batchOf n) (⟨col.val / 64, by omega⟩ : Fin 4) (rowOf n r) k * (1 / (Real.sqrt 96 * Real.log 2)))
    (fun k => dotS f0 f1 f5 f6 (batchOf n) (⟨col.val / 64, by omega⟩ : Fin 4) (rowOf n r) k * (1 / (Real.sqrt 96 * Real.log 2)))
    _ _ _
    (fun k => score_context a0 a1 a2 a3 a5 a6 f0 f1 f5 f6 h0 h1 h5 h6 (batchOf n) (⟨col.val / 64, by omega⟩ : Fin 4) (rowOf n r) k)
    (fun k => score_latent a0 a1 a2 a3 a5 a6 f0 f1 f2 f3 h0 h1 h2 h3 (batchOf n) (⟨col.val / 64, by omega⟩ : Fin 4) (rowOf n r) k)

/-- The even groups of rows. -/
theorem even_eq (H0 : AllReal a0) (H1 : AllReal a1) (H2 : AllReal a2) (H3 : AllReal a3) (H5 : AllReal a5) (H6 : AllReal a6) :
    evenOut (F := Ideal) (hostQ a0 a1) (hostK a2 a3) (hostC a5 a6) (hostV a4) (hostW a7) = val_main_v26 (F := Ideal) a0 a1 a2 a3 a4 a5 a6 a7 := by
  funext i
  idx_vars i
  refine (tile_row a4 a7 H0 H1 H2 H3 H5 H6 (⟨2 * i0.val, by omega⟩ : Fin 256) i1 i2).trans ?_
  refine Eq.trans (congrArg₂ (fun b q => val_main_v22 (F := Ideal) a0 a1 a2 a3 a4 a5 a6 a7 (ix4 b q
    (⟨i2.val / 64, by omega⟩ : Fin 4) (⟨i2.val % 64, by omega⟩ : Fin 64))) (Fin.ext ?_) (Fin.ext ?_)) (even_apply a0 a1 a2 a3 a4 a5 a6 a7 i0 i1 i2).symm
  · dsimp only; omega
  · dsimp only; omega

/-- The odd groups of rows. -/
theorem odd_eq (H0 : AllReal a0) (H1 : AllReal a1) (H2 : AllReal a2) (H3 : AllReal a3) (H5 : AllReal a5) (H6 : AllReal a6) :
    oddOut (F := Ideal) (hostQ a0 a1) (hostK a2 a3) (hostC a5 a6) (hostV a4) (hostW a7) = val_main_v29 (F := Ideal) a0 a1 a2 a3 a4 a5 a6 a7 := by
  funext i
  idx_vars i
  refine (tile_row a4 a7 H0 H1 H2 H3 H5 H6 (⟨2 * i0.val + 1, by omega⟩ : Fin 256) i1 i2).trans ?_
  refine Eq.trans (congrArg₂ (fun b q => val_main_v22 (F := Ideal) a0 a1 a2 a3 a4 a5 a6 a7 (ix4 b q
    (⟨i2.val / 64, by omega⟩ : Fin 4) (⟨i2.val % 64, by omega⟩ : Fin 64))) (Fin.ext ?_) (Fin.ext ?_)) (odd_apply a0 a1 a2 a3 a4 a5 a6 a7 i0 i1 i2).symm
  · dsimp only; omega
  · dsimp only; omega

/-- An array whose elements' absolute values are all less than infinity holds real numbers. -/
theorem real_of_lt {S : Shape} (a : FVec Ideal S .f32)
    (h : ∀ i, Ideal.cmp .olt (max (a i) (-a i)) (Ideal.ofBits .f32 0x7F800000#32) = 1#1) : AllReal a := by
  have top : Ideal.ofBits FTy.f32 0x7F800000#32 = (⊤ : EReal) := by simp [Ideal.ofBits, Ideal.ieee]
  refine ⟨fun i => (a i : EReal).toReal, fun i => (EReal.coe_toReal ?_ ?_).symm⟩
  · intro e
    have := h i
    rw [top, e] at this
    simp [Ideal.cmp] at this
  · intro e
    have := h i
    rw [top, e] at this
    simp [Ideal.cmp] at this

end Cert.Attn

end
-- ==== Proof.MixBody.lean ====
/- The tail of the layer: its one pallas_call up to the body, and what the body leaves in the output block. -/
module

public import proofs.«01_k».proof.Proof.Gen.MixIdeal.Launch
public import proofs.«01_k».proof.Proof.Gen.MixIdeal.Skeleton
public import proofs.«01_k».proof.Proof.Gen.MixIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.MixRun

open Cert.MixIdeal Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`, `hostOps0_3`, `hostOps0_4`. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4] (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg13`: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg14`: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg15`: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- Input window 16's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
/-- Input window 17's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
/-- Input window 18's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_18_of {c : Dev nD} (dat : Dat τ (Elt F) Unit ℕ (UR sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)
/-- Input window 19's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_19_of {c : Dev nD} (dat : Dat τ (Elt F) Unit ℕ (UR sig nD τ) ℕ cfg0 c) (hA : dat.A 19 = V m c (Pipeline.arrRef spec0 19))
    (hafter : ∀ t, dat.after 19 t = iblk m c 19 t) (t : Fin cfg0.N) (d) : dat.before 19 t d = iblk m c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)
/-- Input window 20's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_20_of {c : Dev nD} (dat : Dat τ (Elt F) Unit ℕ (UR sig nD τ) ℕ cfg0 c) (hA : dat.A 20 = V m c (Pipeline.arrRef spec0 20))
    (hafter : ∀ t, dat.after 20 t = iblk m c 20 t) (t : Fin cfg0.N) (d) : dat.before 20 t d = iblk m c 20 t :=
  (dat.before_in_eq_fetched 20 rfl (fun _ => rfl) (fun _ _ _ => rfl) (fun t => by rw [hafter]; unfold Dat.blockOf iblk; rw [hA]; try rfl) t d).trans
    (by unfold Dat.fetched Dat.blockOf iblk; rw [hA]; try rfl)
/-- Input window 21's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_21_of {c : Dev nD} (dat : Dat τ (Elt F) Unit ℕ (UR sig nD τ) ℕ cfg0 c) (hA : dat.A 21 = V m c (Pipeline.arrRef spec0 21))
    (hafter : ∀ t, dat.after 21 t = iblk m c 21 t) (t : Fin cfg0.N) (d) : dat.before 21 t d = iblk m c 21 t :=
  (dat.before_in_eq_fetched 21 rfl (fun _ => rfl) (fun _ _ _ => rfl) (fun t => by rw [hafter]; unfold Dat.blockOf iblk; rw [hA]; try rfl) t d).trans
    (by unfold Dat.fetched Dat.blockOf iblk; rw [hA]; try rfl)
/-- Input window 22's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_22_of {c : Dev nD} (dat : Dat τ (Elt F) Unit ℕ (UR sig nD τ) ℕ cfg0 c) (hA : dat.A 22 = V m c (Pipeline.arrRef spec0 22))
    (hafter : ∀ t, dat.after 22 t = iblk m c 22 t) (t : Fin cfg0.N) (d) : dat.before 22 t d = iblk m c 22 t :=
  (dat.before_in_eq_fetched 22 rfl (fun _ => rfl) (fun _ _ _ => rfl) (fun t => by rw [hafter]; unfold Dat.blockOf iblk; rw [hA]; try rfl) t d).trans
    (by unfold Dat.fetched Dat.blockOf iblk; rw [hA]; try rfl)
/-- Input window 23's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_23_of {c : Dev nD} (dat : Dat τ (Elt F) Unit ℕ (UR sig nD τ) ℕ cfg0 c) (hA : dat.A 23 = V m c (Pipeline.arrRef spec0 23))
    (hafter : ∀ t, dat.after 23 t = iblk m c 23 t) (t : Fin cfg0.N) (d) : dat.before 23 t d = iblk m c 23 t :=
  (dat.before_in_eq_fetched 23 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1500000 in
/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_MixIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨((h c).1 0).trans (((dats 0 c).arrAt_in 0 rfl _).trans ((hA c 0).trans (V_main_arg0 m c))),
      ((h c).1 3).trans (((dats 0 c).arrAt_in 3 rfl _).trans ((hA c 3).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).1 9).trans (((dats 0 c).arrAt_in 9 rfl _).trans ((hA c 9).trans (V_main_arg8 m c))),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c)⟩) h

/-! ## The body's accesses -/

abbrev r0_0 : Rect S1x8x1024 := Rect.unit (s := S1x8x1024) ![0, 0, 0] S1x8x1024.size inb_S1x8x1024_S1x8x1024_0_0_0
abbrev r0_1 : Rect S1x512x1024 := Rect.unit (s := S1x512x1024) ![0, 0, 0] S1x512x1024.size inb_S1x512x1024_S1x512x1024_0_0_0
abbrev r0_2 : Rect S1x256x256 := Rect.unit (s := S1x256x256) ![0, 0, 0] S1x256x256.size inb_S1x256x256_S1x256x256_0_0_0
abbrev r0_3 : Rect S512x512 := Rect.unit (s := S512x512) ![0, 0] S512x512.size inb_S512x512_S512x512_0_0
abbrev r0_4 : Rect S512x256 := Rect.unit (s := S512x256) ![0, 0] S512x256.size inb_S512x256_S512x256_0_0
abbrev r0_5 : Rect S8x256 := Rect.unit (s := S8x256) ![0, 0] S1x256.size inb_S8x256_S1x256_0_0
abbrev r0_6 : Rect S3x256 := Rect.unit (s := S3x256) ![0, 0] S1x256.size inb_S3x256_S1x256_0_0
abbrev r0_7 : Rect S3x256 := Rect.unit (s := S3x256) ![1, 0] S1x256.size inb_S3x256_S1x256_1_0
abbrev r0_8 : Rect S3x256 := Rect.unit (s := S3x256) ![2, 0] S1x256.size inb_S3x256_S1x256_2_0
abbrev r0_9 : Rect S256x256 := Rect.unit (s := S256x256) ![0, 0] S256x256.size inb_S256x256_S256x256_0_0
abbrev r0_10 : Rect S1x256 := Rect.unit (s := S1x256) ![0, 0] S1x256.size inb_S1x256_S1x256_0_0
abbrev r0_11 : Rect S1x1x1024 := Rect.unit (s := S1x1x1024) ![0, 0, 0] S1x1x1024.size inb_S1x1x1024_S1x1x1024_0_0_0
abbrev r0_12 : Rect S1024x1024 := Rect.unit (s := S1024x1024) ![0, 0] S1024x1024.size inb_S1024x1024_S1024x1024_0_0
abbrev r0_13 : Rect S1x1024 := Rect.unit (s := S1x1024) ![0, 0] S1x1024.size inb_S1x1024_S1x1024_0_0
abbrev r0_14 : Rect S1024x4096 := Rect.unit (s := S1024x4096) ![0, 0] S1024x2048.size inb_S1024x4096_S1024x2048_0_0
abbrev r0_15 : Rect S4096x1024 := Rect.unit (s := S4096x1024) ![0, 0] S2048x1024.size inb_S4096x1024_S2048x1024_0_0
abbrev r0_16 : Rect S1024x4096 := Rect.unit (s := S1024x4096) ![0, 2048] S1024x2048.size inb_S1024x4096_S1024x2048_0_2048
abbrev r0_17 : Rect S4096x1024 := Rect.unit (s := S4096x1024) ![2048, 0] S2048x1024.size inb_S4096x1024_S2048x1024_2048_0

/-! ## What the body leaves in each output window's buffer -/

/-! ### Values of the body that the stores' payloads, spelt out, would write more than once

    Each is a vector the body binds (often a part call's result), stated over the input windows' blocks and
    numbered on from the skeleton's payload functions (`k0_pay19` …, after `k0_pay18`), so that
    `out0_W` and the values after it name it instead of spelling it out (`unfold_out out0_W` opens a canon
    with them, `unfold_payloads` opens them with the payloads); the comment after each is the printed function's
    name for the value (a count appended where that name is bound again). -/

def k0_pay19 (i : grid0.Coords) (x0 : Vec F S1x512x1024 .f32) (x1 : Vec F S1x512x1024 .f32) (x2 : Vec F S1x8x1024 .f32) (x3 : Vec F S1x8x1024 .f32) (x4 : Vec F S512x256 .f32) (x5 : Vec F S1x1x1024 .f32) (x6 : Vec F S1x1x1024 .f32) (x7 : Vec F S1x1x1024 .f32) (x8 : Vec F S1x1x1024 .f32) (x9 : Vec F S3x256 .f32) (x10 : Vec F S256x256 .bf16) (x11 : Vec F S1x256 .f32) (x12 : Vec F S1024x1024 .bf16) (x13 : Vec F S1x1024 .f32) (x14 : Vec F S1024x4096 .bf16) (x15 : Vec F S4096x1024 .bf16) (x16 : Vec F S1x1024 .f32) (x17 : Vec F S512x256 .bf16) (x18 : Vec F S512x256 .bf16) (x19 : Vec F S8x256 .bf16) (x20 : Vec F S8x256 .bf16) (x21 : Vec F S512x512 .bf16) (x22 : Vec F S1x256x256 .bf16) (x23 : Vec F S1x256x256 .bf16) : FVec F S528x1024 .f32 :=
  k0_pay2 i (View.ld x2 r0_0) (View.ld x3 r0_0) (View.ld x1 r0_1) -- `v12`
def k0_pay20 (i : grid0.Coords) (x0 : Vec F S1x512x1024 .f32) (x1 : Vec F S1x512x1024 .f32) (x2 : Vec F S1x8x1024 .f32) (x3 : Vec F S1x8x1024 .f32) (x4 : Vec F S512x256 .f32) (x5 : Vec F S1x1x1024 .f32) (x6 : Vec F S1x1x1024 .f32) (x7 : Vec F S1x1x1024 .f32) (x8 : Vec F S1x1x1024 .f32) (x9 : Vec F S3x256 .f32) (x10 : Vec F S256x256 .bf16) (x11 : Vec F S1x256 .f32) (x12 : Vec F S1024x1024 .bf16) (x13 : Vec F S1x1024 .f32) (x14 : Vec F S1024x4096 .bf16) (x15 : Vec F S4096x1024 .bf16) (x16 : Vec F S1x1024 .f32) (x17 : Vec F S512x256 .bf16) (x18 : Vec F S512x256 .bf16) (x19 : Vec F S8x256 .bf16) (x20 : Vec F S8x256 .bf16) (x21 : Vec F S512x512 .bf16) (x22 : Vec F S1x256x256 .bf16) (x23 : Vec F S1x256x256 .bf16) : FVec F S512x1024 .bf16 :=
  k0_pay12 k0_pay3 (k0_pay4 (View.ld x22 r0_2) (View.ld x23 r0_2)) (k0_pay6 (BitVec.ofNat 32 (i 1).val) (k0_pay5 (View.ld x21 r0_3) (View.ld x18 r0_4)) (Scalar.cmpi .eq (Scalar.muli 2#32 (BitVec.ofNat 32 (i 1).val)) 8#32) (View.ld x20 r0_5) (View.ld x19 r0_5) (View.ld x17 r0_4)) (k0_pay7 (k0_pay19 i x0 x1 x2 x3 x4 x5 x6 x7 x8 x9 x10 x11 x12 x13 x14 x15 x16 x17 x18 x19 x20 x21 x22 x23) (View.ld x9 r0_6) (View.ld x9 r0_7) (View.ld x9 r0_8)) (k0_pay8 (k0_pay19 i x0 x1 x2 x3 x4 x5 x6 x7 x8 x9 x10 x11 x12 x13 x14 x15 x16 x17 x18 x19 x20 x21 x22 x23)) (k0_pay9 (k0_pay19 i x0 x1 x2 x3 x4 x5 x6 x7 x8 x9 x10 x11 x12 x13 x14 x15 x16 x17 x18 x19 x20 x21 x22 x23)) (k0_pay10 (k0_pay19 i x0 x1 x2 x3 x4 x5 x6 x7 x8 x9 x10 x11 x12 x13 x14 x15 x16 x17 x18 x19 x20 x21 x22 x23)) (k0_pay11 (k0_pay19 i x0 x1 x2 x3 x4 x5 x6 x7 x8 x9 x10 x11 x12 x13 x14 x15 x16 x17 x18 x19 x20 x21 x22 x23)) (View.ld x4 r0_4) (View.ld x10 r0_9) (View.ld x11 r0_10) -- `v105`
def k0_pay21 (i : grid0.Coords) (x0 : Vec F S1x512x1024 .f32) (x1 : Vec F S1x512x1024 .f32) (x2 : Vec F S1x8x1024 .f32) (x3 : Vec F S1x8x1024 .f32) (x4 : Vec F S512x256 .f32) (x5 : Vec F S1x1x1024 .f32) (x6 : Vec F S1x1x1024 .f32) (x7 : Vec F S1x1x1024 .f32) (x8 : Vec F S1x1x1024 .f32) (x9 : Vec F S3x256 .f32) (x10 : Vec F S256x256 .bf16) (x11 : Vec F S1x256 .f32) (x12 : Vec F S1024x1024 .bf16) (x13 : Vec F S1x1024 .f32) (x14 : Vec F S1024x4096 .bf16) (x15 : Vec F S4096x1024 .bf16) (x16 : Vec F S1x1024 .f32) (x17 : Vec F S512x256 .bf16) (x18 : Vec F S512x256 .bf16) (x19 : Vec F S8x256 .bf16) (x20 : Vec F S8x256 .bf16) (x21 : Vec F S512x512 .bf16) (x22 : Vec F S1x256x256 .bf16) (x23 : Vec F S1x256x256 .bf16) : FVec F S512x1024 .f32 :=
  k0_pay13 (View.ld x0 r0_1) -- `v107`
def k0_pay22 (i : grid0.Coords) (x0 : Vec F S1x512x1024 .f32) (x1 : Vec F S1x512x1024 .f32) (x2 : Vec F S1x8x1024 .f32) (x3 : Vec F S1x8x1024 .f32) (x4 : Vec F S512x256 .f32) (x5 : Vec F S1x1x1024 .f32) (x6 : Vec F S1x1x1024 .f32) (x7 : Vec F S1x1x1024 .f32) (x8 : Vec F S1x1x1024 .f32) (x9 : Vec F S3x256 .f32) (x10 : Vec F S256x256 .bf16) (x11 : Vec F S1x256 .f32) (x12 : Vec F S1024x1024 .bf16) (x13 : Vec F S1x1024 .f32) (x14 : Vec F S1024x4096 .bf16) (x15 : Vec F S4096x1024 .bf16) (x16 : Vec F S1x1024 .f32) (x17 : Vec F S512x256 .bf16) (x18 : Vec F S512x256 .bf16) (x19 : Vec F S8x256 .bf16) (x20 : Vec F S8x256 .bf16) (x21 : Vec F S512x512 .bf16) (x22 : Vec F S1x256x256 .bf16) (x23 : Vec F S1x256x256 .bf16) : FVec F S1x1024 .f32 :=
  k0_pay14 (View.ld x5 r0_11) -- `v109`
def k0_pay23 (i : grid0.Coords) (x0 : Vec F S1x512x1024 .f32) (x1 : Vec F S1x512x1024 .f32) (x2 : Vec F S1x8x1024 .f32) (x3 : Vec F S1x8x1024 .f32) (x4 : Vec F S512x256 .f32) (x5 : Vec F S1x1x1024 .f32) (x6 : Vec F S1x1x1024 .f32) (x7 : Vec F S1x1x1024 .f32) (x8 : Vec F S1x1x1024 .f32) (x9 : Vec F S3x256 .f32) (x10 : Vec F S256x256 .bf16) (x11 : Vec F S1x256 .f32) (x12 : Vec F S1024x1024 .bf16) (x13 : Vec F S1x1024 .f32) (x14 : Vec F S1024x4096 .bf16) (x15 : Vec F S4096x1024 .bf16) (x16 : Vec F S1x1024 .f32) (x17 : Vec F S512x256 .bf16) (x18 : Vec F S512x256 .bf16) (x19 : Vec F S8x256 .bf16) (x20 : Vec F S8x256 .bf16) (x21 : Vec F S512x512 .bf16) (x22 : Vec F S1x256x256 .bf16) (x23 : Vec F S1x256x256 .bf16) : FVec F S1024x1024 .bf16 :=
  k0_pay15 (View.ld x12 r0_12) -- `v111`

/-- Window 24's staging buffer after the body, from the input windows' blocks: its 1 store as pieces, LAST
    FIRST (Lib/Pipeline/FrameBody.lean `View.canon`; the payloads are the skeleton's and the values stated above). -/
def out0_24 (i : grid0.Coords) (x0 : Vec F S1x512x1024 .f32) (x1 : Vec F S1x512x1024 .f32) (x2 : Vec F S1x8x1024 .f32) (x3 : Vec F S1x8x1024 .f32) (x4 : Vec F S512x256 .f32) (x5 : Vec F S1x1x1024 .f32) (x6 : Vec F S1x1x1024 .f32) (x7 : Vec F S1x1x1024 .f32) (x8 : Vec F S1x1x1024 .f32) (x9 : Vec F S3x256 .f32) (x10 : Vec F S256x256 .bf16) (x11 : Vec F S1x256 .f32) (x12 : Vec F S1024x1024 .bf16) (x13 : Vec F S1x1024 .f32) (x14 : Vec F S1024x4096 .bf16) (x15 : Vec F S4096x1024 .bf16) (x16 : Vec F S1x1024 .f32) (x17 : Vec F S512x256 .bf16) (x18 : Vec F S512x256 .bf16) (x19 : Vec F S8x256 .bf16) (x20 : Vec F S8x256 .bf16) (x21 : Vec F S512x512 .bf16) (x22 : Vec F S1x256x256 .bf16) (x23 : Vec F S1x256x256 .bf16) : Vec F S1x512x1024 .f32 :=
  View.canon [⟨r0_1, k0_pay1 (k0_pay16 (k0_pay20 i x0 x1 x2 x3 x4 x5 x6 x7 x8 x9 x10 x11 x12 x13 x14 x15 x16 x17 x18 x19 x20 x21 x22 x23) (k0_pay21 i x0 x1 x2 x3 x4 x5 x6 x7 x8 x9 x10 x11 x12 x13 x14 x15 x16 x17 x18 x19 x20 x21 x22 x23) (k0_pay22 i x0 x1 x2 x3 x4 x5 x6 x7 x8 x9 x10 x11 x12 x13 x14 x15 x16 x17 x18 x19 x20 x21 x22 x23) (k0_pay23 i x0 x1 x2 x3 x4 x5 x6 x7 x8 x9 x10 x11 x12 x13 x14 x15 x16 x17 x18 x19 x20 x21 x22 x23)) (k0_pay17 (k0_pay20 i x0 x1 x2 x3 x4 x5 x6 x7 x8 x9 x10 x11 x12 x13 x14 x15 x16 x17 x18 x19 x20 x21 x22 x23) (k0_pay21 i x0 x1 x2 x3 x4 x5 x6 x7 x8 x9 x10 x11 x12 x13 x14 x15 x16 x17 x18 x19 x20 x21 x22 x23) (k0_pay22 i x0 x1 x2 x3 x4 x5 x6 x7 x8 x9 x10 x11 x12 x13 x14 x15 x16 x17 x18 x19 x20 x21 x22 x23) (k0_pay23 i x0 x1 x2 x3 x4 x5 x6 x7 x8 x9 x10 x11 x12 x13 x14 x15 x16 x17 x18 x19 x20 x21 x22 x23) (View.ld x13 r0_13) (View.ld x6 r0_11) (View.ld x7 r0_11)) (k0_pay18 (k0_pay20 i x0 x1 x2 x3 x4 x5 x6 x7 x8 x9 x10 x11 x12 x13 x14 x15 x16 x17 x18 x19 x20 x21 x22 x23) (k0_pay21 i x0 x1 x2 x3 x4 x5 x6 x7 x8 x9 x10 x11 x12 x13 x14 x15 x16 x17 x18 x19 x20 x21 x22 x23) (k0_pay22 i x0 x1 x2 x3 x4 x5 x6 x7 x8 x9 x10 x11 x12 x13 x14 x15 x16 x17 x18 x19 x20 x21 x22 x23) (k0_pay23 i x0 x1 x2 x3 x4 x5 x6 x7 x8 x9 x10 x11 x12 x13 x14 x15 x16 x17 x18 x19 x20 x21 x22 x23) (View.ld x13 r0_13) (View.ld x6 r0_11) (View.ld x7 r0_11) (View.ld x14 r0_14) (View.ld x15 r0_15)) (View.ld x14 r0_16) (View.ld x15 r0_17) (View.ld x8 r0_11) (View.ld x16 r0_13)⟩]

/-- Its stores tile the buffer (checked by evaluation), so they cover it. -/
theorem cover0_24 (p0 : Vec F S1x512x1024 .f32) (y : S1x512x1024.Idx) :
    ∃ pc ∈ ([⟨r0_1, p0⟩] : List (View.Piece (Elt F) S1x512x1024 .f32)), y ∈ pc.1.set :=
  View.cover_of_tiled [⟨r0_1, p0⟩] S1x512x1024.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg2 : Memref sig .tc .vmem S1x512x1024 .f32) (harg2 : arg2.IsWhole) (arg3 : Memref sig .tc .vmem S1x512x1024 .f32) (harg3 : arg3.IsWhole) (arg4 : Memref sig .tc .vmem S1x8x1024 .f32) (harg4 : arg4.IsWhole) (arg5 : Memref sig .tc .vmem S1x8x1024 .f32) (harg5 : arg5.IsWhole) (arg6 : Memref sig .tc .vmem S512x256 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1x1024 .f32) (harg10 : arg10.IsWhole) (arg11 : Memref sig .tc .vmem S3x256 .f32) (harg11 : arg11.IsWhole) (arg12 : Memref sig .tc .vmem S256x256 .bf16) (harg12 : arg12.IsWhole) (arg13 : Memref sig .tc .vmem S1x256 .f32) (harg13 : arg13.IsWhole) (arg14 : Memref sig .tc .vmem S1024x1024 .bf16) (harg14 : arg14.IsWhole) (arg15 : Memref sig .tc .vmem S1x1024 .f32) (harg15 : arg15.IsWhole) (arg16 : Memref sig .tc .vmem S1024x4096 .bf16) (harg16 : arg16.IsWhole) (arg17 : Memref sig .tc .vmem S4096x1024 .bf16) (harg17 : arg17.IsWhole) (arg18 : Memref sig .tc .vmem S1x1024 .f32) (harg18 : arg18.IsWhole) (arg19 : Memref sig .tc .vmem S512x256 .bf16) (harg19 : arg19.IsWhole) (arg20 : Memref sig .tc .vmem S512x256 .bf16) (harg20 : arg20.IsWhole) (arg21 : Memref sig .tc .vmem S8x256 .bf16) (harg21 : arg21.IsWhole) (arg22 : Memref sig .tc .vmem S8x256 .bf16) (harg22 : arg22.IsWhole) (arg23 : Memref sig .tc .vmem S512x512 .bf16) (harg23 : arg23.IsWhole) (arg24 : Memref sig .tc .vmem S1x256x256 .bf16) (harg24 : arg24.IsWhole) (arg25 : Memref sig .tc .vmem S1x256x256 .bf16) (harg25 : arg25.IsWhole) (arg26 : Memref sig .tc .vmem S1x512x1024 .f32) (harg26 : arg26.IsWhole)
    (x0 : Vec F S1x512x1024 .f32) (x1 : Vec F S1x512x1024 .f32) (x2 : Vec F S1x8x1024 .f32) (x3 : Vec F S1x8x1024 .f32) (x4 : Vec F S512x256 .f32) (x5 : Vec F S1x1x1024 .f32) (x6 : Vec F S1x1x1024 .f32) (x7 : Vec F S1x1x1024 .f32) (x8 : Vec F S1x1x1024 .f32) (x9 : Vec F S3x256 .f32) (x10 : Vec F S256x256 .bf16) (x11 : Vec F S1x256 .f32) (x12 : Vec F S1024x1024 .bf16) (x13 : Vec F S1x1024 .f32) (x14 : Vec F S1024x4096 .bf16) (x15 : Vec F S4096x1024 .bf16) (x16 : Vec F S1x1024 .f32) (x17 : Vec F S512x256 .bf16) (x18 : Vec F S512x256 .bf16) (x19 : Vec F S8x256 .bf16) (x20 : Vec F S8x256 .bf16) (x21 : Vec F S512x512 .bf16) (x22 : Vec F S1x256x256 .bf16) (x23 : Vec F S1x256x256 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ (∃ d, owns (c : Thread nD τ) arg26 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare (out0_24 i x0 x1 x2 x3 x4 x5 x6 x7 x8 x9 x10 x11 x12 x13 x14 x15 x16 x17 x18 x19 x20 x21 x22 x23)) -∗ K ⟨⟩))
      ⊢ wp frame (wpE (defs₀ (F := F)) Variants.none c none) E (cc0_mixmlp i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  simp only [cc0_mixmlp_eq_skeleton]; unfold cc0_mixmlp_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%d24, %f24, -, H24⟩, Hk⟩
  subst hf0 hf1 hf2 hf3 hf4 hf5 hf6 hf7 hf8 hf9 hf10 hf11 hf12 hf13 hf14 hf15 hf16 hf17 hf18 hf19 hf20 hf21 hf22 hf23
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  iexists _; isplitr
  swap; · iexact H24
  ipureintro
  refine (View.read_writes_eq_canon _ _ _ (cover0_24 _)).trans ?_
  rfl

end Cert.MixRun

end
-- ==== Proof.MixRun.lean ====
/- The run of the pallas_call: the blocks its output array is made of, the arguments unchanged, the counters at zero. -/
module

public import proofs.«01_k».proof.Proof.MixBody
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp
public import Idealize.ShloMosaic.Lib.Pipeline.Value

@[expose] public section

-- membership in a rectangle of production extents (`View.cover_of_tiled`): the elaborator's structural look
-- recurses once per coordinate of the long axes
set_option maxRecDepth 16384

noncomputable section

namespace Cert.MixRun

open Cert.MixIdeal Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => out0_24 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)
    | ⟨_ + 25, h⟩ => absurd h (Nat.not_lt.2 (Nat.le_add_left _ _))
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = out0_24 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t))

set_option maxHeartbeats 4000000 in
/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexists _; iexact H24
  iintro ⟨H0, H1, H2, H3, H4, H5, H6, H7, H8, H9, H10, H11, H12, H13, H14, H15, H16, H17, H18, H19, H20, H21, H22, H23, H24⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  iexact H24

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  frame_of m ρ (dats m) (A_eq m) (run_main m ρ)

/-- The frame, for any float values `F`: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  θ_run_and (unchanged m ρ) ((θ_run defs _ _).mono (fun _ h => h.2) (run_main_quiescent m ρ))

/-! ## Blockwise: what each point writes back, and the final array block by block -/

/-- WHAT POINT `t` WRITES BACK to output window 24's array: the body's result for that window (`Gen.out0_24`: its stores
    as pieces over the input windows' blocks), read through the window's block. -/
theorem flushed24 (c : Dev nD) (t : Fin cfg0.N) :
    (dats m 0 c).flushed 24 t = (cfg0.win 24).cut (grid0.coords t) (out0_24 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)) := by
  show (cfg0.win 24).cut (grid0.coords t) ((dats m 0 c).after 24 t) = _
  rw [after0_24]

/-- The index map sends distinct grid points to distinct block indices (decided over the 128 points). -/
theorem idx_inj24 : ∀ t t' : Fin cfg0.N, win0_24.index t = win0_24.index t' → t = t' :=
  (by decide +kernel : ∀ t t' : Fin grid0.N, win0_24.index t = win0_24.index t' → t = t')

/-- So two flushing points' blocks share no array index (Lib/Pipeline/Cells.lean `Window.disjoint_blk`). -/
theorem disjoint24 : ∀ t t' : Fin cfg0.N, (cfg0.win 24).flush t = true → (cfg0.win 24).flush t' = true → t ≠ t' →
    Disjoint ((cfg0.win 24).blk t).view.set ((cfg0.win 24).blk t').view.set :=
  fun t t' _ _ hne => (cfg0.win 24).disjoint_blk fun h => hne (idx_inj24 t t' h)

/-- BLOCK `t` OF THE FINAL ARRAY, read back through the window, is what point `t` wrote back (`flushed24`), for every
    point that writes back: no other point's block meets it. -/
theorem blocks24 (c : Dev nD) (t : Fin cfg0.N) (hf : (cfg0.win 24).flush t = true) :
    ((cfg0.win 24).blk t).view.read (Elt F) ((dats m 0 c).arrAt 24 cfg0.N) = (dats m 0 c).flushed 24 t :=
  (dats m 0 c).read_blk_arrAt_eq_flushed 24 disjoint24 cfg0.N t t.isLt hf

/-- An index that no flushing point's block covers keeps output window 24's array contents at region entry. -/
theorem entry24 (c : Dev nD) (i : S16x4096x1024.Idx) (h : ∀ t : Fin cfg0.N, (cfg0.win 24).flush t = true → i ∉ ((cfg0.win 24).blk t).view.set) :
    (dats m 0 c).arrAt 24 cfg0.N i = V m c (Pipeline.arrRef spec0 24) i := by
  rw [(dats m 0 c).arrAt_apply_of_forall_not_mem 24 cfg0.N i (fun t _ hf => h t hf), A_eq]

/-- After the frame run, output window 24's array is `(dats m 0 c).arrAt 24 N`. -/
theorem post24 (r : PUnit × MemSt nD τ sig (Elt F)) (h : Pipeline.FramePost cfgs (dats m) 0 (V m) r) (c : Dev nD) :
    r.2.mem ((c : Thread nD τ).loc main_v69) = (dats m 0 c).arrAt 24 cfg0.N :=
  (h c).1 24

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 3 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 3).trans (((dats m 0 c).arrAt_in 3 rfl _).trans ((A_eq m c 3).trans (V_main_arg1 m c)))

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the frame run, argument `main_arg8` is as launched: input window 9 stages it and never writes it back. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).1 9).trans (((dats m 0 c).arrAt_in 9 rfl _).trans ((A_eq m c 9).trans (V_main_arg8 m c)))

/-- After the frame run, argument `main_arg9` is as launched: no window stages it, and the run leaves the region's other buffers as they were. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- After the frame run, argument `main_arg10` is as launched: no window stages it, and the run leaves the region's other buffers as they were. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

/-- After the frame run, argument `main_arg11` is as launched: no window stages it, and the run leaves the region's other buffers as they were. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)

/-- After the frame run, argument `main_arg12` is as launched: no window stages it, and the run leaves the region's other buffers as they were. -/
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_main_arg12 m c)

/-- After the frame run, argument `main_arg13` is as launched: no window stages it, and the run leaves the region's other buffers as they were. -/
theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).2 main_arg13 (Pipeline.mem_restRefs_of main_arg13 (by decide) (by decide))).trans (V_main_arg13 m c)

/-- After the frame run, argument `main_arg14` is as launched: no window stages it, and the run leaves the region's other buffers as they were. -/
theorem kept_main_arg14 (r : PUnit × MemSt nD τ sig (Elt F)) (h : Pipeline.FramePost cfgs (dats m) 0 (V m) r) (c : Dev nD) :
    r.2.mem ((c : Thread nD τ).loc main_arg14) = m ((c : Thread nD τ).loc main_arg14) :=
  ((h c).2 main_arg14 (Pipeline.mem_restRefs_of main_arg14 (by decide) (by decide))).trans (V_main_arg14 m c)

/-- After the frame run, argument `main_arg15` is as launched: no window stages it, and the run leaves the region's other buffers as they were. -/
theorem kept_main_arg15 (r : PUnit × MemSt nD τ sig (Elt F)) (h : Pipeline.FramePost cfgs (dats m) 0 (V m) r) (c : Dev nD) :
    r.2.mem ((c : Thread nD τ).loc main_arg15) = m ((c : Thread nD τ).loc main_arg15) :=
  ((h c).2 main_arg15 (Pipeline.mem_restRefs_of main_arg15 (by decide) (by decide))).trans (V_main_arg15 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v69) = (dats m 0 c).arrAt 24 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15) :=
  (θ_run defs _ _).mono (fun r h c => ⟨post24 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c,
      kept_main_arg15 m r h c⟩)
    (run_main m ρ)

end Cert.MixRun

end
-- ==== Proof.MixHost.lean ====
/- The arrays the host prepares for the tail of the layer, read at an index. -/
module

public import proofs.«01_k».proof.Proof.MixRun
public import Idealize.ShloMosaic.Lib.StableHlo.RunRead
public import Idealize.ShloMosaic.Lib.Pointwise
public import Idealize.ShloMosaic.Lib.Tactic.CleanTypes

@[expose] public section

set_option maxRecDepth 16384
set_option maxHeartbeats 4000000

noncomputable section

namespace Cert.MixRun

open Cert.MixIdeal Cert.MixIdeal.Gen Idealize.ShloMosaic Idealize.ShloMosaic.TcCoe
open Idealize.SL.Sem

variable (m : (ℓ : Loc nD τ sig) → Buf (Elt Ideal) ℓ) (c : Dev nD)

/-- The Fourier mixer's rows, batches side by side. -/
def sideBySide (f : FVec Ideal S16x4096x256 .f32) : FVec Ideal S4096x4096 .bf16 :=
  shapeCast S4096x4096 (transpose S4096x16x256 [1, 0, 2] (truncf .bf16 f bitsLt_bf16_f32) transposes_S16x4096x256_S4096x16x256_1_0_2) shapeCasts_S4096x16x256_S4096x4096

theorem V_direct : (V m c main_v3 : FVec Ideal S2048x4096 .bf16)
    = extractStridedSlice S2048x4096 ![0, 0] (sideBySide (m (c, Proc.tc.devRef main_arg2))) slices_S4096x4096_S2048x4096_0_0 := by
  unfold V
  after_reads_simp
  rfl

theorem V_middle : (V m c main_v5 : FVec Ideal S8x4096 .bf16)
    = broadcastInDim S8x4096 ![0, 1] bcast_S1x4096_S8x4096_0_1
        (extractStridedSlice S1x4096 ![2048, 0] (sideBySide (m (c, Proc.tc.devRef main_arg2))) slices_S4096x4096_S1x4096_2048_0) := by
  unfold V
  after_reads_simp
  rfl

theorem V_mirrored : (V m c main_v9 : FVec Ideal S2048x4096 .bf16)
    = concatenate S2048x4096 0 [⟨S1x4096, extractStridedSlice S1x4096 ![0, 0] (sideBySide (m (c, Proc.tc.devRef main_arg2))) slices_S4096x4096_S1x4096_0_0⟩,
        ⟨S2047x4096, Host.reverse [0] (extractStridedSlice S2047x4096 ![2049, 0] (sideBySide (m (c, Proc.tc.devRef main_arg2))) slices_S4096x4096_S2047x4096_2049_0)⟩]
        concatenates_S1x4096_S2047x4096_S2048x4096_d0 := by
  unfold V
  after_reads_simp
  rfl

/-- The attention's rows, two tiles at a time. -/
def paired (a : FVec Ideal S16x4096x256 .f32) : FVec Ideal S128x2x256x256 .bf16 :=
  shapeCast S128x2x256x256 (truncf .bf16 a bitsLt_bf16_f32) shapeCasts_S16x4096x256_S128x2x256x256

theorem V_even : (V m c main_v22 : FVec Ideal S128x256x256 .bf16)
    = shapeCast S128x256x256 (extractStridedSlice S128x1x256x256 ![0, 0, 0, 0] (paired (m (c, Proc.tc.devRef main_arg3))) slices_S128x2x256x256_S128x1x256x256_0_0_0_0) shapeCasts_S128x1x256x256_S128x256x256 := by
  unfold V
  after_reads_simp
  rfl

theorem V_odd : (V m c main_v24 : FVec Ideal S128x256x256 .bf16)
    = shapeCast S128x256x256 (extractStridedSlice S128x1x256x256 ![0, 1, 0, 0] (paired (m (c, Proc.tc.devRef main_arg3))) slices_S128x2x256x256_S128x1x256x256_0_1_0_0) shapeCasts_S128x1x256x256_S128x256x256 := by
  unfold V
  after_reads_simp
  rfl

theorem V_g1 : (V m c main_v25 : FVec Ideal S16x1x1024 .f32) = shapeCast S16x1x1024 (m (c, Proc.tc.devRef main_arg4)) shapeCasts_S16x1024_S16x1x1024 := by
  unfold V
  after_reads_simp
  rfl
theorem V_sc : (V m c main_v26 : FVec Ideal S16x1x1024 .f32) = shapeCast S16x1x1024 (m (c, Proc.tc.devRef main_arg6)) shapeCasts_S16x1024_S16x1x1024 := by
  unfold V
  after_reads_simp
  rfl
theorem V_sh : (V m c main_v27 : FVec Ideal S16x1x1024 .f32) = shapeCast S16x1x1024 (m (c, Proc.tc.devRef main_arg5)) shapeCasts_S16x1024_S16x1x1024 := by
  unfold V
  after_reads_simp
  rfl
theorem V_g2 : (V m c main_v28 : FVec Ideal S16x1x1024 .f32) = shapeCast S16x1x1024 (m (c, Proc.tc.devRef main_arg7)) shapeCasts_S16x1024_S16x1x1024 := by
  unfold V
  after_reads_simp
  rfl
theorem V_ps : (V m c main_v30 : FVec Ideal S1x256 .f32) = shapeCast S1x256 (m (c, Proc.tc.devRef main_arg10)) shapeCasts_S256_S1x256 := by
  unfold V
  after_reads_simp
  rfl
theorem V_wo : @Eq (FVec Ideal S1024x1024 .bf16) (V m c main_v31) (truncf .bf16 (m (c, Proc.tc.devRef main_arg11)) bitsLt_bf16_f32) := by
  unfold V
  after_reads_simp
theorem V_n2 : (V m c main_v32 : FVec Ideal S1x1024 .f32) = shapeCast S1x1024 (m (c, Proc.tc.devRef main_arg12)) shapeCasts_S1024_S1x1024 := by
  unfold V
  after_reads_simp
  rfl
theorem V_w1 : @Eq (FVec Ideal S1024x4096 .bf16) (V m c main_v33) (truncf .bf16 (m (c, Proc.tc.devRef main_arg13)) bitsLt_bf16_f32) := by
  unfold V
  after_reads_simp
theorem V_w2 : @Eq (FVec Ideal S4096x1024 .bf16) (V m c main_v34) (truncf .bf16 (m (c, Proc.tc.devRef main_arg14)) bitsLt_bf16_f32) := by
  unfold V
  after_reads_simp
theorem V_fg : (V m c main_v35 : FVec Ideal S1x1024 .f32) = shapeCast S1x1024 (m (c, Proc.tc.devRef main_arg15)) shapeCasts_S1024_S1x1024 := by
  unfold V
  after_reads_simp
  rfl

/-- One of the four square matrices. -/
def square0 (p : FVec Ideal S4x64x64 .f32) : FVec Ideal S64x64 .f32 := shapeCast S64x64 (extractStridedSlice S1x64x64 ![0, 0, 0] p slices_S4x64x64_S1x64x64_0_0_0) shapeCasts_S1x64x64_S64x64
/-- One of the four square matrices. -/
def square1 (p : FVec Ideal S4x64x64 .f32) : FVec Ideal S64x64 .f32 := shapeCast S64x64 (extractStridedSlice S1x64x64 ![1, 0, 0] p slices_S4x64x64_S1x64x64_1_0_0) shapeCasts_S1x64x64_S64x64
/-- One of the four square matrices. -/
def square2 (p : FVec Ideal S4x64x64 .f32) : FVec Ideal S64x64 .f32 := shapeCast S64x64 (extractStridedSlice S1x64x64 ![2, 0, 0] p slices_S4x64x64_S1x64x64_2_0_0) shapeCasts_S1x64x64_S64x64
/-- One of the four square matrices. -/
def square3 (p : FVec Ideal S4x64x64 .f32) : FVec Ideal S64x64 .f32 := shapeCast S64x64 (extractStridedSlice S1x64x64 ![3, 0, 0] p slices_S4x64x64_S1x64x64_3_0_0) shapeCasts_S1x64x64_S64x64

/-- The four matrices along a diagonal. -/
def diagonal (p : FVec Ideal S4x64x64 .f32) : FVec Ideal S256x256 .f32 :=
  concatenate S256x256 0 [⟨S64x256, pad S64x256 ![0, 0] ![0, 192] ![0, 0] (square0 p) (constant S_ .f32 0x00000000#32) pads_S64x64_S64x256_000_01920 h_S_⟩,
    ⟨S64x256, pad S64x256 ![0, 64] ![0, 128] ![0, 0] (square1 p) (constant S_ .f32 0x00000000#32) pads_S64x64_S64x256_000_641280 h_S_⟩,
    ⟨S64x256, pad S64x256 ![0, 128] ![0, 64] ![0, 0] (square2 p) (constant S_ .f32 0x00000000#32) pads_S64x64_S64x256_000_128640 h_S_⟩,
    ⟨S64x256, pad S64x256 ![0, 192] ![0, 0] ![0, 0] (square3 p) (constant S_ .f32 0x00000000#32) pads_S64x64_S64x256_000_19200 h_S_⟩]
    concatenates_S64x256_S64x256_S64x256_S64x256_S256x256_d0

theorem V_diagonal : (V m c main_v29 : FVec Ideal S256x256 .bf16) = truncf .bf16 (diagonal (m (c, Proc.tc.devRef main_arg9))) bitsLt_bf16_f32 := by
  unfold V
  after_reads_simp
  rfl

/-- One where two indices add up to 512. -/
def flipMat : FVec Ideal S512x512 .bf16 :=
  uitofp .bf16 (cmpi .eq (addi
    (broadcastInDim S512x512 ![0, 1] bcast_S512x1_S512x512_0_1 (broadcastInDim S512x1 ![0] bcast_S512_S512x1_0 (iotaInDim S512 32 0)))
    (broadcastInDim S512x512 ![0, 1] bcast_S1x512_S512x512_0_1 (broadcastInDim S1x512 ![1] bcast_S512_S1x512_1 (iotaInDim S512 32 0))))
    (broadcastInDim S512x512 ![] bcast_S_S512x512 (constantI S_ 32 512#32)))

theorem V_flip : (V m c main_v44 : FVec Ideal S512x512 .bf16) = flipMat := by
  unfold V
  after_reads_simp
  rfl

/-- Twice the windows' half lengths, divided by two. -/
def halves : IVec S4 32 :=
  have a : IVec S4 32 := fun i => lit0 (S4.rowMajor i)
  have b : IVec S_ 32 := id (constantI S_ 32 2#32)
  have q : IVec S4 32 := Host.divsi a (broadcastInDim S4 ![] bcast_S_S4 b)
  select (andi (cmpi .ne (signi a) (broadcastInDim S4 ![] bcast_S_S4 (signi b)))
      (cmpi .ne (Host.remsi a (broadcastInDim S4 ![] bcast_S_S4 b)) (broadcastInDim S4 ![] bcast_S_S4 (constantI S_ 32 0#32))))
    (subi q (broadcastInDim S4 ![] bcast_S_S4 (constantI S_ 32 1#32))) q

/-- How many rows each window takes, per row and column. -/
def counts (h : IVec S4 32) : IVec S4096x256 32 :=
  have t : IVec S4096x256 32 := broadcastInDim S4096x256 ![0, 1] bcast_S4096x1_S4096x256_0_1 (broadcastInDim S4096x1 ![0] bcast_S4096_S4096x1_0 (iotaInDim S4096 32 0))
  have w : IVec S4096x256 32 := broadcastInDim S4096x256 ![0, 1] bcast_S1x256_S4096x256_0_1 (broadcastInDim S1x256 ![1] bcast_S256_S1x256_1 (shapeCast S256 (broadcastInDim S4x64 ![0] bcast_S4_S4x64_0 h) shapeCasts_S4x64_S256))
  addi (subi (minsi (subi (addi t w) (broadcastInDim S4096x256 ![] bcast_S_S4096x256 (constantI S_ 32 1#32)))
        (broadcastInDim S4096x256 ![] bcast_S_S4096x256 (constantI S_ 32 4095#32)))
      (maxsi (subi t w) (broadcastInDim S4096x256 ![] bcast_S_S4096x256 (constantI S_ 32 0#32))))
    (broadcastInDim S4096x256 ![] bcast_S_S4096x256 (constantI S_ 32 1#32))

/-- One over a count. -/
def inverse (n : IVec S4096x256 32) : FVec Ideal S4096x256 .f32 :=
  Host.divf (broadcastInDim S4096x256 ![] bcast_S_S4096x256 (constant S_ .f32 0x3F800000#32)) (sitofp .f32 n)

theorem V_inverse : (V m c main_v68 : FVec Ideal S4096x256 .f32) = inverse (counts halves) := by
  unfold V
  after_reads_simp
  rfl

end Cert.MixRun

end
-- ==== Proof.MixDense.lean ====
/- The tail of the layer on one tile of rows: the projection, the gated residuals, the normalizations and the feed-forward. -/
module

public import proofs.«01_k».proof.Proof.Gen.MixIdeal.Skeleton
public import Idealize.ShloMosaic.Lib.Pointwise

@[expose] public section

set_option maxRecDepth 16384
set_option maxHeartbeats 2000000

noncomputable section

namespace Cert.MixRun

open Cert.MixIdeal Cert.MixIdeal.Gen Idealize.ShloMosaic Idealize.ShloMosaic.TcCoe
open Idealize.SL.Sem

/-! ## One row of the result, in plain sums -/

/-- The inverse root of a row's mean square. -/
def invRms (x : Fin 1024 → EReal) : EReal :=
  Ideal.rsqrt (Ideal.div (∑ k, x k * x k) (Ideal.ofBits .f32 0x44800000#32) + Ideal.ofBits .f32 0x358637BD#32)

/-- A gated residual: the row and the gate times the row's product with the weights. -/
def residual {n : ℕ} (x g : Fin 1024 → EReal) (y : Fin n → EReal) (w : Fin n → Fin 1024 → EReal) (d : Fin 1024) : EReal :=
  x d + g d * ∑ k, y k * w k d

/-- The squared rectified product with the first weights. -/
def hidden (h : Fin 1024 → EReal) (w : Fin 1024 → Fin 4096 → EReal) (j : Fin 4096) : EReal :=
  max (∑ k, h k * w k j) 0 * max (∑ k, h k * w k j) 0

/-- The normalized row with its scale and shift. -/
def modulated (x g s t : Fin 1024 → EReal) (d : Fin 1024) : EReal :=
  x d * invRms x * (g d * (Ideal.ofBits .f32 0x3F800000#32 + s d)) + t d

/-- One row of the result from the joined row and the row before. -/
def rowOut (mix x g1 sc sh g2 n2 fg : Fin 1024 → EReal) (wo : Fin 1024 → Fin 1024 → EReal) (w1 : Fin 1024 → Fin 4096 → EReal)
    (w2 : Fin 4096 → Fin 1024 → EReal) (d : Fin 1024) : EReal :=
  residual (residual x g1 mix wo) g2 (hidden (modulated (residual x g1 mix wo) n2 sc sh) w1) w2 d
    * invRms (residual (residual x g1 mix wo) g2 (hidden (modulated (residual x g1 mix wo) n2 sc sh) w1) w2) * fg d

theorem sum_two (f : Fin 4096 → EReal) :
    ∑ k, f k = (∑ x : Fin 2048, f ⟨x.val, by omega⟩) + ∑ x : Fin 2048, f ⟨2048 + x.val, by omega⟩ :=
  Fin.sum_univ_add (a := 2048) (b := 2048) f

/-! ## The body's values -/

theorem first_apply (v105 : FVec Ideal S512x1024 .bf16) (v107 : FVec Ideal S512x1024 .f32) (v109 : FVec Ideal S1x1024 .f32)
    (v111 : FVec Ideal S1024x1024 .bf16) (r : Fin 512) (d : Fin 1024) :
    k0_pay16 (F := Ideal) v105 v107 v109 v111 (ix2 r d)
      = residual (fun d => v107 (ix2 r d)) (fun d => v109 (ix2 (0 : Fin 1) d)) (fun d => v105 (ix2 r d)) (fun k d => v111 (ix2 k d)) d := by
  unfold k0_pay16 residual
  pointwise

theorem norm_apply (v105 : FVec Ideal S512x1024 .bf16) (v107 : FVec Ideal S512x1024 .f32) (v109 : FVec Ideal S1x1024 .f32)
    (v111 : FVec Ideal S1024x1024 .bf16) (v126 : Vec Ideal S1x1024 .f32) (v128 v135 : Vec Ideal S1x1x1024 .f32) (r : Fin 512) (d : Fin 1024) :
    k0_pay17 (F := Ideal) v105 v107 v109 v111 v126 v128 v135 (ix2 r d)
      = modulated (fun d => k0_pay16 (F := Ideal) v105 v107 v109 v111 (ix2 r d)) (fun d => v126 (ix2 (0 : Fin 1) d))
          (fun d => v128 (ix3 (0 : Fin 1) (0 : Fin 1) d)) (fun d => v135 (ix3 (0 : Fin 1) (0 : Fin 1) d)) d := by
  unfold k0_pay17 modulated invRms
  generalize k0_pay16 (F := Ideal) v105 v107 v109 v111 = y
  pointwise

theorem half_apply (v105 : FVec Ideal S512x1024 .bf16) (v107 : FVec Ideal S512x1024 .f32) (v109 : FVec Ideal S1x1024 .f32)
    (v111 : FVec Ideal S1024x1024 .bf16) (v126 : Vec Ideal S1x1024 .f32) (v128 v135 : Vec Ideal S1x1x1024 .f32)
    (v140 : Vec Ideal S1024x2048 .bf16) (v147 : Vec Ideal S2048x1024 .bf16) (r : Fin 512) (d : Fin 1024) :
    k0_pay18 (F := Ideal) v105 v107 v109 v111 v126 v128 v135 v140 v147 (ix2 r d)
      = (∑ j : Fin 2048, max (∑ k : Fin 1024, k0_pay17 (F := Ideal) v105 v107 v109 v111 v126 v128 v135 (ix2 r k) * v140 (ix2 k j) : EReal) 0
          * max (∑ k : Fin 1024, k0_pay17 (F := Ideal) v105 v107 v109 v111 v126 v128 v135 (ix2 r k) * v140 (ix2 k j) : EReal) 0 * v147 (ix2 j d) : EReal) := by
  unfold k0_pay18
  generalize k0_pay17 (F := Ideal) v105 v107 v109 v111 v126 v128 v135 = y
  pointwise

theorem last_apply (v115 : FVec Ideal S512x1024 .f32) (v139 : FVec Ideal S512x1024 .bf16) (v149 : FVec Ideal S512x1024 .f32)
    (v150 : Vec Ideal S1024x2048 .bf16) (v157 : Vec Ideal S2048x1024 .bf16) (v161 : Vec Ideal S1x1x1024 .f32) (v176 : Vec Ideal S1x1024 .f32)
    (x2 : Fin 1024 → EReal) (r : Fin 512)
    (hx : ∀ d, x2 d = v115 (ix2 r d) + v161 (ix3 (0 : Fin 1) (0 : Fin 1) d) * (v149 (ix2 r d)
      + ∑ j : Fin 2048, max (∑ k : Fin 1024, v139 (ix2 r k) * v150 (ix2 k j) : EReal) 0
          * max (∑ k : Fin 1024, v139 (ix2 r k) * v150 (ix2 k j) : EReal) 0 * v157 (ix2 j d) : EReal)) (d : Fin 1024) :
    k0_pay1 (F := Ideal) v115 v139 v149 v150 v157 v161 v176 (ix3 (0 : Fin 1) r d)
      = (x2 d * invRms x2 * v176 (ix2 (0 : Fin 1) d) : EReal) := by
  unfold k0_pay1 invRms
  pointwise
  simp only [hx]

/-- One row of a tile's result. -/
theorem tile_apply (v105 : FVec Ideal S512x1024 .bf16) (v107 : FVec Ideal S512x1024 .f32) (v109 : FVec Ideal S1x1024 .f32)
    (v111 : FVec Ideal S1024x1024 .bf16) (v126 : Vec Ideal S1x1024 .f32) (v128 v135 : Vec Ideal S1x1x1024 .f32)
    (v140 v150 : Vec Ideal S1024x2048 .bf16) (v147 v157 : Vec Ideal S2048x1024 .bf16) (v161 : Vec Ideal S1x1x1024 .f32) (v176 : Vec Ideal S1x1024 .f32)
    (w1 : Fin 1024 → Fin 4096 → EReal) (w2 : Fin 4096 → Fin 1024 → EReal)
    (h140 : ∀ k (j : Fin 2048), v140 (ix2 k j) = w1 k ⟨j.val, by omega⟩) (h150 : ∀ k (j : Fin 2048), v150 (ix2 k j) = w1 k ⟨2048 + j.val, by omega⟩)
    (h147 : ∀ (j : Fin 2048) d, v147 (ix2 j d) = w2 ⟨j.val, by omega⟩ d) (h157 : ∀ (j : Fin 2048) d, v157 (ix2 j d) = w2 ⟨2048 + j.val, by omega⟩ d)
    (r : Fin 512) (d : Fin 1024) :
    k0_pay1 (F := Ideal) (k0_pay16 v105 v107 v109 v111) (k0_pay17 v105 v107 v109 v111 v126 v128 v135)
        (k0_pay18 v105 v107 v109 v111 v126 v128 v135 v140 v147) v150 v157 v161 v176 (ix3 (0 : Fin 1) r d)
      = rowOut (fun d => v105 (ix2 r d)) (fun d => v107 (ix2 r d)) (fun d => v109 (ix2 (0 : Fin 1) d)) (fun d => v128 (ix3 (0 : Fin 1) (0 : Fin 1) d))
          (fun d => v135 (ix3 (0 : Fin 1) (0 : Fin 1) d)) (fun d => v161 (ix3 (0 : Fin 1) (0 : Fin 1) d)) (fun d => v126 (ix2 (0 : Fin 1) d))
          (fun d => v176 (ix2 (0 : Fin 1) d)) (fun k d => v111 (ix2 k d)) w1 w2 d := by
  refine (last_apply _ _ _ _ _ _ _ _ r (fun d => ?_) d).trans (by unfold rowOut; rfl)
  have e1 : (fun d => k0_pay16 (F := Ideal) v105 v107 v109 v111 (ix2 r d))
      = residual (fun d => v107 (ix2 r d)) (fun d => v109 (ix2 (0 : Fin 1) d)) (fun d => v105 (ix2 r d)) (fun k d => v111 (ix2 k d)) :=
    funext fun d => first_apply v105 v107 v109 v111 r d
  simp only [half_apply, norm_apply, e1, first_apply, h140, h150, h147, h157]
  rw [residual, sum_two]
  unfold hidden
  rfl

end Cert.MixRun

end
-- ==== Proof.MixRef.lean ====
/- The reference of the layer's tail, read at an index. -/
module

public import proofs.«01_k».proof.Proof.Gen.MixReferenceIdeal.Read
public import proofs.«01_k».proof.Proof.MixDense
public import Idealize.ShloMosaic.Lib.Tactic.CleanTypes
public import Idealize.ShloMosaic.Lib.KernelVsHost

@[expose] public section

set_option maxRecDepth 16384
set_option maxHeartbeats 4000000

noncomputable section

namespace Cert.MixRun

open Cert.MixReferenceIdeal Cert.MixReferenceIdeal.Read Idealize.ShloMosaic Idealize.ShloMosaic.TcCoe
open Idealize.SL.Sem

variable (x0 x1 : Vec Ideal S16x4096x1024 .f32) (x2 x3 : Vec Ideal S16x4096x256 .f32) (x4 x5 x6 x7 : Vec Ideal S16x1024 .f32)
  (x8 : Vec Ideal S3x256 .f32) (x9 : Vec Ideal S4x64x64 .f32) (x10 : Vec Ideal S256 .f32) (x11 : Vec Ideal S1024x1024 .f32)
  (x12 : Vec Ideal S1024 .f32) (x13 : Vec Ideal S1024x4096 .f32) (x14 : Vec Ideal S4096x1024 .f32) (x15 : Vec Ideal S1024 .f32)

/-! ## The projection, the residuals, the normalizations and the feed-forward -/

theorem ref_first (b : Fin 16) (t : Fin 4096) (d : Fin 1024) :
    val_main_v196 (F := Ideal) x0 x1 x2 x3 x4 x8 x9 x10 x11 (ix3 b t d)
      = residual (fun d => x0 (ix3 b t d)) (fun d => x4 (ix2 b d)) (fun k => val_main_v191 (F := Ideal) x1 x2 x3 x8 x9 x10 (ix3 b t k))
          (fun k d => x11 (ix2 k d)) d := by
  unfold residual val_main_v196 val_main_v195 val_main_v194 val_main_v193 val_main_v192
  generalize val_main_v191 (F := Ideal) x1 x2 x3 x8 x9 x10 = y
  clean_types
  pointwise

theorem ref_norm (b : Fin 16) (t : Fin 4096) (d : Fin 1024) :
    val_main_v217 (F := Ideal) x0 x1 x2 x3 x4 x5 x6 x8 x9 x10 x11 x12 (ix3 b t d)
      = modulated (fun k => val_main_v196 (F := Ideal) x0 x1 x2 x3 x4 x8 x9 x10 x11 (ix3 b t k)) (fun d => x12 (ix1 d))
          (fun d => x6 (ix2 b d)) (fun d => x5 (ix2 b d)) d := by
  unfold modulated invRms val_main_v217 val_main_v216 val_main_v215 val_main_v214 val_main_v213 val_main_v212 val_main_v211 val_main_v210 val_main_cst_35
    val_main_v209 val_main_v208 val_main_v207 val_main_v206 val_main_v205 val_main_v204 val_main_v203 val_main_v202 val_main_v201 val_main_v200 val_main_v199
    val_main_v198 val_main_v197 val_main_cst_32 val_main_cst_33 val_main_cst_34
  generalize val_main_v196 (F := Ideal) x0 x1 x2 x3 x4 x8 x9 x10 x11 = y
  clean_types
  pointwise
  simp only [mul_assoc]

theorem ref_second (b : Fin 16) (t : Fin 4096) (d : Fin 1024) :
    val_main_v225 (F := Ideal) x0 x1 x2 x3 x4 x5 x6 x7 x8 x9 x10 x11 x12 x13 x14 (ix3 b t d)
      = residual (fun k => val_main_v196 (F := Ideal) x0 x1 x2 x3 x4 x8 x9 x10 x11 (ix3 b t k)) (fun d => x7 (ix2 b d))
          (hidden (fun k => val_main_v217 (F := Ideal) x0 x1 x2 x3 x4 x5 x6 x8 x9 x10 x11 x12 (ix3 b t k)) (fun k j => x13 (ix2 k j)))
          (fun k d => x14 (ix2 k d)) d := by
  unfold residual hidden val_main_v225 val_main_v224 val_main_v223 val_main_v222 val_main_v221 val_main_v220 val_main_v219 val_main_v218 val_main_call5_v0 val_main_call5_cst
  generalize val_main_v196 (F := Ideal) x0 x1 x2 x3 x4 x8 x9 x10 x11 = y
  generalize val_main_v217 (F := Ideal) x0 x1 x2 x3 x4 x5 x6 x8 x9 x10 x11 x12 = z
  clean_types
  pointwise

theorem ref_last (b : Fin 16) (t : Fin 4096) (d : Fin 1024) :
    val_main_v238 (F := Ideal) x0 x1 x2 x3 x4 x5 x6 x7 x8 x9 x10 x11 x12 x13 x14 x15 (ix3 b t d)
      = val_main_v225 (F := Ideal) x0 x1 x2 x3 x4 x5 x6 x7 x8 x9 x10 x11 x12 x13 x14 (ix3 b t d)
        * invRms (fun k => val_main_v225 (F := Ideal) x0 x1 x2 x3 x4 x5 x6 x7 x8 x9 x10 x11 x12 x13 x14 (ix3 b t k)) * x15 (ix1 d) := by
  unfold invRms val_main_v238 val_main_v237 val_main_v236 val_main_v235 val_main_v234 val_main_v233 val_main_v232 val_main_v231 val_main_v230 val_main_v229 val_main_v228
    val_main_v227 val_main_v226 val_main_cst_36 val_main_cst_37 val_main_cst_38
  generalize val_main_v225 (F := Ideal) x0 x1 x2 x3 x4 x5 x6 x7 x8 x9 x10 x11 x12 x13 x14 = y
  clean_types
  pointwise

/-- One row of the reference's result. -/
theorem ref_row (b : Fin 16) (t : Fin 4096) (d : Fin 1024) :
    val_main_v238 (F := Ideal) x0 x1 x2 x3 x4 x5 x6 x7 x8 x9 x10 x11 x12 x13 x14 x15 (ix3 b t d)
      = rowOut (fun k => val_main_v191 (F := Ideal) x1 x2 x3 x8 x9 x10 (ix3 b t k)) (fun d => x0 (ix3 b t d)) (fun d => x4 (ix2 b d))
          (fun d => x6 (ix2 b d)) (fun d => x5 (ix2 b d)) (fun d => x7 (ix2 b d)) (fun d => x12 (ix1 d)) (fun d => x15 (ix1 d))
          (fun k d => x11 (ix2 k d)) (fun k j => x13 (ix2 k j)) (fun k d => x14 (ix2 k d)) d := by
  have h1 : (fun k => val_main_v196 (F := Ideal) x0 x1 x2 x3 x4 x8 x9 x10 x11 (ix3 b t k)) = _ := funext fun k => ref_first x0 x1 x2 x3 x4 x8 x9 x10 x11 b t k
  have h2 : (fun k => val_main_v217 (F := Ideal) x0 x1 x2 x3 x4 x5 x6 x8 x9 x10 x11 x12 (ix3 b t k)) = _ := funext fun k => ref_norm x0 x1 x2 x3 x4 x5 x6 x8 x9 x10 x11 x12 b t k
  have h3 : (fun k => val_main_v225 (F := Ideal) x0 x1 x2 x3 x4 x5 x6 x7 x8 x9 x10 x11 x12 x13 x14 (ix3 b t k)) = _ :=
    funext fun k => ref_second x0 x1 x2 x3 x4 x5 x6 x7 x8 x9 x10 x11 x12 x13 x14 b t k
  rewrite [ref_last, ref_second, h3, h2, h1]
  rfl

/-! ## The joined row -/

theorem ref_joined (b : Fin 16) (t : Fin 4096) (d : Fin 1024) :
    val_main_v191 (F := Ideal) x1 x2 x3 x8 x9 x10 (ix3 b t d)
      = if h : d.val < 256 then x2 (ix3 b t (⟨d.val, h⟩ : Fin 256))
        else if h1 : d.val < 512 then val_main_v28 (F := Ideal) x1 x8 (ix3 b t (⟨d.val - 256, by omega⟩ : Fin 256))
        else if h2 : d.val < 768 then
          (val_main_v187 (F := Ideal) x1 x9 (ix3 b t (⟨d.val - 512, by omega⟩ : Fin 256)) * x10 (ix1 (⟨d.val - 512, by omega⟩ : Fin 256)) : EReal)
        else x3 (ix3 b t (⟨d.val - 768, by omega⟩ : Fin 256)) := by
  unfold val_main_v191 val_main_v190 val_main_v189 val_main_v188
  generalize val_main_v187 (F := Ideal) x1 x9 = y
  generalize val_main_v28 (F := Ideal) x1 x8 = z
  clean_types
  pointwise
  by_cases h : d.val < 256
  · simp only [dif_pos h]
  by_cases h1 : d.val < 512
  · rw [dif_neg h, dif_neg h, dif_pos (show d.val - 256 < 256 by omega), dif_pos h1]
  by_cases h2 : d.val < 768
  · rw [dif_neg h, dif_neg h, dif_neg (show ¬ d.val - 256 < 256 by omega), dif_neg h1, dif_pos (show d.val - 256 - 256 < 256 by omega), dif_pos h2]
    simp only [Nat.sub_sub, Nat.reduceAdd]
  · rw [dif_neg h, dif_neg h, dif_neg (show ¬ d.val - 256 < 256 by omega), dif_neg h1, dif_neg (show ¬ d.val - 256 - 256 < 256 by omega), dif_neg h2]
    simp only [Nat.sub_sub, Nat.reduceAdd]

/-- A column of the projections, eight zero rows before and after. -/
def column (b : Fin 16) (q : Fin 1024) (j : ℕ) : EReal :=
  if h : 8 ≤ j ∧ j < 4104 then x1 (ix3 b (⟨j - 8, by omega⟩ : Fin 4096) q) else 0

theorem int_zero : (FloatOps.sitofp (F := Ideal) .f32 0#32 : EReal) = 0 := by
  show (((0#32 : BitVec 32).toInt : ℝ) : EReal) = 0
  simp

theorem padded_conv (b : Fin 16) (s : Fin 4098) (c : Fin 256) :
    val_main_v5 (F := Ideal) x1 (ix3 b s c)
      = (column x1 b (⟨256 + c.val, by omega⟩ : Fin 1024) (s.val + 7) * column x1 b (⟨512 + c.val, by omega⟩ : Fin 1024) (s.val + 7) : EReal) := by
  unfold column val_main_v5 val_main_v4 val_main_v3 val_main_v2 val_main_v0 val_main_call0_v0 val_main_c
  clean_types
  pointwise
  rw [int_zero]
  by_cases h : 1 ≤ s.val ∧ s.val - 1 < 4096
  · have h' : 1 ≤ s.val ∧ s.val + 7 < 4104 := by omega
    rw [dif_pos h, dif_pos h', dif_pos h']
    rfl
  · have h' : ¬ (1 ≤ s.val ∧ s.val + 7 < 4104) := by omega
    rw [dif_neg h, dif_neg h', dif_neg h', mul_zero]

/-- The convolution at one row and column. -/
def conv (b : Fin 16) (c : Fin 256) (j : ℕ) : EReal :=
  column x1 b (⟨c.val, by omega⟩ : Fin 1024) (j + 1)
    * (column x1 b (⟨256 + c.val, by omega⟩ : Fin 1024) j * column x1 b (⟨512 + c.val, by omega⟩ : Fin 1024) j * x8 (ix2 (0 : Fin 3) c)
      + column x1 b (⟨256 + c.val, by omega⟩ : Fin 1024) (j + 1) * column x1 b (⟨512 + c.val, by omega⟩ : Fin 1024) (j + 1) * x8 (ix2 (1 : Fin 3) c)
      + column x1 b (⟨256 + c.val, by omega⟩ : Fin 1024) (j + 2) * column x1 b (⟨512 + c.val, by omega⟩ : Fin 1024) (j + 2) * x8 (ix2 (2 : Fin 3) c))

theorem column_mid (b : Fin 16) (q : Fin 1024) (t : Fin 4096) : column x1 b q (t.val + 8) = x1 (ix3 b t q) := by
  unfold column
  rw [dif_pos (by omega)]
  exact congrArg (fun z => x1 (ix3 b z q)) (Fin.ext (by dsimp only; omega))

theorem ref_conv (b : Fin 16) (t : Fin 4096) (c : Fin 256) :
    val_main_v28 (F := Ideal) x1 x8 (ix3 b t c) = conv x1 x8 b c (t.val + 7) := by
  have e0 := padded_conv x1 b (⟨t.val, by omega⟩ : Fin 4098) c
  have e1 := padded_conv x1 b (⟨1 + t.val, by omega⟩ : Fin 4098) c
  have e2 := padded_conv x1 b (⟨2 + t.val, by omega⟩ : Fin 4098) c
  have e3 := column_mid x1 b (⟨c.val, by omega⟩ : Fin 1024) t
  unfold conv
  dsimp only at e0 e1 e2
  rw [show 1 + t.val + 7 = t.val + 7 + 1 by omega] at e1
  rw [show 2 + t.val + 7 = t.val + 7 + 2 by omega] at e2
  rewrite [← e0, ← e1, ← e2, e3]
  unfold val_main_v28 val_main_v27 val_main_v26 val_main_v25 val_main_v24 val_main_v23 val_main_v22 val_main_v21 val_main_v20 val_main_v19 val_main_v18 val_main_v17
    val_main_v16 val_main_v15 val_main_v14 val_main_v13 val_main_v12 val_main_cst val_main_v11 val_main_v10 val_main_v9 val_main_v8 val_main_v7 val_main_v6 val_main_v1 val_main_v0
  generalize val_main_v5 (F := Ideal) x1 = y
  clean_types
  pointwise

/-! ## The window sums -/

theorem padded2 (b : Fin 16) (s : Fin 4097) (c : Fin 64) :
    val_main_v42 (F := Ideal) x1 (ix3 b s c) = column x1 b (⟨768 + c.val, by omega⟩ : Fin 1024) (s.val + 7) := by
  unfold column val_main_v42 val_main_v41 val_main_v29 val_main_call1_v0 val_main_c_5
  clean_types
  pointwise
  rw [int_zero]
  by_cases h : 1 ≤ s.val ∧ s.val - 1 < 4096
  · rw [dif_pos h, dif_pos (show 1 ≤ s.val ∧ s.val + 7 < 4104 by omega)]
    rfl
  · rw [dif_neg h, dif_neg (show ¬ (1 ≤ s.val ∧ s.val + 7 < 4104) by omega)]

theorem padded4 (b : Fin 16) (s : Fin 4099) (c : Fin 64) :
    val_main_v70 (F := Ideal) x1 (ix3 b s c) = column x1 b (⟨768 + (64 + c.val), by omega⟩ : Fin 1024) (s.val + 6) := by
  unfold column val_main_v70 val_main_v69 val_main_v29 val_main_call2_v0 val_main_c_13
  clean_types
  pointwise
  rw [int_zero]
  by_cases h : 2 ≤ s.val ∧ s.val - 2 < 4096
  · rw [dif_pos h, dif_pos (show 2 ≤ s.val ∧ s.val + 6 < 4104 by omega)]
    exact congrArg (fun z => x1 (ix3 b z (⟨768 + (64 + c.val), by omega⟩ : Fin 1024))) (Fin.ext (by dsimp only; omega))
  · rw [dif_neg h, dif_neg (show ¬ (2 ≤ s.val ∧ s.val + 6 < 4104) by omega)]

theorem padded8 (b : Fin 16) (s : Fin 4103) (c : Fin 64) :
    val_main_v102 (F := Ideal) x1 (ix3 b s c) = column x1 b (⟨768 + (128 + c.val), by omega⟩ : Fin 1024) (s.val + 4) := by
  unfold column val_main_v102 val_main_v101 val_main_v29 val_main_call3_v0 val_main_c_21
  clean_types
  pointwise
  rw [int_zero]
  by_cases h : 4 ≤ s.val ∧ s.val - 4 < 4096
  · rw [dif_pos h, dif_pos (show 4 ≤ s.val ∧ s.val + 4 < 4104 by omega)]
    exact congrArg (fun z => x1 (ix3 b z (⟨768 + (128 + c.val), by omega⟩ : Fin 1024))) (Fin.ext (by dsimp only; omega))
  · rw [dif_neg h, dif_neg (show ¬ (4 ≤ s.val ∧ s.val + 4 < 4104) by omega)]

theorem padded16 (b : Fin 16) (s : Fin 4111) (c : Fin 64) :
    val_main_v142 (F := Ideal) x1 (ix3 b s c) = column x1 b (⟨768 + (192 + c.val), by omega⟩ : Fin 1024) (s.val + 0) := by
  unfold column val_main_v142 val_main_v141 val_main_v29 val_main_call4_v0 val_main_c_29
  clean_types
  pointwise
  rw [int_zero]
  by_cases h : 8 ≤ s.val ∧ s.val - 8 < 4096
  · rw [dif_pos h, dif_pos (show 8 ≤ s.val ∧ s.val < 4104 by omega)]
  · rw [dif_neg h, dif_neg (show ¬ (8 ≤ s.val ∧ s.val < 4104) by omega)]

/-- Two values in a row. -/
def run2 (a : ℕ → EReal) (j : ℕ) : EReal := a j + a (j + 1)
/-- Four values in a row. -/
def run4 (a : ℕ → EReal) (j : ℕ) : EReal := run2 a j + run2 a (j + 2)
/-- Eight values in a row. -/
def run8 (a : ℕ → EReal) (j : ℕ) : EReal := run4 a j + run4 a (j + 4)
/-- Sixteen values in a row. -/
def run16 (a : ℕ → EReal) (j : ℕ) : EReal := run8 a j + run8 a (j + 8)

/-- The number of rows within a half window of a row, as the programs count it. -/
def countAt (t h : BitVec 32) : EReal :=
  FloatOps.sitofp (F := Ideal) .f32 (IntOp.addi (IntOp.subi (IntOp.minsi (IntOp.subi (IntOp.addi t h) 1#32) 4095#32) (IntOp.maxsi (IntOp.subi t h) 0#32)) 1#32)

theorem ref_pool2 (b : Fin 16) (t : Fin 4096) (c : Fin 64) : val_main_v55 (F := Ideal) x1 (ix3 b t c)
    = Ideal.div (run2 (column x1 b (⟨768 + c.val, by omega⟩ : Fin 1024)) (t.val + 7)) (countAt (BitVec.ofNat 32 t.val) 1#32)
      - x1 (ix3 b t (⟨768 + c.val, by omega⟩ : Fin 1024)) := by
  have e0 := padded2 x1 b (⟨t.val, by omega⟩ : Fin 4097) c
  have e1 := padded2 x1 b (⟨1 + t.val, by omega⟩ : Fin 4097) c
  dsimp only at e0 e1
  rw [show 1 + t.val + 7 = t.val + 7 + 1 by omega] at e1
  unfold run2 countAt
  rewrite [← e0, ← e1]
  unfold val_main_v55 val_main_v54 val_main_v53 val_main_v52 val_main_v51 val_main_v50 val_main_v49 val_main_c_7 val_main_v48 val_main_v47 val_main_v46 val_main_v45 val_main_v44
    val_main_cst_6 val_main_v43 val_main_v41 val_main_v40 val_main_v39 val_main_c_4 val_main_v38 val_main_v37 val_main_c_3 val_main_v36 val_main_v35 val_main_c_2 val_main_v34
    val_main_v33 val_main_c_1 val_main_v32 val_main_v31 val_main_c_0 val_main_v30 val_main_v29
  generalize val_main_v42 (F := Ideal) x1 = y
  clean_types
  pointwise

theorem ref_pool4 (b : Fin 16) (t : Fin 4096) (c : Fin 64) : val_main_v87 (F := Ideal) x1 (ix3 b t c)
    = Ideal.div (run4 (column x1 b (⟨768 + (64 + c.val), by omega⟩ : Fin 1024)) (t.val + 6)) (countAt (BitVec.ofNat 32 t.val) 2#32)
      - x1 (ix3 b t (⟨768 + (64 + c.val), by omega⟩ : Fin 1024)) := by
  have e (k : ℕ) (hk : k < 4) : column x1 b (⟨768 + (64 + c.val), by omega⟩ : Fin 1024) (t.val + 6 + k) = val_main_v70 (F := Ideal) x1 (ix3 b (⟨k + t.val, by omega⟩ : Fin 4099) c) := by
    rw [padded4]
    exact congrArg _ (by dsimp only; omega)
  unfold run4 run2 countAt
  simp only [Nat.add_assoc (t.val + 6), Nat.reduceAdd]
  rewrite [show column x1 b (⟨768 + (64 + c.val), by omega⟩ : Fin 1024) (t.val + 6) = _ from e 0 (by omega), e 1 (by omega), e 2 (by omega), e 3 (by omega)]
  unfold val_main_v87 val_main_v86 val_main_v85 val_main_v84 val_main_v83 val_main_v82 val_main_v81 val_main_v80 val_main_v79 val_main_v78 val_main_v77 val_main_v76 val_main_v75 val_main_v74 val_main_v73 val_main_v72 val_main_v71 val_main_v69 val_main_v68 val_main_v67 val_main_v66 val_main_v65 val_main_v64 val_main_v63 val_main_v62 val_main_v61 val_main_v60 val_main_v59 val_main_v30 val_main_v29 val_main_c_15 val_main_cst_14 val_main_c_12 val_main_c_11 val_main_c_10 val_main_c_9 val_main_c_8
  generalize val_main_v70 (F := Ideal) x1 = y
  clean_types
  pointwise
  simp only [add_assoc]

theorem ref_pool8 (b : Fin 16) (t : Fin 4096) (c : Fin 64) : val_main_v127 (F := Ideal) x1 (ix3 b t c)
    = Ideal.div (run8 (column x1 b (⟨768 + (128 + c.val), by omega⟩ : Fin 1024)) (t.val + 4)) (countAt (BitVec.ofNat 32 t.val) 4#32)
      - x1 (ix3 b t (⟨768 + (128 + c.val), by omega⟩ : Fin 1024)) := by
  have e (k : ℕ) (hk : k < 8) : column x1 b (⟨768 + (128 + c.val), by omega⟩ : Fin 1024) (t.val + 4 + k) = val_main_v102 (F := Ideal) x1 (ix3 b (⟨k + t.val, by omega⟩ : Fin 4103) c) := by
    rw [padded8]
    exact congrArg _ (by dsimp only; omega)
  unfold run8 run4 run2 countAt
  simp only [Nat.add_assoc (t.val + 4), Nat.reduceAdd]
  rewrite [show column x1 b (⟨768 + (128 + c.val), by omega⟩ : Fin 1024) (t.val + 4) = _ from e 0 (by omega), e 1 (by omega), e 2 (by omega), e 3 (by omega), e 4 (by omega), e 5 (by omega), e 6 (by omega), e 7 (by omega)]
  unfold val_main_v127 val_main_v126 val_main_v125 val_main_v124 val_main_v123 val_main_v122 val_main_v121 val_main_v120 val_main_v119 val_main_v118 val_main_v117 val_main_v116 val_main_v115 val_main_v114 val_main_v113 val_main_v112 val_main_v111 val_main_v110 val_main_v109 val_main_v108 val_main_v107 val_main_v106 val_main_v105 val_main_v104 val_main_v103 val_main_v101 val_main_v100 val_main_v99 val_main_v98 val_main_v97 val_main_v96 val_main_v95 val_main_v94 val_main_v93 val_main_v92 val_main_v91 val_main_v30 val_main_v29 val_main_c_23 val_main_cst_22 val_main_c_20 val_main_c_19 val_main_c_18 val_main_c_17 val_main_c_16
  generalize val_main_v102 (F := Ideal) x1 = y
  clean_types
  pointwise
  simp only [add_assoc]

theorem ref_pool16 (b : Fin 16) (t : Fin 4096) (c : Fin 64) : val_main_v183 (F := Ideal) x1 (ix3 b t c)
    = Ideal.div (run16 (column x1 b (⟨768 + (192 + c.val), by omega⟩ : Fin 1024)) (t.val + 0)) (countAt (BitVec.ofNat 32 t.val) 8#32)
      - x1 (ix3 b t (⟨768 + (192 + c.val), by omega⟩ : Fin 1024)) := by
  have e (k : ℕ) (hk : k < 16) : column x1 b (⟨768 + (192 + c.val), by omega⟩ : Fin 1024) (t.val + 0 + k) = val_main_v142 (F := Ideal) x1 (ix3 b (⟨k + t.val, by omega⟩ : Fin 4111) c) := by
    rw [padded16]
    exact congrArg _ (by dsimp only; omega)
  unfold run16 run8 run4 run2 countAt
  simp only [Nat.add_assoc (t.val + 0), Nat.reduceAdd]
  rewrite [show column x1 b (⟨768 + (192 + c.val), by omega⟩ : Fin 1024) (t.val + 0) = _ from e 0 (by omega), e 1 (by omega), e 2 (by omega), e 3 (by omega), e 4 (by omega), e 5 (by omega), e 6 (by omega), e 7 (by omega), e 8 (by omega), e 9 (by omega), e 10 (by omega), e 11 (by omega), e 12 (by omega), e 13 (by omega), e 14 (by omega), e 15 (by omega)]
  unfold val_main_v183 val_main_v182 val_main_v181 val_main_v180 val_main_v179 val_main_v178 val_main_v177 val_main_v176 val_main_v175 val_main_v174 val_main_v173 val_main_v172 val_main_v171 val_main_v170 val_main_v169 val_main_v168 val_main_v167 val_main_v166 val_main_v165 val_main_v164 val_main_v163 val_main_v162 val_main_v161 val_main_v160 val_main_v159 val_main_v158 val_main_v157 val_main_v156 val_main_v155 val_main_v154 val_main_v153 val_main_v152 val_main_v151 val_main_v150 val_main_v149 val_main_v148 val_main_v147 val_main_v146 val_main_v145 val_main_v144 val_main_v143 val_main_v141 val_main_v140 val_main_v139 val_main_v138 val_main_v137 val_main_v136 val_main_v135 val_main_v134 val_main_v133 val_main_v132 val_main_v131 val_main_v30 val_main_v29 val_main_c_31 val_main_cst_30 val_main_c_28 val_main_c_27 val_main_c_26 val_main_c_25 val_main_c_24
  generalize val_main_v142 (F := Ideal) x1 = y
  clean_types
  pointwise
  simp only [add_assoc]

/-- The sum over the window of a group of columns. -/
def windowSum (g : ℕ) (a : ℕ → EReal) (t : ℕ) : EReal :=
  if g = 0 then run2 a (t + 7) else if g = 1 then run4 a (t + 6) else if g = 2 then run8 a (t + 4) else run16 a t

/-- Half the window of a group of columns. -/
def halfOf (g : ℕ) : BitVec 32 := if g = 0 then 1#32 else if g = 1 then 2#32 else if g = 2 then 4#32 else 8#32

/-- A window's mean less the row. -/
def pooled (b : Fin 16) (t : Fin 4096) (q : Fin 256) : EReal :=
  Ideal.div (windowSum (q.val / 64) (column x1 b (⟨768 + q.val, by omega⟩ : Fin 1024)) t.val) (countAt (BitVec.ofNat 32 t.val) (halfOf (q.val / 64)))
    - x1 (ix3 b t (⟨768 + q.val, by omega⟩ : Fin 1024))

theorem pooled0 (b : Fin 16) (t : Fin 4096) (c : Fin 64) : val_main_v55 (F := Ideal) x1 (ix3 b t c) = pooled x1 b t (⟨c.val, by omega⟩ : Fin 256) := by
  rewrite [ref_pool2]
  unfold pooled
  rw [show (⟨c.val, by omega⟩ : Fin 256).val / 64 = 0 by dsimp only; omega]
  rfl

theorem pooled1 (b : Fin 16) (t : Fin 4096) (c : Fin 64) : val_main_v87 (F := Ideal) x1 (ix3 b t c) = pooled x1 b t (⟨64 + c.val, by omega⟩ : Fin 256) := by
  rewrite [ref_pool4]
  unfold pooled
  rw [show (⟨64 + c.val, by omega⟩ : Fin 256).val / 64 = 1 by dsimp only; omega]
  rfl

theorem pooled2 (b : Fin 16) (t : Fin 4096) (c : Fin 64) : val_main_v127 (F := Ideal) x1 (ix3 b t c) = pooled x1 b t (⟨128 + c.val, by omega⟩ : Fin 256) := by
  rewrite [ref_pool8]
  unfold pooled
  rw [show (⟨128 + c.val, by omega⟩ : Fin 256).val / 64 = 2 by dsimp only; omega]
  rfl

theorem pooled3 (b : Fin 16) (t : Fin 4096) (c : Fin 64) : val_main_v183 (F := Ideal) x1 (ix3 b t c) = pooled x1 b t (⟨192 + c.val, by omega⟩ : Fin 256) := by
  rewrite [ref_pool16]
  unfold pooled
  rw [show (⟨192 + c.val, by omega⟩ : Fin 256).val / 64 = 3 by dsimp only; omega]
  rfl

/-- The pooled columns through their groups' weights. -/
theorem ref_mixed (b : Fin 16) (t : Fin 4096) (q : Fin 256) : val_main_v187 (F := Ideal) x1 x9 (ix3 b t q)
    = ∑ k : Fin 64, pooled x1 b t (⟨64 * (q.val / 64) + k.val, by omega⟩ : Fin 256) * x9 (ix3 (⟨q.val / 64, by omega⟩ : Fin 4) k (⟨q.val % 64, by omega⟩ : Fin 64)) := by
  unfold val_main_v187 val_main_v186 val_main_v185 val_main_v184 val_main_v130 val_main_v129 val_main_v128 val_main_v90 val_main_v89 val_main_v88
    val_main_v58 val_main_v57 val_main_v56
  have e0 := pooled0 x1 b t
  have e1 := pooled1 x1 b t
  have e2 := pooled2 x1 b t
  have e3 := pooled3 x1 b t
  generalize val_main_v55 (F := Ideal) x1 = y0 at *
  generalize val_main_v87 (F := Ideal) x1 = y1 at *
  generalize val_main_v127 (F := Ideal) x1 = y2 at *
  generalize val_main_v183 (F := Ideal) x1 = y3 at *
  clean_types
  pointwise
  by_cases h0 : q.val < 64
  · rw [dif_pos h0]
    refine Finset.sum_congr rfl fun k _ => ?_
    rewrite [e0]
    exact congrArg₂ (· * ·) (congrArg (pooled x1 b t) (Fin.ext (show k.val = 64 * (q.val / 64) + k.val by omega)))
      (congrArg₂ (fun g c => x9 (ix3 g k c)) (Fin.ext (show 0 = q.val / 64 by omega)) (Fin.ext (show q.val = q.val % 64 by omega)))
  by_cases h1 : q.val - 64 < 64
  · rw [dif_neg h0, dif_pos h1]
    refine Finset.sum_congr rfl fun k _ => ?_
    rewrite [e1]
    exact congrArg₂ (· * ·) (congrArg (pooled x1 b t) (Fin.ext (show 64 + k.val = 64 * (q.val / 64) + k.val by omega)))
      (congrArg₂ (fun g c => x9 (ix3 g k c)) (Fin.ext (show 1 = q.val / 64 by omega)) (Fin.ext (show q.val - 64 = q.val % 64 by omega)))
  by_cases h2 : q.val - 64 - 64 < 64
  · rw [dif_neg h0, dif_neg h1, dif_pos h2]
    refine Finset.sum_congr rfl fun k _ => ?_
    rewrite [e2]
    exact congrArg₂ (· * ·) (congrArg (pooled x1 b t) (Fin.ext (show 128 + k.val = 64 * (q.val / 64) + k.val by omega)))
      (congrArg₂ (fun g c => x9 (ix3 g k c)) (Fin.ext (show 2 = q.val / 64 by omega)) (Fin.ext (show q.val - 64 - 64 = q.val % 64 by omega)))
  · rw [dif_neg h0, dif_neg h1, dif_neg h2]
    refine Finset.sum_congr rfl fun k _ => ?_
    rewrite [e3]
    exact congrArg₂ (· * ·) (congrArg (pooled x1 b t) (Fin.ext (show 192 + k.val = 64 * (q.val / 64) + k.val by omega)))
      (congrArg₂ (fun g c => x9 (ix3 g k c)) (Fin.ext (show 3 = q.val / 64 by omega)) (Fin.ext (show q.val - 64 - 64 - 64 = q.val % 64 by omega)))

end Cert.MixRun

end
-- ==== Proof.MixArr.lean ====
/- The arrays the host prepares for the tail of the layer, at an index. -/
module

public import proofs.«01_k».proof.Proof.MixHost
public import proofs.«01_k».proof.Proof.MixRef

@[expose] public section

set_option maxRecDepth 16384
set_option maxHeartbeats 4000000

noncomputable section

namespace Cert.MixRun

open Cert.MixIdeal Cert.MixIdeal.Gen Idealize.ShloMosaic Idealize.ShloMosaic.TcCoe
open Idealize.SL.Sem

variable (f : FVec Ideal S16x4096x256 .f32) (p : FVec Ideal S4x64x64 .f32)

theorem side_apply (t q : Fin 4096) : sideBySide f (ix2 t q) = f (ix3 (⟨q.val / 256, by omega⟩ : Fin 16) t (⟨q.val % 256, by omega⟩ : Fin 256)) := by
  unfold sideBySide
  pointwise

theorem direct_apply (y : FVec Ideal S4096x4096 .bf16) (t : Fin 2048) (q : Fin 4096) :
    extractStridedSlice S2048x4096 ![0, 0] y slices_S4096x4096_S2048x4096_0_0 (ix2 t q) = y (ix2 (⟨t.val, by omega⟩ : Fin 4096) q) := by
  pointwise

theorem middle_apply (y : FVec Ideal S4096x4096 .bf16) (s : Fin 8) (q : Fin 4096) :
    broadcastInDim S8x4096 ![0, 1] bcast_S1x4096_S8x4096_0_1 (extractStridedSlice S1x4096 ![2048, 0] y slices_S4096x4096_S1x4096_2048_0) (ix2 s q)
      = y (ix2 (⟨2048, by omega⟩ : Fin 4096) q) := by
  pointwise

theorem mirrored_apply (y : FVec Ideal S4096x4096 .bf16) (j : Fin 2048) (hj : 1 ≤ j.val) (q : Fin 4096) :
    concatenate S2048x4096 0 [⟨S1x4096, extractStridedSlice S1x4096 ![0, 0] y slices_S4096x4096_S1x4096_0_0⟩,
        ⟨S2047x4096, Host.reverse [0] (extractStridedSlice S2047x4096 ![2049, 0] y slices_S4096x4096_S2047x4096_2049_0)⟩]
        concatenates_S1x4096_S2047x4096_S2048x4096_d0 (ix2 j q)
      = y (ix2 (⟨4096 - j.val, by omega⟩ : Fin 4096) q) := by
  pointwise
  rw [dif_neg (show ¬ j.val < 1 by omega)]
  have e : (⟨2049 + (⟨j.val - 1, by omega⟩ : Fin 2047).rev.val, by omega⟩ : Fin 4096) = ⟨4096 - j.val, by omega⟩ :=
    Fin.ext (by simp only [Fin.val_rev]; omega)
  exact congrArg (fun z => y (ix2 z q)) e

theorem flipMat_apply (r k : Fin 512) : flipMat (ix2 r k) = if r.val + k.val = 512 then (1 : EReal) else 0 := by
  unfold flipMat
  pointwise
  rw [show IntOp.addi (BitVec.ofNat 32 r.val) (BitVec.ofNat 32 k.val) = BitVec.ofNat 32 (r.val + k.val) from (BitVec.ofNat_add _ _).symm,
    show IntOp.cmpi .eq (BitVec.ofNat 32 (r.val + k.val)) 512#32 = BitVec.ofBool (decide (r.val + k.val = 512)) from
      WordCmp.cmpi_eq_ofNat (by omega) (by omega)]
  by_cases h : r.val + k.val = 512
  · rw [if_pos h, decide_eq_true h]
    show (((BitVec.ofBool true).toNat : ℝ) : EReal) = 1
    simp
  · rw [if_neg h, decide_eq_false h]
    show (((BitVec.ofBool false).toNat : ℝ) : EReal) = 0
    simp

theorem even_tile (a : FVec Ideal S16x4096x256 .f32) (n : Fin 128) (r c : Fin 256) :
    shapeCast S128x256x256 (extractStridedSlice S128x1x256x256 ![0, 0, 0, 0] (paired a) slices_S128x2x256x256_S128x1x256x256_0_0_0_0) shapeCasts_S128x1x256x256_S128x256x256 (ix3 n r c)
      = a (ix3 (⟨n.val / 8, by omega⟩ : Fin 16) (⟨n.val % 8 * 512 + r.val, by omega⟩ : Fin 4096) c) := by
  unfold paired
  pointwise

theorem odd_tile (a : FVec Ideal S16x4096x256 .f32) (n : Fin 128) (r c : Fin 256) :
    shapeCast S128x256x256 (extractStridedSlice S128x1x256x256 ![0, 1, 0, 0] (paired a) slices_S128x2x256x256_S128x1x256x256_0_1_0_0) shapeCasts_S128x1x256x256_S128x256x256 (ix3 n r c)
      = a (ix3 (⟨n.val / 8, by omega⟩ : Fin 16) (⟨n.val % 8 * 512 + 256 + r.val, by omega⟩ : Fin 4096) c) := by
  unfold paired
  pointwise

theorem row_apply (y : FVec Ideal S16x1024 .f32) (b : Fin 16) (d : Fin 1024) :
    shapeCast S16x1x1024 y shapeCasts_S16x1024_S16x1x1024 (ix3 b (0 : Fin 1) d) = y (ix2 b d) := by
  pointwise

theorem wide_apply (y : FVec Ideal S1024 .f32) (d : Fin 1024) :
    shapeCast S1x1024 y shapeCasts_S1024_S1x1024 (ix2 (0 : Fin 1) d) = y (ix1 d) := by
  pointwise

theorem narrow_apply (y : FVec Ideal S256 .f32) (d : Fin 256) :
    shapeCast S1x256 y shapeCasts_S256_S1x256 (ix2 (0 : Fin 1) d) = y (ix1 d) := by
  pointwise

theorem at_same (a a' : Fin 4) (b b' c c' : Fin 64) (ha : a.val = a'.val) (hb : b.val = b'.val) (hc : c.val = c'.val) :
    p (ix3 a b c) = p (ix3 a' b' c') := by
  rw [Fin.ext ha, Fin.ext hb, Fin.ext hc]

theorem diagonal_apply (k q : Fin 256) : diagonal p (ix2 k q)
    = if k.val / 64 = q.val / 64 then p (ix3 (⟨k.val / 64, by omega⟩ : Fin 4) (⟨k.val % 64, by omega⟩ : Fin 64) (⟨q.val % 64, by omega⟩ : Fin 64)) else (0 : EReal) := by
  unfold diagonal square0 square1 square2 square3
  pointwise
  by_cases hk : k.val / 64 = q.val / 64
  · refine Eq.trans ?_ (if_pos hk).symm
    split_ifs <;> first
      | omega
      | (refine at_same p _ _ _ _ _ _ ?_ ?_ ?_ <;> first | omega | (dsimp only; omega) | (show 0 = k.val / 64; omega) | (show 1 = k.val / 64; omega) | (show 2 = k.val / 64; omega) | (show 3 = k.val / 64; omega))
  · refine Eq.trans ?_ (if_neg hk).symm
    split_ifs <;> first
      | omega
      | rfl

theorem halves_apply (g : Fin 4) : halves (ix1 g) = halfOf g.val := by
  fin_cases g <;> rfl

theorem inverse_apply (h : IVec S4 32) (t : Fin 4096) (q : Fin 256) : inverse (counts h) (ix2 t q)
    = Ideal.div 1 (countAt (BitVec.ofNat 32 t.val) (h (ix1 (⟨q.val / 64, by omega⟩ : Fin 4)))) := by
  unfold inverse counts countAt
  pointwise

end Cert.MixRun

end
-- ==== Proof.MixTile.lean ====
/- The tail of the layer on one tile of rows: the body's values before the dense layers, index by index. -/
module

public import proofs.«01_k».proof.Proof.Gen.MixIdeal.Skeleton
public import Idealize.ShloMosaic.Lib.Pointwise
public import Idealize.ShloMosaic.Lib.KernelVsHost
public import Idealize.ShloMosaic.Lib.WordCmp

@[expose] public section

set_option maxRecDepth 16384
set_option maxHeartbeats 2000000

noncomputable section

namespace Cert.MixRun

open Cert.MixIdeal Cert.MixIdeal.Gen Idealize.ShloMosaic Idealize.ShloMosaic.TcCoe
open Idealize.SL.Sem

/-- A rotation of the rows by `k`, at a row that does not come around the end. -/
theorem rot_back {m : ℕ} (k : BitVec 32) (x : FVec Ideal ⟨2, ![528, m]⟩ .f32) (h : (⟨2, ![528, m]⟩ : Shape).Rotates 0 none)
    (e e' : Fin 528) (c : Fin m) (hk : k.toNat < 528) (he : (e.val + 528 - k.toNat) % 528 = e'.val) :
    dynamicRotate 0 k none x h (ix2 e c) = x (ix2 e' c) := by
  refine dynamicRotate_apply 0 k x h (ix2 e c) (ix2 e' c) fun b => ?_
  fin_cases b
  · show e'.val = (e.val + 528 - k.toNat % 528) % 528
    rw [Nat.mod_eq_of_lt hk, he]
  · rfl

/-- A tile's rows with the eight before and the eight after. -/
theorem ext_apply (i : grid0.Coords) (p n : Vec Ideal S1x8x1024 .f32) (t : Vec Ideal S1x512x1024 .f32) (e : Fin 528) (d : Fin 1024) :
    k0_pay2 (F := Ideal) i p n t (ix2 e d)
      = if h : e.val < 8 then (if (i 1).val = 0 then (0 : EReal) else p (ix3 (0 : Fin 1) ⟨e.val, h⟩ d))
        else if h' : e.val < 520 then t (ix3 (0 : Fin 1) ⟨e.val - 8, by omega⟩ d)
        else (if (i 1).val = 7 then (0 : EReal) else n (ix3 (0 : Fin 1) ⟨e.val - 520, by omega⟩ d)) := by
  have hi : (i 1).val < 8 := (i 1).isLt
  have hz : Scalar.cmpi .eq (BitVec.ofNat 32 (i 1).val) 0#32 = BitVec.ofBool (decide ((i 1).val = 0)) :=
    WordCmp.cmpi_eq_ofNat (by omega) (by omega)
  have hl : Scalar.cmpi .eq (BitVec.ofNat 32 (i 1).val) 7#32 = BitVec.ofBool (decide ((i 1).val = 7)) :=
    WordCmp.cmpi_eq_ofNat (by omega) (by omega)
  unfold k0_pay2
  rw [hz, hl]
  generalize (i 1).val = n1
  have hs (y : Vec Ideal S1x8x1024 .f32) (a : Fin 8) : shapeCast S8x1024 y shapeCasts_S1x8x1024_S8x1024 (ix2 a d) = y (ix3 0 a d) := by pointwise
  pointwise
  have hb (a : Fin 8) : (if n1 = 0 then (broadcast S8x1024 (0 : EReal) : Vec Ideal S8x1024 .f32) else shapeCast S8x1024 p shapeCasts_S1x8x1024_S8x1024) (ix2 a d)
      = if n1 = 0 then 0 else p (ix3 0 a d) := by
    split
    · rfl
    · exact hs p a
  have hc (a : Fin 8) : (if n1 = 7 then (broadcast S8x1024 (0 : EReal) : Vec Ideal S8x1024 .f32) else shapeCast S8x1024 n shapeCasts_S1x8x1024_S8x1024) (ix2 a d)
      = if n1 = 7 then 0 else n (ix3 0 a d) := by
    split
    · rfl
    · exact hs n a
  by_cases h1 : e.val < 8
  · simp only [dif_pos h1]
    exact hb _
  · simp only [dif_neg h1]
    by_cases h2 : e.val < 520
    · rw [dif_pos h2, dif_pos (show e.val - 8 < 512 by omega)]
    · rw [dif_neg h2, dif_neg (show ¬ e.val - 8 < 512 by omega)]
      refine (hc _).trans ?_
      congr 2

/-- The gated short convolution of a tile's row. -/
theorem conv_apply (v : FVec Ideal S528x1024 .f32) (w0 w1 w2 : Vec Ideal S1x256 .f32) (r : Fin 512) (c : Fin 256) :
    k0_pay7 (F := Ideal) v w0 w1 w2 (ix2 r c)
      = (v (ix2 (⟨8 + r.val, by omega⟩ : Fin 528) (⟨c.val, by omega⟩ : Fin 1024))
        * (v (ix2 (⟨7 + r.val, by omega⟩ : Fin 528) (⟨256 + c.val, by omega⟩ : Fin 1024)) * v (ix2 (⟨7 + r.val, by omega⟩ : Fin 528) (⟨512 + c.val, by omega⟩ : Fin 1024)) * w0 (ix2 (0 : Fin 1) c)
          + v (ix2 (⟨8 + r.val, by omega⟩ : Fin 528) (⟨256 + c.val, by omega⟩ : Fin 1024)) * v (ix2 (⟨8 + r.val, by omega⟩ : Fin 528) (⟨512 + c.val, by omega⟩ : Fin 1024)) * w1 (ix2 (0 : Fin 1) c)
          + v (ix2 (⟨9 + r.val, by omega⟩ : Fin 528) (⟨256 + c.val, by omega⟩ : Fin 1024)) * v (ix2 (⟨9 + r.val, by omega⟩ : Fin 528) (⟨512 + c.val, by omega⟩ : Fin 1024)) * w2 (ix2 (0 : Fin 1) c)) : EReal) := by
  unfold k0_pay7
  have hm (x : Fin 528) : mulf (extractStridedSlice S528x256 ![0, 256] v slices_S528x1024_o0_256_S528x256)
      (extractStridedSlice S528x256 ![0, 512] v slices_S528x1024_o0_512_S528x256) (ix2 x c)
      = (v (ix2 x (⟨256 + c.val, by omega⟩ : Fin 1024)) * v (ix2 x (⟨512 + c.val, by omega⟩ : Fin 1024)) : EReal) := by pointwise
  rw [← hm, ← hm, ← hm]
  generalize mulf (extractStridedSlice S528x256 ![0, 256] v slices_S528x1024_o0_256_S528x256)
      (extractStridedSlice S528x256 ![0, 512] v slices_S528x1024_o0_512_S528x256) = y
  have h1 := rot_back 1#32 y rotates_S528x256_d0 (⟨8 + r.val, by omega⟩ : Fin 528) (⟨7 + r.val, by omega⟩ : Fin 528) c (by decide) (by simp; omega)
  have h2 := rot_back 527#32 y rotates_S528x256_d0 (⟨8 + r.val, by omega⟩ : Fin 528) (⟨9 + r.val, by omega⟩ : Fin 528) c (by decide) (by simp; omega)
  rw [← h1, ← h2]
  clear h1 h2
  dsimp only
  generalize dynamicRotate 0 1#32 none y rotates_S528x256_d0 = z1
  generalize dynamicRotate 0 527#32 none y rotates_S528x256_d0 = z2
  pointwise

theorem s1_apply (v : FVec Ideal S528x1024 .f32) (e : Fin 528) (c : Fin 256) :
    k0_pay8 (F := Ideal) v (ix2 e c) = v (ix2 e (⟨768 + c.val, by omega⟩ : Fin 1024)) := by
  unfold k0_pay8
  pointwise

theorem s2_apply (v : FVec Ideal S528x1024 .f32) (e e1 : Fin 528) (c : Fin 256) (h1 : e1.val + 1 = e.val) :
    k0_pay9 (F := Ideal) v (ix2 e c) = (k0_pay8 (F := Ideal) v (ix2 e1 c) + k0_pay8 (F := Ideal) v (ix2 e c) : EReal) := by
  unfold k0_pay9
  generalize k0_pay8 (F := Ideal) v = y
  rw [← rot_back 1#32 y rotates_S528x256_d0 e e1 c (by decide) (by simp; omega)]
  dsimp only
  generalize dynamicRotate 0 1#32 none y rotates_S528x256_d0 = z
  pointwise

theorem s4_apply (v : FVec Ideal S528x1024 .f32) (e e1 e2 : Fin 528) (c : Fin 256) (h1 : e1.val + 1 = e.val) (h2 : e.val + 1 = e2.val) :
    k0_pay10 (F := Ideal) v (ix2 e c) = (k0_pay9 (F := Ideal) v (ix2 e1 c) + k0_pay9 (F := Ideal) v (ix2 e2 c) : EReal) := by
  unfold k0_pay10
  generalize k0_pay9 (F := Ideal) v = y
  rw [← rot_back 1#32 y rotates_S528x256_d0 e e1 c (by decide) (by simp; omega),
    ← rot_back 527#32 y rotates_S528x256_d0 e e2 c (by decide) (by simp; omega)]
  dsimp only
  generalize dynamicRotate 0 1#32 none y rotates_S528x256_d0 = z1
  generalize dynamicRotate 0 527#32 none y rotates_S528x256_d0 = z2
  pointwise

theorem lane_apply (l : Fin 128) (r : Fin 512) : k0_pay3 (ix2 r l) = BitVec.ofBool (decide (l.val < 64)) := by
  unfold k0_pay3
  show IntOp.cmpi .slt (iota Kind.tc S512x128 32 [1] iota_S512x128_d1_w32 (ix2 r l)) (BitVec.ofNat 32 64) = _
  rw [iota_single_apply]
  exact WordCmp.cmpi_slt_ofNat (show l.val < _ by omega) (by omega)

/-- The attention's rows: an even tile, then an odd one. -/
theorem att_apply (a b : Vec Ideal S1x256x256 .bf16) (r : Fin 512) (c : Fin 256) :
    k0_pay4 (F := Ideal) a b (ix2 r c) = if h : r.val < 256 then a (ix3 (0 : Fin 1) ⟨r.val, h⟩ c) else b (ix3 (0 : Fin 1) ⟨r.val - 256, by omega⟩ c) := by
  unfold k0_pay4
  pointwise

theorem flip_apply (fl : Vec Ideal S512x512 .bf16) (mi : Vec Ideal S512x256 .bf16) (r : Fin 512) (c : Fin 256) :
    k0_pay5 (F := Ideal) fl mi (ix2 r c) = (∑ k : Fin 512, fl (ix2 r k) * mi (ix2 k c) : EReal) := by
  unfold k0_pay5
  pointwise

theorem fourier_apply (n : Fin 8) (v : FVec Ideal S512x256 .bf16) (mid row : Vec Ideal S1x256 .bf16) (dir : Vec Ideal S512x256 .bf16)
    (r : Fin 512) (c : Fin 256) :
    k0_pay6 (F := Ideal) (BitVec.ofNat 32 n.val) v (Scalar.cmpi .eq (Scalar.muli 2#32 (BitVec.ofNat 32 n.val)) 8#32) mid row dir (ix2 r c)
      = if 4 ≤ n.val then (if r.val = 0 then (if n.val = 4 then mid (ix2 (0 : Fin 1) c) else row (ix2 (0 : Fin 1) c)) else v (ix2 r c)) else dir (ix2 r c) := by
  have h0 : IntOp.cmpi .eq (BitVec.ofNat 32 r.val) 0#32 = BitVec.ofBool (decide (r.val = 0)) :=
    WordCmp.cmpi_eq_ofNat (by omega) (by omega)
  have he : Scalar.cmpi .eq (Scalar.muli 2#32 (BitVec.ofNat 32 n.val)) 8#32 = BitVec.ofBool (decide (n.val = 4)) := by
    revert n; decide
  have hg : Scalar.cmpi .sge (Scalar.muli 2#32 (BitVec.ofNat 32 n.val)) 8#32 = BitVec.ofBool (decide (4 ≤ n.val)) := by
    revert n; decide
  unfold k0_pay6
  dsimp only
  rw [he, hg]
  have hs (y : Vec Ideal S1x256 .bf16) : select (cmpi .eq (iota Kind.tc S512x256 32 [0] iota_S512x256_d0_w32) (broadcast S512x256 0#32))
      (broadcastTo S512x256 y broadcasts_S1x256_S512x256) v (ix2 r c) = if r.val = 0 then y (ix2 0 c) else v (ix2 r c) := by
    pointwise
    rw [h0]
    by_cases hr : r.val = 0
    · rw [if_pos hr, decide_eq_true hr]
      rfl
    · rw [if_neg hr, decide_eq_false hr]
      rfl
  have hc (y : Vec Ideal S1x256 .bf16) : shapeCast S1x256 y shapeCasts_S1x256_S1x256 = y := by
    funext j
    idx_vars j
    pointwise
  have hd : shapeCast S512x256 dir shapeCasts_S512x256_S512x256 = dir := by
    funext j
    idx_vars j
    pointwise
  simp only [WordCmp.select_ofBool, decide_eq_true_eq, hc, hd]
  by_cases h4 : 4 ≤ n.val
  · by_cases h5 : n.val = 4
    · rw [if_pos h4, if_pos h4, if_pos h5, if_pos h5]
      exact hs mid
    · rw [if_pos h4, if_pos h4, if_neg h5, if_neg h5]
      exact hs row
  · rw [if_neg h4, if_neg h4]

end Cert.MixRun

end
-- ==== Proof.MixPool.lean ====
/- The tail of the layer on one tile of rows: the pooled columns and the joined row. -/
module

public import proofs.«01_k».proof.Proof.MixTile

@[expose] public section

set_option maxRecDepth 16384
set_option maxHeartbeats 2000000

noncomputable section

namespace Cert.MixRun

open Cert.MixIdeal Cert.MixIdeal.Gen Idealize.ShloMosaic Idealize.ShloMosaic.TcCoe
open Idealize.SL.Sem

variable (v15 : IVec S512x128 1) (v64 v66 v69 : FVec Ideal S528x256 .f32) (v70 : FVec Ideal S528x128 .f32) (v78 : Vec Ideal S512x256 .f32)

/-- Sums of eight rows, in the last 128 columns. -/
def sum8 : FVec Ideal S528x128 .f32 :=
  have v71 : FVec Ideal S528x128 .f32 := extractStridedSlice S528x128 ![0, 128] v69 slices_S528x256_o0_128_S528x128
  have v72 : FVec Ideal S528x128 .f32 := dynamicRotate 0 2#32 none v71 rotates_S528x128_d0
  have v73 : FVec Ideal S528x128 .f32 := dynamicRotate 0 526#32 none v71 rotates_S528x128_d0
  addf v72 v73

/-- Sums of sixteen rows, in the last 128 columns. -/
def sum16 : FVec Ideal S528x128 .f32 :=
  have v75 : FVec Ideal S528x128 .f32 := dynamicRotate 0 4#32 none (sum8 v69) rotates_S528x128_d0
  have v76 : FVec Ideal S528x128 .f32 := dynamicRotate 0 524#32 none (sum8 v69) rotates_S528x128_d0
  addf v75 v76

/-- The first two windows' means less the row. -/
def pinA : FVec Ideal S512x128 .f32 :=
  have v79 : FVec Ideal S512x256 .f32 := shapeCast S512x256 v78 shapeCasts_S512x256_S512x256
  have v80 : FVec Ideal S512x128 .f32 := extractStridedSlice S512x128 ![8, 0] v66 slices_S528x256_o8_0_S512x128
  have v81 : FVec Ideal S512x128 .f32 := extractStridedSlice S512x128 ![8, 0] v69 slices_S528x256_o8_0_S512x128
  have v82 : FVec Ideal S512x128 .f32 := select v15 v80 v81
  have v83 : FVec Ideal S512x128 .f32 := extractStridedSlice S512x128 ![0, 0] v79 slices_S512x256_o0_0_S512x128
  have v84 : FVec Ideal S512x128 .f32 := mulf v82 v83
  have v85 : FVec Ideal S512x128 .f32 := extractStridedSlice S512x128 ![8, 0] v64 slices_S528x256_o8_0_S512x128
  subf v84 v85

/-- The last two windows' means less the row. -/
def pinB : FVec Ideal S512x128 .f32 :=
  have v79 : FVec Ideal S512x256 .f32 := shapeCast S512x256 v78 shapeCasts_S512x256_S512x256
  have v87 : FVec Ideal S512x128 .f32 := extractStridedSlice S512x128 ![8, 0] (sum8 v69) slices_S528x128_o8_0_S512x128
  have v88 : FVec Ideal S512x128 .f32 := extractStridedSlice S512x128 ![8, 0] (sum16 v69) slices_S528x128_o8_0_S512x128
  have v89 : FVec Ideal S512x128 .f32 := select v15 v87 v88
  have v90 : FVec Ideal S512x128 .f32 := extractStridedSlice S512x128 ![0, 128] v79 slices_S512x256_o0_128_S512x128
  have v91 : FVec Ideal S512x128 .f32 := mulf v89 v90
  have v92 : FVec Ideal S512x128 .f32 := extractStridedSlice S512x128 ![8, 0] v70 slices_S528x128_o8_0_S512x128
  subf v91 v92

/-- The joined row, the pooled columns from their means. -/
def joined (v20 v44 : FVec Ideal S512x256 .bf16) (v63 : FVec Ideal S512x256 .f32) (v86 v93 : FVec Ideal S512x128 .f32)
    (v96 : Vec Ideal S256x256 .bf16) (v99 : Vec Ideal S1x256 .f32) : FVec Ideal S512x1024 .bf16 :=
  have v94 : FVec Ideal S512x256 .f32 := concatenate S512x256 1 [⟨S512x128, v86⟩, ⟨S512x128, v93⟩] concatenates_S512x128_S512x128_S512x256_d1
  have v95 : FVec Ideal S512x256 .bf16 := truncf .bf16 v94 bitsLt_bf16_f32
  have v97 : FVec Ideal S256x256 .bf16 := shapeCast S256x256 v96 shapeCasts_S256x256_S256x256
  have cst_41 : FVec Ideal S512x256 .f32 := constant S512x256 .f32 0x00000000#32
  have v98 : FVec Ideal S512x256 .f32 := matmul dot_S512x256_S256x256_S512x256_1_0_0_1_n_n none v95 v97 cst_41
  have v100 : FVec Ideal S1x256 .f32 := shapeCast S1x256 v99 shapeCasts_S1x256_S1x256
  have v101 : FVec Ideal S512x256 .f32 := broadcastTo S512x256 v100 broadcasts_S1x256_S512x256
  have v102 : FVec Ideal S512x256 .f32 := mulf v98 v101
  have v103 : FVec Ideal S512x256 .bf16 := truncf .bf16 v63 bitsLt_bf16_f32
  have v104 : FVec Ideal S512x256 .bf16 := truncf .bf16 v102 bitsLt_bf16_f32
  concatenate S512x1024 1 [⟨S512x256, v44⟩, ⟨S512x256, v103⟩, ⟨S512x256, v104⟩, ⟨S512x256, v20⟩] concatenates_S512x256_S512x256_S512x256_S512x256_S512x1024_d1

theorem joined_eq (v20 v44 : FVec Ideal S512x256 .bf16) (v63 : FVec Ideal S512x256 .f32)
    (v96 : Vec Ideal S256x256 .bf16) (v99 : Vec Ideal S1x256 .f32) :
    k0_pay12 (F := Ideal) v15 v20 v44 v63 v64 v66 v69 v70 v78 v96 v99
      = joined v20 v44 v63 (pinA v15 v64 v66 v69 v78) (pinB v15 v69 v70 v78) v96 v99 := rfl

theorem sum8_apply (e e1 e2 : Fin 528) (c : Fin 128) (h1 : e1.val + 2 = e.val) (h2 : e.val + 2 = e2.val) :
    sum8 v69 (ix2 e c) = (v69 (ix2 e1 (⟨128 + c.val, by omega⟩ : Fin 256)) + v69 (ix2 e2 (⟨128 + c.val, by omega⟩ : Fin 256)) : EReal) := by
  unfold sum8
  have hs (x : Fin 528) : extractStridedSlice S528x128 ![0, 128] v69 slices_S528x256_o0_128_S528x128 (ix2 x c) = v69 (ix2 x (⟨128 + c.val, by omega⟩ : Fin 256)) := by
    pointwise
  rw [← hs, ← hs]
  generalize extractStridedSlice S528x128 ![0, 128] v69 slices_S528x256_o0_128_S528x128 = y
  rw [← rot_back 2#32 y rotates_S528x128_d0 e e1 c (by decide) (by simp; omega),
    ← rot_back 526#32 y rotates_S528x128_d0 e e2 c (by decide) (by simp; omega)]
  dsimp only
  generalize dynamicRotate 0 2#32 none y rotates_S528x128_d0 = z1
  generalize dynamicRotate 0 526#32 none y rotates_S528x128_d0 = z2
  pointwise

theorem sum16_apply (e e1 e2 : Fin 528) (c : Fin 128) (h1 : e1.val + 4 = e.val) (h2 : e.val + 4 = e2.val) :
    sum16 v69 (ix2 e c) = (sum8 v69 (ix2 e1 c) + sum8 v69 (ix2 e2 c) : EReal) := by
  unfold sum16
  generalize sum8 v69 = y
  rw [← rot_back 4#32 y rotates_S528x128_d0 e e1 c (by decide) (by simp; omega),
    ← rot_back 524#32 y rotates_S528x128_d0 e e2 c (by decide) (by simp; omega)]
  dsimp only
  generalize dynamicRotate 0 4#32 none y rotates_S528x128_d0 = z1
  generalize dynamicRotate 0 524#32 none y rotates_S528x128_d0 = z2
  pointwise

theorem pinA_apply (r : Fin 512) (c : Fin 128) : pinA v15 v64 v66 v69 v78 (ix2 r c)
    = ((Scalar.select (v15 (ix2 r c)) (v66 (ix2 (⟨8 + r.val, by omega⟩ : Fin 528) (⟨c.val, by omega⟩ : Fin 256)) : EReal)
        (v69 (ix2 (⟨8 + r.val, by omega⟩ : Fin 528) (⟨c.val, by omega⟩ : Fin 256)))) * v78 (ix2 r (⟨c.val, by omega⟩ : Fin 256))
      - v64 (ix2 (⟨8 + r.val, by omega⟩ : Fin 528) (⟨c.val, by omega⟩ : Fin 256)) : EReal) := by
  unfold pinA
  pointwise

theorem pinB_apply (r : Fin 512) (c : Fin 128) : pinB v15 v69 v70 v78 (ix2 r c)
    = ((Scalar.select (v15 (ix2 r c)) (sum8 v69 (ix2 (⟨8 + r.val, by omega⟩ : Fin 528) c) : EReal)
        (sum16 v69 (ix2 (⟨8 + r.val, by omega⟩ : Fin 528) c))) * v78 (ix2 r (⟨128 + c.val, by omega⟩ : Fin 256))
      - v70 (ix2 (⟨8 + r.val, by omega⟩ : Fin 528) c) : EReal) := by
  unfold pinB
  generalize sum8 v69 = y
  generalize sum16 v69 = z
  pointwise

theorem joined_apply (v20 v44 : FVec Ideal S512x256 .bf16) (v63 : FVec Ideal S512x256 .f32) (v86 v93 : FVec Ideal S512x128 .f32)
    (v96 : Vec Ideal S256x256 .bf16) (v99 : Vec Ideal S1x256 .f32) (r : Fin 512) (d : Fin 1024) :
    joined v20 v44 v63 v86 v93 v96 v99 (ix2 r d)
      = if h : d.val < 256 then v44 (ix2 r (⟨d.val, h⟩ : Fin 256))
        else if h1 : d.val < 512 then v63 (ix2 r (⟨d.val - 256, by omega⟩ : Fin 256))
        else if h2 : d.val < 768 then
          (((∑ k : Fin 128, v86 (ix2 r k) * v96 (ix2 (⟨k.val, by omega⟩ : Fin 256) (⟨d.val - 512, by omega⟩ : Fin 256)))
            + ∑ k : Fin 128, v93 (ix2 r k) * v96 (ix2 (⟨128 + k.val, by omega⟩ : Fin 256) (⟨d.val - 512, by omega⟩ : Fin 256)))
            * v99 (ix2 (0 : Fin 1) (⟨d.val - 512, by omega⟩ : Fin 256)) : EReal)
        else v20 (ix2 r (⟨d.val - 768, by omega⟩ : Fin 256)) := by
  unfold joined
  pointwise
  by_cases h : d.val < 256
  · simp only [dif_pos h]
  by_cases h1 : d.val < 512
  · rw [dif_neg h, dif_neg h, dif_pos (show d.val - 256 < 256 by omega), dif_pos h1]
  by_cases h2 : d.val < 768
  · rw [dif_neg h, dif_neg h, dif_neg (show ¬ d.val - 256 < 256 by omega), dif_neg h1, dif_pos (show d.val - 256 - 256 < 256 by omega), dif_pos h2]
    simp only [Nat.sub_sub, Nat.reduceAdd]
  · rw [dif_neg h, dif_neg h, dif_neg (show ¬ d.val - 256 < 256 by omega), dif_neg h1, dif_neg (show ¬ d.val - 256 - 256 < 256 by omega), dif_neg h2]
    simp only [Nat.sub_sub, Nat.reduceAdd]

end Cert.MixRun

end
-- ==== Proof.MixBlk.lean ====
/- The blocks of each grid step of the layer's tail, at an index, in the host's arrays; and a tile's result from them. -/
module

public import proofs.«01_k».proof.Proof.MixArr
public import proofs.«01_k».proof.Proof.MixTile
public import proofs.«01_k».proof.Proof.MixPool
public import Idealize.ShloMosaic.Lib.Pipeline.ValueKit

@[expose] public section

set_option maxRecDepth 16384
set_option maxHeartbeats 4000000

noncomputable section

namespace Cert.MixRun

open Cert.MixIdeal Cert.MixIdeal.Gen Idealize.ShloMosaic Idealize.ShloMosaic.TcCoe
open Idealize.SL.Sem

/-! ## Where the blocks lie -/

theorem coord0 : ∀ t : Fin grid0.N, ((grid0.coords t) 0).val = t.val / 8 := by decide +kernel
theorem coord1 : ∀ t : Fin grid0.N, ((grid0.coords t) 1).val = t.val % 8 := by decide +kernel

theorem idx_0 : ∀ t : Fin grid0.N, win0_0.index t = ![t.val / 8, t.val % 8, 0] := by decide +kernel
theorem idx_1 : ∀ t : Fin grid0.N, win0_1.index t = ![t.val / 8, t.val % 8, 0] := by decide +kernel
theorem idx_2 : ∀ t : Fin grid0.N, win0_2.index t = ![t.val / 8, 64 * (t.val % 8) - 1, 0] := by decide +kernel
theorem idx_3 : ∀ t : Fin grid0.N, win0_3.index t = ![t.val / 8, min (64 * (t.val % 8) + 64) 511, 0] := by decide +kernel
theorem idx_4 : ∀ t : Fin grid0.N, win0_4.index t = ![t.val % 8, 0] := by decide +kernel
theorem idx_5 : ∀ t : Fin grid0.N, win0_5.index t = ![t.val / 8, 0, 0] := by decide +kernel
theorem idx_6 : ∀ t : Fin grid0.N, win0_6.index t = ![t.val / 8, 0, 0] := by decide +kernel
theorem idx_7 : ∀ t : Fin grid0.N, win0_7.index t = ![t.val / 8, 0, 0] := by decide +kernel
theorem idx_8 : ∀ t : Fin grid0.N, win0_8.index t = ![t.val / 8, 0, 0] := by decide +kernel
theorem idx_9 : ∀ t : Fin grid0.N, win0_9.index t = ![0, 0] := by decide +kernel
theorem idx_10 : ∀ t : Fin grid0.N, win0_10.index t = ![0, 0] := by decide +kernel
theorem idx_11 : ∀ t : Fin grid0.N, win0_11.index t = ![0, 0] := by decide +kernel
theorem idx_12 : ∀ t : Fin grid0.N, win0_12.index t = ![0, 0] := by decide +kernel
theorem idx_13 : ∀ t : Fin grid0.N, win0_13.index t = ![0, 0] := by decide +kernel
theorem idx_14 : ∀ t : Fin grid0.N, win0_14.index t = ![0, 0] := by decide +kernel
theorem idx_15 : ∀ t : Fin grid0.N, win0_15.index t = ![0, 0] := by decide +kernel
theorem idx_16 : ∀ t : Fin grid0.N, win0_16.index t = ![0, 0] := by decide +kernel
theorem idx_17 : ∀ t : Fin grid0.N, win0_17.index t = ![min (t.val % 8) 3, t.val / 8] := by decide +kernel
theorem idx_18 : ∀ t : Fin grid0.N, win0_18.index t = ![min (7 - t.val % 8) 3, t.val / 8] := by decide +kernel
theorem idx_19 : ∀ t : Fin grid0.N, win0_19.index t = ![min ((8 - t.val % 8) * 64) 255, t.val / 8] := by decide +kernel
theorem idx_20 : ∀ t : Fin grid0.N, win0_20.index t = ![0, t.val / 8] := by decide +kernel
theorem idx_21 : ∀ t : Fin grid0.N, win0_21.index t = ![0, 0] := by decide +kernel
theorem idx_22 : ∀ t : Fin grid0.N, win0_22.index t = ![t.val, 0, 0] := by decide +kernel
theorem idx_23 : ∀ t : Fin grid0.N, win0_23.index t = ![t.val, 0, 0] := by decide +kernel
theorem idx_24 : ∀ t : Fin grid0.N, win0_24.index t = ![t.val / 8, t.val % 8, 0] := by decide +kernel

variable (m : (ℓ : Loc nD τ sig) → Buf (Elt Ideal) ℓ) (c : Dev nD) (t : Fin cfg0.N)

theorem lt_t : t.val < 128 := t.isLt

theorem blk_0 (r : Fin 512) (d : Fin 1024) : (iblk m c 0 t : Vec Ideal S1x512x1024 .f32) (ix3 (0 : Fin 1) r d)
    = (V m c main_arg0 : Vec Ideal S16x4096x1024 .f32) (ix3 (⟨t.val / 8, by have := lt_t t; omega⟩ : Fin 16) (⟨t.val % 8 * 512 + r.val, by omega⟩ : Fin 4096) d) := by
  blk_ext [iblk, idx_0 t]

theorem blk_1 (r : Fin 512) (d : Fin 1024) : (iblk m c 1 t : Vec Ideal S1x512x1024 .f32) (ix3 (0 : Fin 1) r d)
    = (V m c main_arg1 : Vec Ideal S16x4096x1024 .f32) (ix3 (⟨t.val / 8, by have := lt_t t; omega⟩ : Fin 16) (⟨t.val % 8 * 512 + r.val, by omega⟩ : Fin 4096) d) := by
  blk_ext [iblk, idx_1 t]

theorem blk_2 (r : Fin 8) (d : Fin 1024) : (iblk m c 2 t : Vec Ideal S1x8x1024 .f32) (ix3 (0 : Fin 1) r d)
    = (V m c main_arg1 : Vec Ideal S16x4096x1024 .f32) (ix3 (⟨t.val / 8, by have := lt_t t; omega⟩ : Fin 16) (⟨(64 * (t.val % 8) - 1) * 8 + r.val, by omega⟩ : Fin 4096) d) := by
  blk_ext [iblk, idx_2 t]

theorem blk_3 (r : Fin 8) (d : Fin 1024) : (iblk m c 3 t : Vec Ideal S1x8x1024 .f32) (ix3 (0 : Fin 1) r d)
    = (V m c main_arg1 : Vec Ideal S16x4096x1024 .f32) (ix3 (⟨t.val / 8, by have := lt_t t; omega⟩ : Fin 16) (⟨min (64 * (t.val % 8) + 64) 511 * 8 + r.val, by omega⟩ : Fin 4096) d) := by
  blk_ext [iblk, idx_3 t]

theorem blk_4 (r : Fin 512) (q : Fin 256) : (iblk m c 4 t : Vec Ideal S512x256 .f32) (ix2 r q)
    = (V m c main_v68 : Vec Ideal S4096x256 .f32) (ix2 (⟨t.val % 8 * 512 + r.val, by omega⟩ : Fin 4096) q) := by
  blk_ext [iblk, idx_4 t]

theorem blk_5 (d : Fin 1024) : (iblk m c 5 t : Vec Ideal S1x1x1024 .f32) (ix3 (0 : Fin 1) (0 : Fin 1) d)
    = (V m c main_v25 : Vec Ideal S16x1x1024 .f32) (ix3 (⟨t.val / 8, by have := lt_t t; omega⟩ : Fin 16) (0 : Fin 1) d) := by
  blk_ext [iblk, idx_5 t]

theorem blk_6 (d : Fin 1024) : (iblk m c 6 t : Vec Ideal S1x1x1024 .f32) (ix3 (0 : Fin 1) (0 : Fin 1) d)
    = (V m c main_v26 : Vec Ideal S16x1x1024 .f32) (ix3 (⟨t.val / 8, by have := lt_t t; omega⟩ : Fin 16) (0 : Fin 1) d) := by
  blk_ext [iblk, idx_6 t]

theorem blk_7 (d : Fin 1024) : (iblk m c 7 t : Vec Ideal S1x1x1024 .f32) (ix3 (0 : Fin 1) (0 : Fin 1) d)
    = (V m c main_v27 : Vec Ideal S16x1x1024 .f32) (ix3 (⟨t.val / 8, by have := lt_t t; omega⟩ : Fin 16) (0 : Fin 1) d) := by
  blk_ext [iblk, idx_7 t]

theorem blk_8 (d : Fin 1024) : (iblk m c 8 t : Vec Ideal S1x1x1024 .f32) (ix3 (0 : Fin 1) (0 : Fin 1) d)
    = (V m c main_v28 : Vec Ideal S16x1x1024 .f32) (ix3 (⟨t.val / 8, by have := lt_t t; omega⟩ : Fin 16) (0 : Fin 1) d) := by
  blk_ext [iblk, idx_8 t]

theorem blk_9 (k : Fin 3) (q : Fin 256) : (iblk m c 9 t : Vec Ideal S3x256 .f32) (ix2 k q) = (V m c main_arg8 : Vec Ideal S3x256 .f32) (ix2 k q) := by
  blk_ext [iblk, idx_9 t]

theorem blk_10 (k q : Fin 256) : (iblk m c 10 t : Vec Ideal S256x256 .bf16) (ix2 k q) = (V m c main_v29 : Vec Ideal S256x256 .bf16) (ix2 k q) := by
  blk_ext [iblk, idx_10 t]

theorem blk_11 (q : Fin 256) : (iblk m c 11 t : Vec Ideal S1x256 .f32) (ix2 (0 : Fin 1) q) = (V m c main_v30 : Vec Ideal S1x256 .f32) (ix2 (0 : Fin 1) q) := by
  blk_ext [iblk, idx_11 t]

theorem blk_12 (k d : Fin 1024) : (iblk m c 12 t : Vec Ideal S1024x1024 .bf16) (ix2 k d) = (V m c main_v31 : Vec Ideal S1024x1024 .bf16) (ix2 k d) := by
  blk_ext [iblk, idx_12 t]

theorem blk_13 (d : Fin 1024) : (iblk m c 13 t : Vec Ideal S1x1024 .f32) (ix2 (0 : Fin 1) d) = (V m c main_v32 : Vec Ideal S1x1024 .f32) (ix2 (0 : Fin 1) d) := by
  blk_ext [iblk, idx_13 t]

theorem blk_14 (k : Fin 1024) (j : Fin 4096) : (iblk m c 14 t : Vec Ideal S1024x4096 .bf16) (ix2 k j) = (V m c main_v33 : Vec Ideal S1024x4096 .bf16) (ix2 k j) := by
  blk_ext [iblk, idx_14 t]

theorem blk_15 (j : Fin 4096) (d : Fin 1024) : (iblk m c 15 t : Vec Ideal S4096x1024 .bf16) (ix2 j d) = (V m c main_v34 : Vec Ideal S4096x1024 .bf16) (ix2 j d) := by
  blk_ext [iblk, idx_15 t]

theorem blk_16 (d : Fin 1024) : (iblk m c 16 t : Vec Ideal S1x1024 .f32) (ix2 (0 : Fin 1) d) = (V m c main_v35 : Vec Ideal S1x1024 .f32) (ix2 (0 : Fin 1) d) := by
  blk_ext [iblk, idx_16 t]

theorem blk_17 (r : Fin 512) (q : Fin 256) : (iblk m c 17 t : Vec Ideal S512x256 .bf16) (ix2 r q)
    = (V m c main_v3 : Vec Ideal S2048x4096 .bf16) (ix2 (⟨min (t.val % 8) 3 * 512 + r.val, by omega⟩ : Fin 2048) (⟨t.val / 8 * 256 + q.val, by have := lt_t t; omega⟩ : Fin 4096)) := by
  blk_ext [iblk, idx_17 t]

theorem blk_18 (r : Fin 512) (q : Fin 256) : (iblk m c 18 t : Vec Ideal S512x256 .bf16) (ix2 r q)
    = (V m c main_v9 : Vec Ideal S2048x4096 .bf16) (ix2 (⟨min (7 - t.val % 8) 3 * 512 + r.val, by omega⟩ : Fin 2048) (⟨t.val / 8 * 256 + q.val, by have := lt_t t; omega⟩ : Fin 4096)) := by
  blk_ext [iblk, idx_18 t]

theorem blk_19 (r : Fin 8) (q : Fin 256) : (iblk m c 19 t : Vec Ideal S8x256 .bf16) (ix2 r q)
    = (V m c main_v9 : Vec Ideal S2048x4096 .bf16) (ix2 (⟨min ((8 - t.val % 8) * 64) 255 * 8 + r.val, by omega⟩ : Fin 2048) (⟨t.val / 8 * 256 + q.val, by have := lt_t t; omega⟩ : Fin 4096)) := by
  blk_ext [iblk, idx_19 t]

theorem blk_20 (r : Fin 8) (q : Fin 256) : (iblk m c 20 t : Vec Ideal S8x256 .bf16) (ix2 r q)
    = (V m c main_v5 : Vec Ideal S8x4096 .bf16) (ix2 r (⟨t.val / 8 * 256 + q.val, by have := lt_t t; omega⟩ : Fin 4096)) := by
  blk_ext [iblk, idx_20 t]

theorem blk_21 (r k : Fin 512) : (iblk m c 21 t : Vec Ideal S512x512 .bf16) (ix2 r k) = (V m c main_v44 : Vec Ideal S512x512 .bf16) (ix2 r k) := by
  blk_ext [iblk, idx_21 t]

theorem blk_22 (r q : Fin 256) : (iblk m c 22 t : Vec Ideal S1x256x256 .bf16) (ix3 (0 : Fin 1) r q)
    = (V m c main_v22 : Vec Ideal S128x256x256 .bf16) (ix3 (⟨t.val, lt_t t⟩ : Fin 128) r q) := by
  blk_ext [iblk, idx_22 t]

theorem blk_23 (r q : Fin 256) : (iblk m c 23 t : Vec Ideal S1x256x256 .bf16) (ix3 (0 : Fin 1) r q)
    = (V m c main_v24 : Vec Ideal S128x256x256 .bf16) (ix3 (⟨t.val, lt_t t⟩ : Fin 128) r q) := by
  blk_ext [iblk, idx_23 t]

end Cert.MixRun

end
-- ==== Proof.MixMath.lean ====
/- The tail's arithmetic: window sums built from shifted rows, means by an inverse count, sums against a
   block-diagonal matrix and against a reversing matrix. -/
module

public import proofs.«01_k».proof.Proof.MixArr
public import proofs.«01_k».proof.Proof.MixTile
public import proofs.«01_k».proof.Proof.MixPool

@[expose] public section

set_option maxRecDepth 16384
set_option maxHeartbeats 4000000

noncomputable section

namespace Cert.MixRun

open Cert.MixIdeal Cert.MixIdeal.Gen Idealize.ShloMosaic Idealize.ShloMosaic.TcCoe
open Idealize.SL.Sem

/-! ## Counts -/

/-- The count as a word. -/
def countWord (t h : BitVec 32) : BitVec 32 :=
  IntOp.addi (IntOp.subi (IntOp.minsi (IntOp.subi (IntOp.addi t h) 1#32) 4095#32) (IntOp.maxsi (IntOp.subi t h) 0#32)) 1#32

theorem countWord_ne : ∀ (t : Fin 4096) (g : Fin 4), (countWord (BitVec.ofNat 32 t.val) (halfOf g.val)).toInt ≠ 0 := by
  decide +kernel

/-- A sum times the inverse count is the sum over the count. -/
theorem mul_inverse (t : Fin 4096) (g : Fin 4) (x : EReal) :
    (x * Ideal.div 1 (countAt (BitVec.ofNat 32 t.val) (halfOf g.val)) : EReal) = Ideal.div x (countAt (BitVec.ofNat 32 t.val) (halfOf g.val)) := by
  have h : (((countWord (BitVec.ofNat 32 t.val) (halfOf g.val)).toInt : ℤ) : ℝ) ≠ 0 := by
    exact_mod_cast countWord_ne t g
  have e : countAt (BitVec.ofNat 32 t.val) (halfOf g.val) = ((((countWord (BitVec.ofNat 32 t.val) (halfOf g.val)).toInt : ℤ) : ℝ) : EReal) := rfl
  rw [e, Ideal.div_coe h, Ideal.div_coe h, one_mul]

/-! ## Window sums of a tile -/

variable (v : FVec Ideal S528x1024 .f32) (a : Fin 1024 → ℕ → EReal) (base : ℕ)

theorem tail_apply (e : Fin 528) (c : Fin 128) :
    k0_pay11 (F := Ideal) v (ix2 e c) = k0_pay8 (F := Ideal) v (ix2 e (⟨128 + c.val, by omega⟩ : Fin 256)) := by
  unfold k0_pay11
  generalize k0_pay8 (F := Ideal) v = y
  pointwise

theorem tile1 (hv : ∀ e d, v (ix2 e d) = a d (base + e.val)) (e : Fin 528) (c : Fin 256) :
    k0_pay8 (F := Ideal) v (ix2 e c) = a (⟨768 + c.val, by omega⟩ : Fin 1024) (base + e.val) := by
  rw [s1_apply, hv]

theorem tile2 (hv : ∀ e d, v (ix2 e d) = a d (base + e.val)) (e : Fin 528) (c : Fin 256) (j : ℕ) (hj : e.val = j + 1) :
    k0_pay9 (F := Ideal) v (ix2 e c) = run2 (a (⟨768 + c.val, by omega⟩ : Fin 1024)) (base + j) := by
  rw [s2_apply v e ⟨j, by omega⟩ c hj.symm, tile1 v a base hv, tile1 v a base hv, hj]
  rfl

theorem tile4 (hv : ∀ e d, v (ix2 e d) = a d (base + e.val)) (e : Fin 528) (c : Fin 256) (j : ℕ) (hj : e.val = j + 2) (hl : j < 525) :
    k0_pay10 (F := Ideal) v (ix2 e c) = run4 (a (⟨768 + c.val, by omega⟩ : Fin 1024)) (base + j) := by
  rw [s4_apply v e ⟨j + 1, by omega⟩ ⟨j + 3, by omega⟩ c (by dsimp only; omega) (by dsimp only; omega),
    tile2 v a base hv _ c j rfl, tile2 v a base hv _ c (j + 2) rfl]
  rfl

theorem tile8 (hv : ∀ e d, v (ix2 e d) = a d (base + e.val)) (e : Fin 528) (c : Fin 128) (j : ℕ) (hj : e.val = j + 4) (hl : j < 521) :
    sum8 (k0_pay10 (F := Ideal) v) (ix2 e c) = run8 (a (⟨768 + (128 + c.val), by omega⟩ : Fin 1024)) (base + j) := by
  rw [sum8_apply _ e ⟨j + 2, by omega⟩ ⟨j + 6, by omega⟩ c (by dsimp only; omega) (by dsimp only; omega),
    tile4 v a base hv _ _ j rfl (by omega), tile4 v a base hv _ _ (j + 4) rfl (by omega)]
  rfl

theorem tile16 (hv : ∀ e d, v (ix2 e d) = a d (base + e.val)) (e : Fin 528) (c : Fin 128) (j : ℕ) (hj : e.val = j + 8) (hl : j < 513) :
    sum16 (k0_pay10 (F := Ideal) v) (ix2 e c) = run16 (a (⟨768 + (128 + c.val), by omega⟩ : Fin 1024)) (base + j) := by
  rw [sum16_apply _ e ⟨j + 4, by omega⟩ ⟨j + 12, by omega⟩ c (by dsimp only; omega) (by dsimp only; omega),
    tile8 v a base hv _ _ j rfl (by omega), tile8 v a base hv _ _ (j + 8) rfl (by omega)]
  rfl

variable (x1 : FVec Ideal S16x4096x1024 .f32)

/-- The first 128 pooled columns of a tile's row. -/
theorem pinA_pooled (b : Fin 16) (hv : ∀ e d, v (ix2 e d) = column x1 b d (base + e.val)) (inv : Vec Ideal S512x256 .f32)
    (r : Fin 512) (t : Fin 4096) (ht : t.val = base + r.val)
    (hi : ∀ q : Fin 256, inv (ix2 r q) = Ideal.div 1 (countAt (BitVec.ofNat 32 t.val) (halfOf (q.val / 64)))) (c : Fin 128) :
    pinA k0_pay3 (k0_pay8 (F := Ideal) v) (k0_pay9 v) (k0_pay10 v) inv (ix2 r c) = pooled x1 b t (⟨c.val, by omega⟩ : Fin 256) := by
  have hm := mul_inverse t ⟨c.val / 64, by omega⟩
  dsimp only at hm
  rw [pinA_apply, lane_apply, hi, tile1 v _ base hv, tile2 v _ base hv _ _ (7 + r.val) (by dsimp only; omega),
    tile4 v _ base hv _ _ (6 + r.val) (by dsimp only; omega) (by omega)]
  have ec : column x1 b (⟨768 + c.val, by omega⟩ : Fin 1024) (base + (8 + r.val)) = x1 (ix3 b t (⟨768 + c.val, by omega⟩ : Fin 1024)) := by
    rw [show base + (8 + r.val) = t.val + 8 by omega]
    exact column_mid _ _ _ _
  dsimp only
  rw [ec, show base + (7 + r.val) = t.val + 7 by omega, show base + (6 + r.val) = t.val + 6 by omega]
  unfold pooled
  dsimp only
  refine congrArg₂ (fun y z => (y - z : EReal)) ((hm _).trans (congrArg (fun z => Ideal.div z _) ?_)) rfl
  unfold windowSum
  by_cases h : c.val < 64
  · rw [decide_eq_true h, if_pos (show c.val / 64 = 0 by omega)]
    rfl
  · rw [decide_eq_false h, if_neg (show ¬ c.val / 64 = 0 by omega), if_pos (show c.val / 64 = 1 by omega)]
    rfl

/-- The last 128 pooled columns of a tile's row. -/
theorem pinB_pooled (b : Fin 16) (hv : ∀ e d, v (ix2 e d) = column x1 b d (base + e.val)) (inv : Vec Ideal S512x256 .f32)
    (r : Fin 512) (t : Fin 4096) (ht : t.val = base + r.val)
    (hi : ∀ q : Fin 256, inv (ix2 r q) = Ideal.div 1 (countAt (BitVec.ofNat 32 t.val) (halfOf (q.val / 64)))) (c : Fin 128) :
    pinB k0_pay3 (k0_pay10 (F := Ideal) v) (k0_pay11 v) inv (ix2 r c) = pooled x1 b t (⟨128 + c.val, by omega⟩ : Fin 256) := by
  have hm := mul_inverse t ⟨(128 + c.val) / 64, by omega⟩
  dsimp only at hm
  rw [pinB_apply, lane_apply, hi, tail_apply, tile1 v _ base hv, tile8 v _ base hv _ _ (4 + r.val) (by dsimp only; omega) (by omega),
    tile16 v _ base hv _ _ r.val (by dsimp only; omega) (by omega)]
  have ec : column x1 b (⟨768 + (128 + c.val), by omega⟩ : Fin 1024) (base + (8 + r.val)) = x1 (ix3 b t (⟨768 + (128 + c.val), by omega⟩ : Fin 1024)) := by
    rw [show base + (8 + r.val) = t.val + 8 by omega]
    exact column_mid _ _ _ _
  dsimp only
  rw [ec, show base + (4 + r.val) = t.val + 4 by omega, show base + r.val = t.val by omega]
  unfold pooled
  dsimp only
  refine congrArg₂ (fun y z => (y - z : EReal)) ((hm _).trans (congrArg (fun z => Ideal.div z _) ?_)) rfl
  unfold windowSum
  by_cases h : c.val < 64
  · rw [decide_eq_true h, if_neg (show ¬ (128 + c.val) / 64 = 0 by omega), if_neg (show ¬ (128 + c.val) / 64 = 1 by omega), if_pos (show (128 + c.val) / 64 = 2 by omega)]
    rfl
  · rw [decide_eq_false h, if_neg (show ¬ (128 + c.val) / 64 = 0 by omega), if_neg (show ¬ (128 + c.val) / 64 = 1 by omega), if_neg (show ¬ (128 + c.val) / 64 = 2 by omega)]
    rfl

/-- The convolved columns of a tile's row. -/
theorem conv_tile (b : Fin 16) (hv : ∀ e d, v (ix2 e d) = column x1 b d (base + e.val)) (x8 : FVec Ideal S3x256 .f32) (w0 w1 w2 : Vec Ideal S1x256 .f32)
    (h0 : ∀ q, w0 (ix2 (0 : Fin 1) q) = x8 (ix2 (0 : Fin 3) q)) (h1 : ∀ q, w1 (ix2 (0 : Fin 1) q) = x8 (ix2 (1 : Fin 3) q))
    (h2 : ∀ q, w2 (ix2 (0 : Fin 1) q) = x8 (ix2 (2 : Fin 3) q)) (r : Fin 512) (t : Fin 4096) (ht : t.val = base + r.val) (q : Fin 256) :
    k0_pay7 (F := Ideal) v w0 w1 w2 (ix2 r q) = conv x1 x8 b q (t.val + 7) := by
  rw [conv_apply, h0, h1, h2]
  simp only [hv]
  rw [show base + (8 + r.val) = t.val + 7 + 1 by omega, show base + (7 + r.val) = t.val + 7 by omega, show base + (9 + r.val) = t.val + 7 + 2 by omega]
  rfl

/-! ## Sums -/

/-- A row against a block-diagonal matrix of four blocks. -/
theorem blocks_sum (P : Fin 256 → EReal) (w : Fin 64 → EReal) (g : Fin 4) :
    (∑ k : Fin 128, P ⟨k.val, by omega⟩ * (if k.val / 64 = g.val then w ⟨k.val % 64, by omega⟩ else 0))
      + (∑ k : Fin 128, P ⟨128 + k.val, by omega⟩ * (if (128 + k.val) / 64 = g.val then w ⟨(128 + k.val) % 64, by omega⟩ else 0))
      = ∑ k : Fin 64, P ⟨64 * g.val + k.val, by omega⟩ * w k := by
  have h : ∑ k : Fin (128 + 128), P k * (if k.val / 64 = g.val then w ⟨k.val % 64, by omega⟩ else 0)
      = ∑ k : Fin 64, P ⟨64 * g.val + k.val, by omega⟩ * w k := by
    rw [← Equiv.sum_comp (finProdFinEquiv (m := 4) (n := 64)) (fun k : Fin 256 => P k * (if k.val / 64 = g.val then w ⟨k.val % 64, by omega⟩ else 0)),
      Fintype.sum_prod_type, Finset.sum_eq_single g]
    · refine Finset.sum_congr rfl fun k _ => ?_
      have e : finProdFinEquiv (g, k) = (⟨64 * g.val + k.val, by omega⟩ : Fin 256) :=
        Fin.ext (show k.val + 64 * g.val = _ by dsimp only; omega)
      rw [e]
      dsimp only
      rw [if_pos (by omega)]
      exact congrArg (fun z => P ⟨64 * g.val + k.val, by omega⟩ * w z) (Fin.ext (by dsimp only; omega))
    · intro g' _ hg
      refine Finset.sum_eq_zero fun k _ => ?_
      have e : finProdFinEquiv (g', k) = (⟨64 * g'.val + k.val, by omega⟩ : Fin 256) :=
        Fin.ext (show k.val + 64 * g'.val = _ by dsimp only; omega)
      have hn : g'.val ≠ g.val := fun h => hg (Fin.ext h)
      rw [e]
      dsimp only
      rw [if_neg (by omega), mul_zero]
    · exact fun h => absurd (Finset.mem_univ _) h
  rw [← h, Fin.sum_univ_add]
  rfl

/-- A column against the reversing matrix. -/
theorem flip_sum (w : Fin 512 → EReal) (r : Fin 512) (hr : 1 ≤ r.val) :
    ∑ k : Fin 512, (if r.val + k.val = 512 then (1 : EReal) else 0) * w k = w ⟨512 - r.val, by omega⟩ := by
  rw [Finset.sum_eq_single (⟨512 - r.val, by omega⟩ : Fin 512)]
  · rw [if_pos (by dsimp only; omega), one_mul]
  · intro k _ hk
    have hn : k.val ≠ 512 - r.val := fun h => hk (Fin.ext h)
    rw [if_neg (by omega), zero_mul]
  · exact fun h => absurd (Finset.mem_univ _) h

end Cert.MixRun

end
-- ==== Proof.MixOut.lean ====
/- One row of a step's result, from the step's blocks. -/
module

public import proofs.«01_k».proof.Proof.MixMath
public import Idealize.ShloMosaic.Lib.Pipeline.ValueKit

@[expose] public section

set_option maxRecDepth 16384
set_option maxHeartbeats 4000000

noncomputable section

namespace Cert.MixRun

open Cert.MixIdeal Cert.MixIdeal.Gen Idealize.ShloMosaic Idealize.ShloMosaic.TcCoe
open Idealize.SL.Sem

/-! ## Loads of a part of a block -/

theorem ld5 (x : Vec Ideal S8x256 .bf16) (q : Fin 256) : View.ld x r0_5 (ix2 (0 : Fin 1) q) = x (ix2 (0 : Fin 8) q) :=
  View.ld_unit_apply_of (S := S8x256) x _ _ _ _ _ fun a => by revert a; simp [Fin.forall_fin_succ]
theorem ld6 (x : Vec Ideal S3x256 .f32) (q : Fin 256) : View.ld x r0_6 (ix2 (0 : Fin 1) q) = x (ix2 (0 : Fin 3) q) :=
  View.ld_unit_apply_of (S := S3x256) x _ _ _ _ _ fun a => by revert a; simp [Fin.forall_fin_succ]
theorem ld7 (x : Vec Ideal S3x256 .f32) (q : Fin 256) : View.ld x r0_7 (ix2 (0 : Fin 1) q) = x (ix2 (1 : Fin 3) q) :=
  View.ld_unit_apply_of (S := S3x256) x _ _ _ _ _ fun a => by revert a; simp [Fin.forall_fin_succ]
theorem ld8 (x : Vec Ideal S3x256 .f32) (q : Fin 256) : View.ld x r0_8 (ix2 (0 : Fin 1) q) = x (ix2 (2 : Fin 3) q) :=
  View.ld_unit_apply_of (S := S3x256) x _ _ _ _ _ fun a => by revert a; simp [Fin.forall_fin_succ]
theorem ld14 (x : Vec Ideal S1024x4096 .bf16) (k : Fin 1024) (j : Fin 2048) : View.ld x r0_14 (ix2 k j) = x (ix2 k (⟨j.val, by omega⟩ : Fin 4096)) :=
  View.ld_unit_apply_of (S := S1024x4096) x _ _ _ _ _ fun a => by revert a; simp [Fin.forall_fin_succ]
theorem ld15 (x : Vec Ideal S4096x1024 .bf16) (j : Fin 2048) (d : Fin 1024) : View.ld x r0_15 (ix2 j d) = x (ix2 (⟨j.val, by omega⟩ : Fin 4096) d) :=
  View.ld_unit_apply_of (S := S4096x1024) x _ _ _ _ _ fun a => by revert a; simp [Fin.forall_fin_succ]
theorem ld16 (x : Vec Ideal S1024x4096 .bf16) (k : Fin 1024) (j : Fin 2048) : View.ld x r0_16 (ix2 k j) = x (ix2 k (⟨2048 + j.val, by omega⟩ : Fin 4096)) :=
  View.ld_unit_apply_of (S := S1024x4096) x _ _ _ _ _ fun a => by revert a; simp [Fin.forall_fin_succ]
theorem ld17 (x : Vec Ideal S4096x1024 .bf16) (j : Fin 2048) (d : Fin 1024) : View.ld x r0_17 (ix2 j d) = x (ix2 (⟨2048 + j.val, by omega⟩ : Fin 4096) d) :=
  View.ld_unit_apply_of (S := S4096x1024) x _ _ _ _ _ fun a => by revert a; simp [Fin.forall_fin_succ]

theorem hz2 : (![0, 0] : Fin 2 → ℕ) = fun _ => 0 := by decide
theorem hz3 : (![0, 0, 0] : Fin 3 → ℕ) = fun _ => 0 := by decide

/-! ## The small operands -/

theorem pay13_apply (x : Vec Ideal S1x512x1024 .f32) (r : Fin 512) (d : Fin 1024) : k0_pay13 (F := Ideal) x (ix2 r d) = x (ix3 (0 : Fin 1) r d) := by
  unfold k0_pay13
  pointwise
theorem pay14_apply (x : Vec Ideal S1x1x1024 .f32) (d : Fin 1024) : k0_pay14 (F := Ideal) x (ix2 (0 : Fin 1) d) = x (ix3 (0 : Fin 1) (0 : Fin 1) d) := by
  unfold k0_pay14
  pointwise
theorem pay15_apply (x : Vec Ideal S1024x1024 .bf16) (k d : Fin 1024) : k0_pay15 (F := Ideal) x (ix2 k d) = x (ix2 k d) := by
  unfold k0_pay15
  pointwise

/-! ## The step's value -/

variable (i : grid0.Coords) (x0 x1 : Vec Ideal S1x512x1024 .f32) (x2 x3 : Vec Ideal S1x8x1024 .f32) (x4 : Vec Ideal S512x256 .f32)
  (x5 x6 x7 x8 : Vec Ideal S1x1x1024 .f32) (x9 : Vec Ideal S3x256 .f32) (x10 : Vec Ideal S256x256 .bf16) (x11 : Vec Ideal S1x256 .f32)
  (x12 : Vec Ideal S1024x1024 .bf16) (x13 : Vec Ideal S1x1024 .f32) (x14 : Vec Ideal S1024x4096 .bf16) (x15 : Vec Ideal S4096x1024 .bf16)
  (x16 : Vec Ideal S1x1024 .f32) (x17 x18 : Vec Ideal S512x256 .bf16) (x19 x20 : Vec Ideal S8x256 .bf16) (x21 : Vec Ideal S512x512 .bf16)
  (x22 x23 : Vec Ideal S1x256x256 .bf16)

/-- A step's joined rows. -/
def joinedOf : FVec Ideal S512x1024 .bf16 :=
  k0_pay12 (F := Ideal) k0_pay3 (k0_pay4 x22 x23)
    (k0_pay6 (BitVec.ofNat 32 (i 1).val) (k0_pay5 x21 x18) (Scalar.cmpi .eq (Scalar.muli 2#32 (BitVec.ofNat 32 (i 1).val)) 8#32) (View.ld x20 r0_5) (View.ld x19 r0_5) x17)
    (k0_pay7 (k0_pay2 i x2 x3 x1) (View.ld x9 r0_6) (View.ld x9 r0_7) (View.ld x9 r0_8))
    (k0_pay8 (k0_pay2 i x2 x3 x1)) (k0_pay9 (k0_pay2 i x2 x3 x1)) (k0_pay10 (k0_pay2 i x2 x3 x1)) (k0_pay11 (k0_pay2 i x2 x3 x1)) x4 x10 x11

theorem joined_blocks : k0_pay20 (F := Ideal) i x0 x1 x2 x3 x4 x5 x6 x7 x8 x9 x10 x11 x12 x13 x14 x15 x16 x17 x18 x19 x20 x21 x22 x23
    = joinedOf i x1 x2 x3 x4 x9 x10 x11 x17 x18 x19 x20 x21 x22 x23 := by
  unfold k0_pay20 k0_pay19 joinedOf
  rw [View.ld_unit_zero (S := S1x8x1024) hz3 _ x2, View.ld_unit_zero (S := S1x8x1024) hz3 _ x3, View.ld_unit_zero (S := S1x512x1024) hz3 _ x1,
    View.ld_unit_zero (S := S1x256x256) hz3 _ x22, View.ld_unit_zero (S := S1x256x256) hz3 _ x23, View.ld_unit_zero (S := S512x512) hz2 _ x21,
    View.ld_unit_zero (S := S512x256) hz2 _ x18, View.ld_unit_zero (S := S512x256) hz2 _ x17, View.ld_unit_zero (S := S512x256) hz2 _ x4,
    View.ld_unit_zero (S := S256x256) hz2 _ x10, View.ld_unit_zero (S := S1x256) hz2 _ x11]

theorem out_row (r : Fin 512) (d : Fin 1024) :
    out0_24 (F := Ideal) i x0 x1 x2 x3 x4 x5 x6 x7 x8 x9 x10 x11 x12 x13 x14 x15 x16 x17 x18 x19 x20 x21 x22 x23 (ix3 (0 : Fin 1) r d)
      = rowOut (fun d => joinedOf i x1 x2 x3 x4 x9 x10 x11 x17 x18 x19 x20 x21 x22 x23 (ix2 r d)) (fun d => x0 (ix3 (0 : Fin 1) r d))
          (fun d => x5 (ix3 (0 : Fin 1) (0 : Fin 1) d)) (fun d => x6 (ix3 (0 : Fin 1) (0 : Fin 1) d)) (fun d => x7 (ix3 (0 : Fin 1) (0 : Fin 1) d))
          (fun d => x8 (ix3 (0 : Fin 1) (0 : Fin 1) d)) (fun d => x13 (ix2 (0 : Fin 1) d)) (fun d => x16 (ix2 (0 : Fin 1) d))
          (fun k d => x12 (ix2 k d)) (fun k j => x14 (ix2 k j)) (fun j d => x15 (ix2 j d)) d := by
  unfold out0_24
  rw [View.canon_unit_zero (S := S1x512x1024) hz3, joined_blocks]
  unfold k0_pay21 k0_pay22 k0_pay23
  rw [View.ld_unit_zero (S := S1x512x1024) hz3 _ x0, View.ld_unit_zero (S := S1x1x1024) hz3 _ x5, View.ld_unit_zero (S := S1x1x1024) hz3 _ x6,
    View.ld_unit_zero (S := S1x1x1024) hz3 _ x7, View.ld_unit_zero (S := S1x1x1024) hz3 _ x8, View.ld_unit_zero (S := S1024x1024) hz2 _ x12,
    View.ld_unit_zero (S := S1x1024) hz2 _ x13, View.ld_unit_zero (S := S1x1024) hz2 _ x16,
    tile_apply _ _ _ _ _ _ _ _ _ _ _ _ _ (fun k j => x14 (ix2 k j)) (fun j d => x15 (ix2 j d)) (ld14 x14) (ld16 x14) (ld15 x15) (ld17 x15)]
  simp only [pay13_apply, pay14_apply, pay15_apply]

end Cert.MixRun

end
-- ==== Proof.MixJoin.lean ====
/- The joined row of a step is the reference's. -/
module

public import proofs.«01_k».proof.Proof.MixOut
public import Idealize.ShloMosaic.Lib.Pipeline.ValueKit

@[expose] public section

set_option maxRecDepth 16384
set_option maxHeartbeats 4000000

noncomputable section

namespace Cert.MixRun

open Cert.MixIdeal Cert.MixIdeal.Gen Idealize.ShloMosaic Idealize.ShloMosaic.TcCoe
open Idealize.SL.Sem

variable (i : grid0.Coords) (x0 x1 : Vec Ideal S1x512x1024 .f32) (x2 x3 : Vec Ideal S1x8x1024 .f32) (x4 : Vec Ideal S512x256 .f32)
  (x5 x6 x7 x8 : Vec Ideal S1x1x1024 .f32) (x9 : Vec Ideal S3x256 .f32) (x10 : Vec Ideal S256x256 .bf16) (x11 : Vec Ideal S1x256 .f32)
  (x12 : Vec Ideal S1024x1024 .bf16) (x13 : Vec Ideal S1x1024 .f32) (x14 : Vec Ideal S1024x4096 .bf16) (x15 : Vec Ideal S4096x1024 .bf16)
  (x16 : Vec Ideal S1x1024 .f32) (x17 x18 : Vec Ideal S512x256 .bf16) (x19 x20 : Vec Ideal S8x256 .bf16) (x21 : Vec Ideal S512x512 .bf16)
  (x22 x23 : Vec Ideal S1x256x256 .bf16)

variable (A1 : FVec Ideal S16x4096x1024 .f32) (A2 A3 : FVec Ideal S16x4096x256 .f32) (A8 : FVec Ideal S3x256 .f32) (A9 : FVec Ideal S4x64x64 .f32)
  (A10 : FVec Ideal S256 .f32) (b : Fin 16) (n : Fin 8) (r : Fin 512) (t : Fin 4096)

/-- A tile's rows with their neighbours are the batch's rows, zero beyond the ends. -/
theorem ext_column (hn : (i 1).val = n.val)
    (h1 : ∀ (e : Fin 512) (d : Fin 1024), x1 (ix3 (0 : Fin 1) e d) = A1 (ix3 b (⟨n.val * 512 + e.val, by omega⟩ : Fin 4096) d))
    (h2 : ∀ (e : Fin 8) (d : Fin 1024), x2 (ix3 (0 : Fin 1) e d) = A1 (ix3 b (⟨(64 * n.val - 1) * 8 + e.val, by omega⟩ : Fin 4096) d))
    (h3 : ∀ (e : Fin 8) (d : Fin 1024), x3 (ix3 (0 : Fin 1) e d) = A1 (ix3 b (⟨min (64 * n.val + 64) 511 * 8 + e.val, by omega⟩ : Fin 4096) d))
    (e : Fin 528) (d : Fin 1024) : k0_pay2 (F := Ideal) i x2 x3 x1 (ix2 e d) = column A1 b d (n.val * 512 + e.val) := by
  have hl := e.isLt
  have hn8 := n.isLt
  rw [ext_apply, hn]
  unfold column
  by_cases he : e.val < 8
  · rw [dif_pos he]
    by_cases hz : n.val = 0
    · rw [if_pos hz, dif_neg (by omega)]
    · rw [if_neg hz, dif_pos (by omega), h2]
      exact congrArg (fun z => A1 (ix3 b z d)) (Fin.ext (by dsimp only; omega))
  rw [dif_neg he]
  by_cases he2 : e.val < 520
  · rw [dif_pos he2, dif_pos (by omega), h1]
    exact congrArg (fun z => A1 (ix3 b z d)) (Fin.ext (by dsimp only; omega))
  rw [dif_neg he2]
  by_cases hz : n.val = 7
  · rw [if_pos hz, dif_neg (by omega)]
  · rw [if_neg hz, dif_pos (by omega), h3]
    exact congrArg (fun z => A1 (ix3 b z d)) (Fin.ext (by dsimp only; omega))

/-- The Fourier mixer's columns of a tile's row. -/
theorem fourier_row (ht : t.val = n.val * 512 + r.val)
    (h17 : n.val < 4 → ∀ q, x17 (ix2 r q) = A2 (ix3 b t q))
    (h18 : 4 ≤ n.val → ∀ (k : Fin 512) (_ : 1 ≤ k.val), ∀ q, x18 (ix2 k q) = A2 (ix3 b (⟨4096 - min (7 - n.val) 3 * 512 - k.val, by omega⟩ : Fin 4096) q))
    (h19 : 4 < n.val → ∀ q, x19 (ix2 (0 : Fin 8) q) = A2 (ix3 b (⟨n.val * 512, by omega⟩ : Fin 4096) q))
    (h20 : ∀ q, x20 (ix2 (0 : Fin 8) q) = A2 (ix3 b (⟨2048, by omega⟩ : Fin 4096) q))
    (h21 : ∀ k : Fin 512, x21 (ix2 r k) = if r.val + k.val = 512 then (1 : EReal) else 0) (q : Fin 256) :
    k0_pay6 (F := Ideal) (BitVec.ofNat 32 n.val) (k0_pay5 x21 x18) (Scalar.cmpi .eq (Scalar.muli 2#32 (BitVec.ofNat 32 n.val)) 8#32) (View.ld x20 r0_5) (View.ld x19 r0_5) x17 (ix2 r q)
      = A2 (ix3 b t q) := by
  rw [fourier_apply]
  have hr := r.isLt
  by_cases h4 : 4 ≤ n.val
  · rw [if_pos h4]
    by_cases h0 : r.val = 0
    · rw [if_pos h0]
      by_cases he : n.val = 4
      · rw [if_pos he, ld5, h20]
        exact congrArg (fun z => A2 (ix3 b z q)) (Fin.ext (by dsimp only; omega))
      · rw [if_neg he, ld5, h19 (by omega)]
        exact congrArg (fun z => A2 (ix3 b z q)) (Fin.ext (by dsimp only; omega))
    · rw [if_neg h0, flip_apply]
      simp only [h21]
      rw [flip_sum (fun k => x18 (ix2 k q)) r (by omega), h18 h4 _ (by dsimp only; omega)]
      exact congrArg (fun z => A2 (ix3 b z q)) (Fin.ext (by dsimp only; omega))
  · rw [if_neg h4, h17 (by omega)]

end Cert.MixRun

end
-- ==== Proof.MixRow.lean ====
/- A step's joined row is the reference's. -/
module

public import proofs.«01_k».proof.Proof.MixJoin
public import Idealize.ShloMosaic.Lib.Pipeline.ValueKit

@[expose] public section

set_option maxRecDepth 16384
set_option maxHeartbeats 4000000

noncomputable section

namespace Cert.MixRun

open Cert.MixIdeal Cert.MixIdeal.Gen Idealize.ShloMosaic Idealize.ShloMosaic.TcCoe
open Idealize.SL.Sem

variable (i : grid0.Coords) (x0 x1 : Vec Ideal S1x512x1024 .f32) (x2 x3 : Vec Ideal S1x8x1024 .f32) (x4 : Vec Ideal S512x256 .f32)
  (x5 x6 x7 x8 : Vec Ideal S1x1x1024 .f32) (x9 : Vec Ideal S3x256 .f32) (x10 : Vec Ideal S256x256 .bf16) (x11 : Vec Ideal S1x256 .f32)
  (x12 : Vec Ideal S1024x1024 .bf16) (x13 : Vec Ideal S1x1024 .f32) (x14 : Vec Ideal S1024x4096 .bf16) (x15 : Vec Ideal S4096x1024 .bf16)
  (x16 : Vec Ideal S1x1024 .f32) (x17 x18 : Vec Ideal S512x256 .bf16) (x19 x20 : Vec Ideal S8x256 .bf16) (x21 : Vec Ideal S512x512 .bf16)
  (x22 x23 : Vec Ideal S1x256x256 .bf16)

variable (A1 : FVec Ideal S16x4096x1024 .f32) (A2 A3 : FVec Ideal S16x4096x256 .f32) (A8 : FVec Ideal S3x256 .f32) (A9 : FVec Ideal S4x64x64 .f32)
  (A10 : FVec Ideal S256 .f32) (b : Fin 16) (n : Fin 8) (r : Fin 512) (t : Fin 4096)

/-- The joined row of a tile is the reference's. -/
theorem joined_row (hn : (i 1).val = n.val) (ht : t.val = n.val * 512 + r.val)
    (h1 : ∀ (e : Fin 512) (d : Fin 1024), x1 (ix3 (0 : Fin 1) e d) = A1 (ix3 b (⟨n.val * 512 + e.val, by omega⟩ : Fin 4096) d))
    (h2 : ∀ (e : Fin 8) (d : Fin 1024), x2 (ix3 (0 : Fin 1) e d) = A1 (ix3 b (⟨(64 * n.val - 1) * 8 + e.val, by omega⟩ : Fin 4096) d))
    (h3 : ∀ (e : Fin 8) (d : Fin 1024), x3 (ix3 (0 : Fin 1) e d) = A1 (ix3 b (⟨min (64 * n.val + 64) 511 * 8 + e.val, by omega⟩ : Fin 4096) d))
    (h4 : ∀ q : Fin 256, x4 (ix2 r q) = Ideal.div 1 (countAt (BitVec.ofNat 32 t.val) (halfOf (q.val / 64))))
    (h9 : ∀ k q, x9 (ix2 k q) = A8 (ix2 k q))
    (h10 : ∀ k q : Fin 256, x10 (ix2 k q) = if k.val / 64 = q.val / 64 then A9 (ix3 (⟨k.val / 64, by omega⟩ : Fin 4) (⟨k.val % 64, by omega⟩ : Fin 64) (⟨q.val % 64, by omega⟩ : Fin 64)) else (0 : EReal))
    (h11 : ∀ q, x11 (ix2 (0 : Fin 1) q) = A10 (ix1 q))
    (h17 : n.val < 4 → ∀ q, x17 (ix2 r q) = A2 (ix3 b t q))
    (h18 : 4 ≤ n.val → ∀ (k : Fin 512) (_ : 1 ≤ k.val), ∀ q, x18 (ix2 k q) = A2 (ix3 b (⟨4096 - min (7 - n.val) 3 * 512 - k.val, by omega⟩ : Fin 4096) q))
    (h19 : 4 < n.val → ∀ q, x19 (ix2 (0 : Fin 8) q) = A2 (ix3 b (⟨n.val * 512, by omega⟩ : Fin 4096) q))
    (h20 : ∀ q, x20 (ix2 (0 : Fin 8) q) = A2 (ix3 b (⟨2048, by omega⟩ : Fin 4096) q))
    (h21 : ∀ k : Fin 512, x21 (ix2 r k) = if r.val + k.val = 512 then (1 : EReal) else 0)
    (h22 : ∀ (h : r.val < 256) q, x22 (ix3 (0 : Fin 1) (⟨r.val, h⟩ : Fin 256) q) = A3 (ix3 b t q))
    (h23 : ∀ (h : ¬ r.val < 256) q, x23 (ix3 (0 : Fin 1) (⟨r.val - 256, by omega⟩ : Fin 256) q) = A3 (ix3 b t q)) (d : Fin 1024) :
    joinedOf i x1 x2 x3 x4 x9 x10 x11 x17 x18 x19 x20 x21 x22 x23 (ix2 r d)
      = Cert.MixReferenceIdeal.Read.val_main_v191 (F := Ideal) A1 A2 A3 A8 A9 A10 (ix3 b t d) := by
  have hv := ext_column i x1 x2 x3 A1 b n hn h1 h2 h3
  rw [ref_joined]
  unfold joinedOf
  rw [joined_eq, joined_apply, hn]
  by_cases hd : d.val < 256
  · rw [dif_pos hd, dif_pos hd]
    exact fourier_row x17 x18 x19 x20 x21 A2 b n r t ht h17 h18 h19 h20 h21 _
  rw [dif_neg hd, dif_neg hd]
  by_cases hd1 : d.val < 512
  · rw [dif_pos hd1, dif_pos hd1, ref_conv]
    exact conv_tile _ _ A1 b hv A8 _ _ _ (fun q => (ld6 x9 q).trans (h9 _ _)) (fun q => (ld7 x9 q).trans (h9 _ _)) (fun q => (ld8 x9 q).trans (h9 _ _)) r t ht _
  rw [dif_neg hd1, dif_neg hd1]
  by_cases hd2 : d.val < 768
  · rw [dif_pos hd2, dif_pos hd2, ref_mixed, h11]
    simp only [pinA_pooled _ _ A1 b hv x4 r t ht h4, pinB_pooled _ _ A1 b hv x4 r t ht h4, h10]
    refine congrArg (fun z : EReal => (z * A10 (ix1 (⟨d.val - 512, by omega⟩ : Fin 256)) : EReal)) ?_
    refine Eq.trans (Eq.trans ?_ (blocks_sum (fun k => pooled A1 b t k) (fun k => A9 (ix3 (⟨(d.val - 512) / 64, by omega⟩ : Fin 4) k (⟨(d.val - 512) % 64, by omega⟩ : Fin 64))) (⟨(d.val - 512) / 64, by omega⟩ : Fin 4))) rfl
    refine congrArg₂ (fun y z : EReal => y + z) (Finset.sum_congr rfl fun k _ => ?_) (Finset.sum_congr rfl fun k _ => ?_)
    all_goals
      dsimp only
      split_ifs with hk
      · simp only [hk]
      · rfl
  · rw [dif_neg hd2, dif_neg hd2, att_apply]
    by_cases hr : r.val < 256
    · rw [dif_pos hr, h22 hr]
    · rw [dif_neg hr, h23 hr]

end Cert.MixRun

end
-- ==== Proof.MixAt.lean ====
/- The blocks of each step in terms of the call's arguments. -/
module

public import proofs.«01_k».proof.Proof.MixBlk
public import proofs.«01_k».proof.Proof.MixRow

@[expose] public section

set_option maxRecDepth 16384
set_option maxHeartbeats 1000000

noncomputable section

namespace Cert.MixRun

open Cert.MixIdeal Cert.MixIdeal.Gen Idealize.ShloMosaic Idealize.ShloMosaic.TcCoe
open Idealize.SL.Sem
open Idealize.ShloMosaic.Pipeline (Dat)

variable (m : (ℓ : Loc nD τ sig) → Buf (Elt Ideal) ℓ) (c : Dev nD)

/-- The reference's result on the arguments as they stand. -/
def target : FVec Ideal S16x4096x1024 .f32 :=
  Cert.MixReferenceIdeal.Read.val_main_v238 (F := Ideal) (m (c, Proc.tc.devRef main_arg0)) (m (c, Proc.tc.devRef main_arg1))
    (m (c, Proc.tc.devRef main_arg2)) (m (c, Proc.tc.devRef main_arg3)) (m (c, Proc.tc.devRef main_arg4)) (m (c, Proc.tc.devRef main_arg5))
    (m (c, Proc.tc.devRef main_arg6)) (m (c, Proc.tc.devRef main_arg7)) (m (c, Proc.tc.devRef main_arg8)) (m (c, Proc.tc.devRef main_arg9))
    (m (c, Proc.tc.devRef main_arg10)) (m (c, Proc.tc.devRef main_arg11)) (m (c, Proc.tc.devRef main_arg12)) (m (c, Proc.tc.devRef main_arg13))
    (m (c, Proc.tc.devRef main_arg14)) (m (c, Proc.tc.devRef main_arg15))

variable (t : Fin cfg0.N)

/-- A step's batch. -/
def batchOf : Fin 16 := ⟨t.val / 8, by have := lt_t t; omega⟩
/-- A step's tile of the batch. -/
def tileOf : Fin 8 := ⟨t.val % 8, by omega⟩
/-- A tile's row in its batch. -/
def rowAt (r : Fin 512) : Fin 4096 := ⟨t.val % 8 * 512 + r.val, by omega⟩

theorem at_inverse (r : Fin 512) (q : Fin 256) : (iblk m c 4 t : Vec Ideal S512x256 .f32) (ix2 r q)
    = Ideal.div 1 (countAt (BitVec.ofNat 32 (rowAt t r).val) (halfOf (q.val / 64))) := by
  refine (blk_4 m c t r q).trans ((congrFun (V_inverse m c) _).trans ((inverse_apply halves (rowAt t r) q).trans ?_))
  rw [halves_apply]

theorem at_diagonal (k q : Fin 256) : (iblk m c 10 t : Vec Ideal S256x256 .bf16) (ix2 k q)
    = if k.val / 64 = q.val / 64 then (m (c, Proc.tc.devRef main_arg9) : FVec Ideal S4x64x64 .f32) (ix3 (⟨k.val / 64, by omega⟩ : Fin 4) (⟨k.val % 64, by omega⟩ : Fin 64) (⟨q.val % 64, by omega⟩ : Fin 64)) else (0 : EReal) :=
  (blk_10 m c t k q).trans ((congrFun (V_diagonal m c) _).trans (diagonal_apply _ k q))

theorem at_direct (h : t.val % 8 < 4) (r : Fin 512) (q : Fin 256) : (iblk m c 17 t : Vec Ideal S512x256 .bf16) (ix2 r q)
    = (m (c, Proc.tc.devRef main_arg2) : FVec Ideal S16x4096x256 .f32) (ix3 (batchOf t) (⟨t.val % 8 * 512 + r.val, by omega⟩ : Fin 4096) q) := by
  refine (blk_17 m c t r q).trans ((congrFun (V_direct m c) _).trans ((direct_apply _ _ _).trans ((side_apply _ _ _).trans ?_)))
  have e1 : (⟨(t.val / 8 * 256 + q.val) / 256, by have := lt_t t; omega⟩ : Fin 16) = batchOf t := Fin.ext (by unfold batchOf; dsimp only; omega)
  have e2 : (⟨min (t.val % 8) 3 * 512 + r.val, by omega⟩ : Fin 4096) = (⟨t.val % 8 * 512 + r.val, by omega⟩ : Fin 4096) := Fin.ext (by dsimp only; omega)
  have e3 : (⟨(t.val / 8 * 256 + q.val) % 256, by omega⟩ : Fin 256) = q := Fin.ext (by dsimp only; omega)
  dsimp only
  rw [e1, e2, e3]

theorem at_mirrored (k : Fin 512) (hk : 1 ≤ k.val) (q : Fin 256) : (iblk m c 18 t : Vec Ideal S512x256 .bf16) (ix2 k q)
    = (m (c, Proc.tc.devRef main_arg2) : FVec Ideal S16x4096x256 .f32) (ix3 (batchOf t) (⟨4096 - min (7 - t.val % 8) 3 * 512 - k.val, by omega⟩ : Fin 4096) q) := by
  refine (blk_18 m c t k q).trans ((congrFun (V_mirrored m c) _).trans ((mirrored_apply _ _ (by dsimp only; omega) _).trans ((side_apply _ _ _).trans ?_)))
  have e1 : (⟨(t.val / 8 * 256 + q.val) / 256, by have := lt_t t; omega⟩ : Fin 16) = batchOf t := Fin.ext (by unfold batchOf; dsimp only; omega)
  have e2 : (⟨4096 - (min (7 - t.val % 8) 3 * 512 + k.val), by omega⟩ : Fin 4096) = (⟨4096 - min (7 - t.val % 8) 3 * 512 - k.val, by omega⟩ : Fin 4096) := Fin.ext (by dsimp only; omega)
  have e3 : (⟨(t.val / 8 * 256 + q.val) % 256, by omega⟩ : Fin 256) = q := Fin.ext (by dsimp only; omega)
  dsimp only
  rw [e1, e2, e3]

theorem at_first (h : 4 < t.val % 8) (q : Fin 256) : (iblk m c 19 t : Vec Ideal S8x256 .bf16) (ix2 (0 : Fin 8) q)
    = (m (c, Proc.tc.devRef main_arg2) : FVec Ideal S16x4096x256 .f32) (ix3 (batchOf t) (⟨t.val % 8 * 512, by omega⟩ : Fin 4096) q) := by
  refine (blk_19 m c t 0 q).trans ((congrFun (V_mirrored m c) _).trans ((mirrored_apply _ _ (by simp only [Fin.val_zero]; omega) _).trans ((side_apply _ _ _).trans ?_)))
  have e1 : (⟨(t.val / 8 * 256 + q.val) / 256, by have := lt_t t; omega⟩ : Fin 16) = batchOf t := Fin.ext (by unfold batchOf; dsimp only; omega)
  have e2 : (⟨4096 - (min ((8 - t.val % 8) * 64) 255 * 8 + (0 : Fin 8).val), by simp only [Fin.val_zero]; omega⟩ : Fin 4096) = (⟨t.val % 8 * 512, by omega⟩ : Fin 4096) :=
    Fin.ext (by simp only [Fin.val_zero]; omega)
  have e3 : (⟨(t.val / 8 * 256 + q.val) % 256, by omega⟩ : Fin 256) = q := Fin.ext (by dsimp only; omega)
  dsimp only
  rw [e1, e2, e3]

theorem at_middle (q : Fin 256) : (iblk m c 20 t : Vec Ideal S8x256 .bf16) (ix2 (0 : Fin 8) q)
    = (m (c, Proc.tc.devRef main_arg2) : FVec Ideal S16x4096x256 .f32) (ix3 (batchOf t) (⟨2048, by omega⟩ : Fin 4096) q) := by
  refine (blk_20 m c t 0 q).trans ((congrFun (V_middle m c) _).trans ((middle_apply _ _ _).trans ((side_apply _ _ _).trans ?_)))
  have e1 : (⟨(t.val / 8 * 256 + q.val) / 256, by have := lt_t t; omega⟩ : Fin 16) = batchOf t := Fin.ext (by unfold batchOf; dsimp only; omega)
  have e3 : (⟨(t.val / 8 * 256 + q.val) % 256, by omega⟩ : Fin 256) = q := Fin.ext (by dsimp only; omega)
  dsimp only
  rw [e1, e3]

theorem at_flip (r k : Fin 512) : (iblk m c 21 t : Vec Ideal S512x512 .bf16) (ix2 r k) = if r.val + k.val = 512 then (1 : EReal) else 0 :=
  (blk_21 m c t r k).trans ((congrFun (V_flip m c) _).trans (flipMat_apply r k))

theorem at_even (r : Fin 512) (h : r.val < 256) (q : Fin 256) : (iblk m c 22 t : Vec Ideal S1x256x256 .bf16) (ix3 (0 : Fin 1) (⟨r.val, h⟩ : Fin 256) q)
    = (m (c, Proc.tc.devRef main_arg3) : FVec Ideal S16x4096x256 .f32) (ix3 (batchOf t) (⟨t.val % 8 * 512 + r.val, by omega⟩ : Fin 4096) q) :=
  (blk_22 m c t _ q).trans ((congrFun (V_even m c) _).trans (even_tile _ _ _ q))

theorem at_odd (r : Fin 512) (h : ¬ r.val < 256) (q : Fin 256) : (iblk m c 23 t : Vec Ideal S1x256x256 .bf16) (ix3 (0 : Fin 1) (⟨r.val - 256, by omega⟩ : Fin 256) q)
    = (m (c, Proc.tc.devRef main_arg3) : FVec Ideal S16x4096x256 .f32) (ix3 (batchOf t) (⟨t.val % 8 * 512 + r.val, by omega⟩ : Fin 4096) q) := by
  refine (blk_23 m c t _ q).trans ((congrFun (V_odd m c) _).trans ((odd_tile _ _ _ q).trans ?_))
  have e2 : (⟨t.val % 8 * 512 + 256 + (r.val - 256), by omega⟩ : Fin 4096) = (⟨t.val % 8 * 512 + r.val, by omega⟩ : Fin 4096) := Fin.ext (by dsimp only; omega)
  dsimp only
  rw [e2]
  rfl

end Cert.MixRun

end
-- ==== Proof.MixEqual.lean ====
/- What the layer's tail leaves in its result is the reference's result. -/
module

public import proofs.«01_k».proof.Proof.MixAt
public import proofs.«01_k».proof.Proof.MixRow

@[expose] public section

set_option maxRecDepth 16384
set_option maxHeartbeats 1000000

noncomputable section

namespace Cert.MixRun

open Cert.MixIdeal Cert.MixIdeal.Gen Idealize.ShloMosaic Idealize.ShloMosaic.TcCoe
open Idealize.SL.Sem
open Idealize.ShloMosaic.Pipeline (Dat)

variable (m : (ℓ : Loc nD τ sig) → Buf (Elt Ideal) ℓ) (c : Dev nD) (t : Fin cfg0.N)

theorem step_joined (r : Fin 512) (d : Fin 1024) :
    joinedOf (grid0.coords t) (iblk m c 1 t) (iblk m c 2 t) (iblk m c 3 t) (iblk m c 4 t) (iblk m c 9 t) (iblk m c 10 t) (iblk m c 11 t)
        (iblk m c 17 t) (iblk m c 18 t) (iblk m c 19 t) (iblk m c 20 t) (iblk m c 21 t) (iblk m c 22 t) (iblk m c 23 t) (ix2 r d)
      = Cert.MixReferenceIdeal.Read.val_main_v191 (F := Ideal) (m (c, Proc.tc.devRef main_arg1)) (m (c, Proc.tc.devRef main_arg2)) (m (c, Proc.tc.devRef main_arg3))
          (m (c, Proc.tc.devRef main_arg8)) (m (c, Proc.tc.devRef main_arg9)) (m (c, Proc.tc.devRef main_arg10))
          (ix3 (batchOf t) (rowAt t r) d) := by
  refine joined_row (grid0.coords t) (iblk m c 1 t) (iblk m c 2 t) (iblk m c 3 t) (iblk m c 4 t) (iblk m c 9 t) (iblk m c 10 t) (iblk m c 11 t)
    (iblk m c 17 t) (iblk m c 18 t) (iblk m c 19 t) (iblk m c 20 t) (iblk m c 21 t) (iblk m c 22 t) (iblk m c 23 t)
    (m (c, Proc.tc.devRef main_arg1)) (m (c, Proc.tc.devRef main_arg2)) (m (c, Proc.tc.devRef main_arg3))
    (m (c, Proc.tc.devRef main_arg8)) (m (c, Proc.tc.devRef main_arg9)) (m (c, Proc.tc.devRef main_arg10)) (batchOf t) (tileOf t) r (rowAt t r) (coord1 t) rfl
    (fun e d => (blk_1 m c t e d).trans (congrFun (V_main_arg1 m c) _))
    (fun e d => (blk_2 m c t e d).trans (congrFun (V_main_arg1 m c) _))
    (fun e d => (blk_3 m c t e d).trans (congrFun (V_main_arg1 m c) _))
    (at_inverse m c t r)
    (fun k q => (blk_9 m c t k q).trans (congrFun (V_main_arg8 m c) _))
    (at_diagonal m c t)
    (fun q => (blk_11 m c t q).trans ((congrFun (V_ps m c) _).trans (narrow_apply _ q)))
    (fun h q => at_direct m c t h r q)
    (fun _ k hk q => at_mirrored m c t k hk q)
    (fun h q => at_first m c t h q)
    (at_middle m c t) (at_flip m c t r) (at_even m c t r) (at_odd m c t r) d

theorem step_value (r : Fin 512) (d : Fin 1024) :
    out0_24 (F := Ideal) (grid0.coords t) (iblk m c 0 t) (iblk m c 1 t) (iblk m c 2 t) (iblk m c 3 t) (iblk m c 4 t) (iblk m c 5 t) (iblk m c 6 t) (iblk m c 7 t) (iblk m c 8 t)
        (iblk m c 9 t) (iblk m c 10 t) (iblk m c 11 t) (iblk m c 12 t) (iblk m c 13 t) (iblk m c 14 t) (iblk m c 15 t) (iblk m c 16 t) (iblk m c 17 t) (iblk m c 18 t)
        (iblk m c 19 t) (iblk m c 20 t) (iblk m c 21 t) (iblk m c 22 t) (iblk m c 23 t) (ix3 (0 : Fin 1) r d)
      = target m c (ix3 (batchOf t) (rowAt t r) d) := by
  refine (out_row _ _ _ _ _ _ _ _ _ _ _ _ _ _ _ _ _ _ _ _ _ _ _ _ _ r d).trans ?_
  unfold target
  rw [ref_row]
  have f0 : (fun d => (iblk m c 0 t : Vec Ideal S1x512x1024 .f32) (ix3 (0 : Fin 1) r d)) = _ := funext fun d => (blk_0 m c t r d).trans (congrFun (V_main_arg0 m c) _)
  have f5 : (fun d => (iblk m c 5 t : Vec Ideal S1x1x1024 .f32) (ix3 (0 : Fin 1) (0 : Fin 1) d)) = _ := funext fun d => (blk_5 m c t d).trans ((congrFun (V_g1 m c) _).trans (row_apply _ _ d))
  have f6 : (fun d => (iblk m c 6 t : Vec Ideal S1x1x1024 .f32) (ix3 (0 : Fin 1) (0 : Fin 1) d)) = _ := funext fun d => (blk_6 m c t d).trans ((congrFun (V_sc m c) _).trans (row_apply _ _ d))
  have f7 : (fun d => (iblk m c 7 t : Vec Ideal S1x1x1024 .f32) (ix3 (0 : Fin 1) (0 : Fin 1) d)) = _ := funext fun d => (blk_7 m c t d).trans ((congrFun (V_sh m c) _).trans (row_apply _ _ d))
  have f8 : (fun d => (iblk m c 8 t : Vec Ideal S1x1x1024 .f32) (ix3 (0 : Fin 1) (0 : Fin 1) d)) = _ := funext fun d => (blk_8 m c t d).trans ((congrFun (V_g2 m c) _).trans (row_apply _ _ d))
  have f12 : (fun k d => (iblk m c 12 t : Vec Ideal S1024x1024 .bf16) (ix2 k d)) = _ := funext fun k => funext fun d => (blk_12 m c t k d).trans (congrFun (V_wo m c) _)
  have f13 : (fun d => (iblk m c 13 t : Vec Ideal S1x1024 .f32) (ix2 (0 : Fin 1) d)) = _ := funext fun d => (blk_13 m c t d).trans ((congrFun (V_n2 m c) _).trans (wide_apply _ d))
  have f14 : (fun k j => (iblk m c 14 t : Vec Ideal S1024x4096 .bf16) (ix2 k j)) = _ := funext fun k => funext fun d => (blk_14 m c t k d).trans (congrFun (V_w1 m c) _)
  have f15 : (fun j d => (iblk m c 15 t : Vec Ideal S4096x1024 .bf16) (ix2 j d)) = _ := funext fun k => funext fun d => (blk_15 m c t k d).trans (congrFun (V_w2 m c) _)
  have f16 : (fun d => (iblk m c 16 t : Vec Ideal S1x1024 .f32) (ix2 (0 : Fin 1) d)) = _ := funext fun d => (blk_16 m c t d).trans ((congrFun (V_fg m c) _).trans (wide_apply _ d))
  have fj : (fun d => joinedOf (grid0.coords t) (iblk m c 1 t) (iblk m c 2 t) (iblk m c 3 t) (iblk m c 4 t) (iblk m c 9 t) (iblk m c 10 t) (iblk m c 11 t)
        (iblk m c 17 t) (iblk m c 18 t) (iblk m c 19 t) (iblk m c 20 t) (iblk m c 21 t) (iblk m c 22 t) (iblk m c 23 t) (ix2 r d)) = _ := funext fun d => step_joined m c t r d
  rewrite [fj, f0, f5, f6, f7, f8, f12, f13, f14, f15, f16]
  rfl

/-- The call's result. -/
theorem final : (dats m 0 c).arrAt 24 cfg0.N = target m c := by
  refine (dats m 0 c).arrAt_eq_of_covers 24 _ (by decide +kernel) fun t hf y => ?_
  blk_simp
  rw [after0_24]
  change S1x512x1024.Idx at y
  idx_vars y
  rename' y0 => a, y1 => r, y2 => d
  obtain rfl := Subsingleton.elim a (0 : Fin 1)
  refine (step_value m c t r d).trans (congrArg (target m c) ?_)
  have e := idx_24 t
  unfold batchOf rowAt
  blk_ext [e]

end Cert.MixRun

end
-- ==== Proof.MixBitsRun.lean ====
/- The tail of the layer as it is printed for words: its run, with the arguments unchanged and the counters at zero. -/
module

public import proofs.«01_k».proof.Proof.MixBitsBody
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp
public import Idealize.ShloMosaic.Lib.Pipeline.Value

@[expose] public section

-- membership in a rectangle of production extents (`View.cover_of_tiled`): the elaborator's structural look
-- recurses once per coordinate of the long axes
set_option maxRecDepth 16384

noncomputable section

namespace Cert.MixBits

open Cert.Mix Cert.Mix.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => out0_24 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)
    | ⟨_ + 25, h⟩ => absurd h (Nat.not_lt.2 (Nat.le_add_left _ _))
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = out0_24 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t))

set_option maxHeartbeats 4000000 in
/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexists _; iexact H24
  iintro ⟨H0, H1, H2, H3, H4, H5, H6, H7, H8, H9, H10, H11, H12, H13, H14, H15, H16, H17, H18, H19, H20, H21, H22, H23, H24⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  iexact H24

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  frame_of m ρ (dats m) (A_eq m) (run_main m ρ)

/-- The frame, for any float values `F`: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  θ_run_and (unchanged m ρ) ((θ_run defs _ _).mono (fun _ h => h.2) (run_main_quiescent m ρ))

end Cert.MixBits

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Mix
public import proofs.«01_k».proof.Proof.Gen.MixIdeal
public import proofs.«01_k».proof.Proof.Gen.MixIdeal.Skeleton
public import proofs.«01_k».proof.Proof.Gen.MixReferenceIdeal
public import proofs.«01_k».proof.Proof.Gen.MixReferenceIdeal.Run
public import proofs.«01_k».proof.Proof.Gen.MixReferenceIdeal.Read
public import proofs.«01_k».proof.Proof.Equal
public import proofs.«01_k».proof.Proof.MixEqual
public import proofs.«01_k».proof.Proof.MixBitsRun
public import Idealize.ShloMosaic.Adequacy
public import Idealize.ShloMosaic.Init

@[expose] public section

noncomputable section

namespace Cert.Proof

open Idealize.ShloMosaic Idealize.SL.Sem Cert.Attn

/-- The reference runs, keeps its arguments, and declares no counter. -/
theorem frame_reference : Cert.quiescent_ReferenceIdeal (hReferenceIdeal := Cert.ReferenceIdeal.Gen.facts) := by
  intro m g _
  exact (θ_run Cert.ReferenceIdeal.defs _ _).mono
    (fun r h => ⟨fun c => (h c).2.2, Idealize.ShloMosaic.sem_eq_zero_of_no_sems (by decide) r.2⟩)
    (Cert.ReferenceIdeal.Value.run (F := Ideal) m g)

theorem pre_facts : Cert.Pre_finite_scores.Facts := ⟨by decide, by decide, by decide, by decide, by decide⟩

/-- What the kernel leaves in its first result is the reference's first result. -/
theorem even_result (m : (ℓ : Loc Cert.KernelIdeal.nD Cert.KernelIdeal.τ Cert.KernelIdeal.sig) → Buf (Elt Ideal) ℓ)
    (hp : Cert.Pre_KernelIdeal_finite_scores (hPre_finite_scores := pre_facts) m) (c : Dev Cert.KernelIdeal.nD) :
    (Cert.KernelIdeal.Gen.dats m 0 c).arrAt 8 Cert.KernelIdeal.cfg0.N
      = Cert.ReferenceIdeal.Read.val_main_v26 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7)) := by
  obtain ⟨h0, h1, h2, h3, h5, h6⟩ := hp c
  rewrite [final_even, V_q, V_k, V_c, V_v, V_w]
  exact even_eq _ _ (real_of_lt _ fun i => congrFun h0 i) (real_of_lt _ fun i => congrFun h1 i)
    (real_of_lt _ fun i => congrFun h2 i) (real_of_lt _ fun i => congrFun h3 i) (real_of_lt _ fun i => congrFun h5 i)
    (real_of_lt _ fun i => congrFun h6 i)

/-- What the kernel leaves in its second result is the reference's second result. -/
theorem odd_result (m : (ℓ : Loc Cert.KernelIdeal.nD Cert.KernelIdeal.τ Cert.KernelIdeal.sig) → Buf (Elt Ideal) ℓ)
    (hp : Cert.Pre_KernelIdeal_finite_scores (hPre_finite_scores := pre_facts) m) (c : Dev Cert.KernelIdeal.nD) :
    (Cert.KernelIdeal.Gen.dats m 0 c).arrAt 9 Cert.KernelIdeal.cfg0.N
      = Cert.ReferenceIdeal.Read.val_main_v29 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7)) := by
  obtain ⟨h0, h1, h2, h3, h5, h6⟩ := hp c
  rewrite [final_odd, V_q, V_k, V_c, V_v, V_w]
  exact odd_eq _ _ (real_of_lt _ fun i => congrFun h0 i) (real_of_lt _ fun i => congrFun h1 i)
    (real_of_lt _ fun i => congrFun h2 i) (real_of_lt _ fun i => congrFun h3 i) (real_of_lt _ fun i => congrFun h5 i)
    (real_of_lt _ fun i => congrFun h6 i)

/-- The kernel's results are the reference's. -/
theorem algebraic : Cert.algebraic_KernelIdeal_ReferenceIdeal_pre_finite_scores (hKernelIdeal := Cert.KernelIdeal.Gen.facts)
    (hReferenceIdeal := Cert.ReferenceIdeal.Gen.facts) (hPre_finite_scores := pre_facts) := by
  intro m g m' g' hp ha
  refine ⟨fun c => (Cert.KernelIdeal.Gen.dats m 0 c).arrAt 8 Cert.KernelIdeal.cfg0.N,
    fun c => (Cert.KernelIdeal.Gen.dats m 0 c).arrAt 9 Cert.KernelIdeal.cfg0.N,
    Cert.KernelIdeal.Value.run_blocks (F := Ideal) m g, ?_⟩
  refine (θ_run Cert.ReferenceIdeal.defs _ _).mono (fun r h c => ?_) (Cert.ReferenceIdeal.Value.run (F := Ideal) m' g')
  obtain ⟨e0, e1, e2, e3, e4, e5, e6, e7⟩ := ha c
  refine ⟨(h c).1.trans ?_, (h c).2.1.trans ?_, (h c).2.2⟩
  · refine Eq.trans ?_ (even_result m hp c).symm
    rewrite [Cert.ReferenceIdeal.Read.val_main_v26_eq, e0, e1, e2, e3, e4, e5, e6, e7]
    with_reducible rfl
  · refine Eq.trans ?_ (odd_result m hp c).symm
    rewrite [Cert.ReferenceIdeal.Read.val_main_v29_eq, e0, e1, e2, e3, e4, e5, e6, e7]
    with_reducible rfl

/-- The tail's program runs, keeps its arguments, and leaves its counters at zero. -/
theorem frame_mix : Cert.quiescent_Mix (hMix := Cert.Mix.Gen.facts) := fun m g _ => Cert.MixBits.frame m g

/-- The tail's reference runs, keeps its arguments, and declares no counter. -/
theorem frame_mix_reference : Cert.quiescent_MixReferenceIdeal (hMixReferenceIdeal := Cert.MixReferenceIdeal.Gen.facts) := by
  intro m g _
  exact (θ_run Cert.MixReferenceIdeal.defs _ _).mono
    (fun r h => ⟨fun c => (h c).2, Idealize.ShloMosaic.sem_eq_zero_of_no_sems (by decide) r.2⟩)
    (Cert.MixReferenceIdeal.Value.run (F := Ideal) m g)

/-- The tail's result is its reference's. -/
theorem algebraic_mix : Cert.algebraic_MixIdeal_MixReferenceIdeal (hMixIdeal := Cert.MixIdeal.Gen.facts)
    (hMixReferenceIdeal := Cert.MixReferenceIdeal.Gen.facts) := by
  intro m g m' g' _ ha
  refine ⟨fun c => (Cert.MixRun.dats m 0 c).arrAt 24 Cert.MixIdeal.cfg0.N, Cert.MixRun.run_blocks (F := Ideal) m g, ?_⟩
  refine (θ_run Cert.MixReferenceIdeal.defs _ _).mono (fun r h c => ?_) (Cert.MixReferenceIdeal.Value.run (F := Ideal) m' g')
  obtain ⟨e0, e1, e2, e3, e4, e5, e6, e7, e8, e9, e10, e11, e12, e13, e14, e15⟩ := ha c
  refine ⟨(h c).1.trans ?_, (h c).2⟩
  refine Eq.trans ?_ (Cert.MixRun.final m c).symm
  unfold Cert.MixRun.target
  have a0 : StableHlo.launchContents m' c (Proc.tc.devRef Cert.MixReferenceIdeal.main_arg0)
      = m (c, Proc.tc.devRef Cert.MixIdeal.main_arg0) := e0
  have a1 : StableHlo.launchContents m' c (Proc.tc.devRef Cert.MixReferenceIdeal.main_arg1)
      = m (c, Proc.tc.devRef Cert.MixIdeal.main_arg1) := e1
  have a2 : StableHlo.launchContents m' c (Proc.tc.devRef Cert.MixReferenceIdeal.main_arg2)
      = m (c, Proc.tc.devRef Cert.MixIdeal.main_arg2) := e2
  have a3 : StableHlo.launchContents m' c (Proc.tc.devRef Cert.MixReferenceIdeal.main_arg3)
      = m (c, Proc.tc.devRef Cert.MixIdeal.main_arg3) := e3
  have a4 : StableHlo.launchContents m' c (Proc.tc.devRef Cert.MixReferenceIdeal.main_arg4)
      = m (c, Proc.tc.devRef Cert.MixIdeal.main_arg4) := e4
  have a5 : StableHlo.launchContents m' c (Proc.tc.devRef Cert.MixReferenceIdeal.main_arg5)
      = m (c, Proc.tc.devRef Cert.MixIdeal.main_arg5) := e5
  have a6 : StableHlo.launchContents m' c (Proc.tc.devRef Cert.MixReferenceIdeal.main_arg6)
      = m (c, Proc.tc.devRef Cert.MixIdeal.main_arg6) := e6
  have a7 : StableHlo.launchContents m' c (Proc.tc.devRef Cert.MixReferenceIdeal.main_arg7)
      = m (c, Proc.tc.devRef Cert.MixIdeal.main_arg7) := e7
  have a8 : StableHlo.launchContents m' c (Proc.tc.devRef Cert.MixReferenceIdeal.main_arg8)
      = m (c, Proc.tc.devRef Cert.MixIdeal.main_arg8) := e8
  have a9 : StableHlo.launchContents m' c (Proc.tc.devRef Cert.MixReferenceIdeal.main_arg9)
      = m (c, Proc.tc.devRef Cert.MixIdeal.main_arg9) := e9
  have a10 : StableHlo.launchContents m' c (Proc.tc.devRef Cert.MixReferenceIdeal.main_arg10)
      = m (c, Proc.tc.devRef Cert.MixIdeal.main_arg10) := e10
  have a11 : StableHlo.launchContents m' c (Proc.tc.devRef Cert.MixReferenceIdeal.main_arg11)
      = m (c, Proc.tc.devRef Cert.MixIdeal.main_arg11) := e11
  have a12 : StableHlo.launchContents m' c (Proc.tc.devRef Cert.MixReferenceIdeal.main_arg12)
      = m (c, Proc.tc.devRef Cert.MixIdeal.main_arg12) := e12
  have a13 : StableHlo.launchContents m' c (Proc.tc.devRef Cert.MixReferenceIdeal.main_arg13)
      = m (c, Proc.tc.devRef Cert.MixIdeal.main_arg13) := e13
  have a14 : StableHlo.launchContents m' c (Proc.tc.devRef Cert.MixReferenceIdeal.main_arg14)
      = m (c, Proc.tc.devRef Cert.MixIdeal.main_arg14) := e14
  have a15 : StableHlo.launchContents m' c (Proc.tc.devRef Cert.MixReferenceIdeal.main_arg15)
      = m (c, Proc.tc.devRef Cert.MixIdeal.main_arg15) := e15
  rewrite [Cert.MixReferenceIdeal.Read.val_main_v238_eq, a0, a1, a2, a3, a4, a5, a6, a7, a8, a9, a10, a11, a12, a13, a14, a15]
  with_reducible rfl

theorem claim : Cert.Claim := ⟨Cert.Kernel.Gen.facts, Cert.KernelIdeal.Gen.facts, Cert.ReferenceIdeal.Gen.facts,
  Cert.Mix.Gen.facts, Cert.MixIdeal.Gen.facts, Cert.MixReferenceIdeal.Gen.facts, pre_facts,
  fun m g _ => Cert.Kernel.Gen.frame m g, fun m g _ => Cert.KernelIdeal.Gen.frame m g,
  fun m g _ => Cert.KernelIdeal.Gen.frame m g, frame_reference, fun m g _ => frame_reference m g trivial,
  frame_mix, fun m g _ => Cert.MixRun.frame m g, frame_mix_reference,
  trivial, algebraic, trivial, algebraic_mix⟩

end Cert.Proof

end
